-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)) (v4 : (c : Dev Cert.KernelIdeal.nD) → Buf (Elt Ideal) ((c.tc : Thread Cert.KernelIdeal.nD Cert.KernelIdeal.τ).loc Cert.KernelIdeal.main_v33_4)) (v5 : (c : Dev Cert.KernelIdeal.nD) → Buf (Elt Ideal) ((c.tc : Thread Cert.KernelIdeal.nD Cert.KernelIdeal.τ).loc Cert.KernelIdeal.main_v33_5)) (v6 : (c : Dev Cert.KernelIdeal.nD) → Buf (Elt Ideal) ((c.tc : Thread Cert.KernelIdeal.nD Cert.KernelIdeal.τ).loc Cert.KernelIdeal.main_v33_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_v33_4) = v4 c
          ∧ r.2.mem ((c.tc : Thread Cert.KernelIdeal.nD Cert.KernelIdeal.τ).loc Cert.KernelIdeal.main_v33_5) = v5 c
          ∧ r.2.mem ((c.tc : Thread Cert.KernelIdeal.nD Cert.KernelIdeal.τ).loc Cert.KernelIdeal.main_v33_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_v189) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_v208) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)) (v6 : (c : Dev Cert.Kernel2Ideal.nD) → Buf (Elt Ideal) ((c.tc : Thread Cert.Kernel2Ideal.nD Cert.Kernel2Ideal.τ).loc Cert.Kernel2Ideal.main_v4_6)) (v7 : (c : Dev Cert.Kernel2Ideal.nD) → Buf (Elt Ideal) ((c.tc : Thread Cert.Kernel2Ideal.nD Cert.Kernel2Ideal.τ).loc Cert.Kernel2Ideal.main_v4_7)) (v8 : (c : Dev Cert.Kernel2Ideal.nD) → Buf (Elt Ideal) ((c.tc : Thread Cert.Kernel2Ideal.nD Cert.Kernel2Ideal.τ).loc Cert.Kernel2Ideal.main_v4_8)) (v9 : (c : Dev Cert.Kernel2Ideal.nD) → Buf (Elt Ideal) ((c.tc : Thread Cert.Kernel2Ideal.nD Cert.Kernel2Ideal.τ).loc Cert.Kernel2Ideal.main_v4_9)) (v10 : (c : Dev Cert.Kernel2Ideal.nD) → Buf (Elt Ideal) ((c.tc : Thread Cert.Kernel2Ideal.nD Cert.Kernel2Ideal.τ).loc Cert.Kernel2Ideal.main_v4_10)) (v11 : (c : Dev Cert.Kernel2Ideal.nD) → Buf (Elt Ideal) ((c.tc : Thread Cert.Kernel2Ideal.nD Cert.Kernel2Ideal.τ).loc Cert.Kernel2Ideal.main_v4_11)) (v12 : (c : Dev Cert.Kernel2Ideal.nD) → Buf (Elt Ideal) ((c.tc : Thread Cert.Kernel2Ideal.nD Cert.Kernel2Ideal.τ).loc Cert.Kernel2Ideal.main_v4_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_v4_6) = v6 c
          ∧ r.2.mem ((c.tc : Thread Cert.Kernel2Ideal.nD Cert.Kernel2Ideal.τ).loc Cert.Kernel2Ideal.main_v4_7) = v7 c
          ∧ r.2.mem ((c.tc : Thread Cert.Kernel2Ideal.nD Cert.Kernel2Ideal.τ).loc Cert.Kernel2Ideal.main_v4_8) = v8 c
          ∧ r.2.mem ((c.tc : Thread Cert.Kernel2Ideal.nD Cert.Kernel2Ideal.τ).loc Cert.Kernel2Ideal.main_v4_9) = v9 c
          ∧ r.2.mem ((c.tc : Thread Cert.Kernel2Ideal.nD Cert.Kernel2Ideal.τ).loc Cert.Kernel2Ideal.main_v4_10) = v10 c
          ∧ r.2.mem ((c.tc : Thread Cert.Kernel2Ideal.nD Cert.Kernel2Ideal.τ).loc Cert.Kernel2Ideal.main_v4_11) = v11 c
          ∧ r.2.mem ((c.tc : Thread Cert.Kernel2Ideal.nD Cert.Kernel2Ideal.τ).loc Cert.Kernel2Ideal.main_v4_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v126) = v0 c
          ∧ r.2.mem ((c.tc : Thread Cert.Reference2Ideal.nD Cert.Reference2Ideal.τ).loc Cert.Reference2Ideal.main_v127) = v1 c
          ∧ r.2.mem ((c.tc : Thread Cert.Reference2Ideal.nD Cert.Reference2Ideal.τ).loc Cert.Reference2Ideal.main_v128) = v2 c
          ∧ r.2.mem ((c.tc : Thread Cert.Reference2Ideal.nD Cert.Reference2Ideal.τ).loc Cert.Reference2Ideal.main_v129) = v3 c
          ∧ r.2.mem ((c.tc : Thread Cert.Reference2Ideal.nD Cert.Reference2Ideal.τ).loc Cert.Reference2Ideal.main_v130) = v4 c
          ∧ r.2.mem ((c.tc : Thread Cert.Reference2Ideal.nD Cert.Reference2Ideal.τ).loc Cert.Reference2Ideal.main_v131) = v5 c
          ∧ r.2.mem ((c.tc : Thread Cert.Reference2Ideal.nD Cert.Reference2Ideal.τ).loc Cert.Reference2Ideal.main_v132) = v6 c
          ∧ r.2.mem ((c.tc : Thread Cert.Reference2Ideal.nD Cert.Reference2Ideal.τ).loc Cert.Reference2Ideal.main_v133) = v7 c
          ∧ r.2.mem ((c.tc : Thread Cert.Reference2Ideal.nD Cert.Reference2Ideal.τ).loc Cert.Reference2Ideal.main_v134) = v8 c
          ∧ r.2.mem ((c.tc : Thread Cert.Reference2Ideal.nD Cert.Reference2Ideal.τ).loc Cert.Reference2Ideal.main_v135) = v9 c
          ∧ r.2.mem ((c.tc : Thread Cert.Reference2Ideal.nD Cert.Reference2Ideal.τ).loc Cert.Reference2Ideal.main_v109) = v10 c
          ∧ r.2.mem ((c.tc : Thread Cert.Reference2Ideal.nD Cert.Reference2Ideal.τ).loc Cert.Reference2Ideal.main_v84) = v11 c
          ∧ r.2.mem ((c.tc : Thread Cert.Reference2Ideal.nD Cert.Reference2Ideal.τ).loc Cert.Reference2Ideal.main_v79) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x1024 : Shape := ⟨2, ![8192, 1024]⟩
abbrev S1x1024 : Shape := ⟨2, ![1, 1024]⟩
abbrev S1024x2560 : Shape := ⟨2, ![1024, 2560]⟩
abbrev S1x128 : Shape := ⟨2, ![1, 128]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S1x128 : S_.BroadcastsInDim S1x128 (![] : Fin 0 → Fin S1x128.rank)
  reducesTo_S1x128_S_d0_1 : S1x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part3 {F : FTy → Type} [FloatOps F] (main_arg11 : FVec F S8192x512 .f32) (main_v49 : IVec S_ 1) (main_v50 : FVec F S8192x512 .f32) : IVec S_ 1 :=
  let main_cst_19 : FVec F S_ .f32 := constant S_ .f32 0x7F800000#32
  let main_v51 : FVec F S8192x512 .f32 := broadcastInDim S8192x512 ![] bcast_S_S8192x512 main_cst_19
  let main_v52 : IVec S8192x512 1 := cmpf .olt main_v50 main_v51
  let main_c_20 : IVec S_ 1 := constantI S_ 1 1#1
  let main_v53 : IVec S_ 1 := (fun x v => Host.reduce IntOp.andi x v reducesTo_S8192x512_S_d0_1 h_S_) main_v52 main_c_20
  let main_v54 : IVec S_ 1 := andi main_v49 main_v53
  let main_v55 : FVec F S8192x512 .f32 := Host.absf main_arg11
  let main_cst_21 : FVec F S_ .f32 := constant S_ .f32 0x7F800000#32
  let main_v56 : FVec F S8192x512 .f32 := broadcastInDim S8192x512 ![] bcast_S_S8192x512 main_cst_21
  let main_v57 : IVec S8192x512 1 := cmpf .olt main_v55 main_v56
  let main_c_22 : IVec S_ 1 := constantI S_ 1 1#1
  let main_v58 : IVec S_ 1 := (fun x v => Host.reduce IntOp.andi x v reducesTo_S8192x512_S_d0_1 h_S_) main_v57 main_c_22
  let main_v59 : IVec S_ 1 := andi main_v54 main_v58
  main_v59

def fn_part2 {F : FTy → Type} [FloatOps F] (main_arg7 : FVec F S8192x1024 .f32) (main_arg8 : FVec F S8192x512 .f32) (main_arg9 : FVec F S8192x512 .f32) (main_arg10 : FVec F S8192x512 .f32) (main_arg11 : FVec F S8192x512 .f32) (main_v29 : IVec S_ 1) (main_v32 : IVec S4x128 1) (main_c_12 : IVec S_ 1) : IVec S_ 1 :=
  let main_v33 : IVec S_ 1 := (fun x v => Host.reduce IntOp.andi x v reducesTo_S4x128_S_d0_1 h_S_) main_v32 main_c_12
  let main_v34 : IVec S_ 1 := andi main_v29 main_v33
  let main_v35 : FVec F S8192x1024 .f32 := Host.absf main_arg7
  let main_cst_13 : FVec F S_ .f32 := constant S_ .f32 0x7F800000#32
  let main_v36 : FVec F S8192x1024 .f32 := broadcastInDim S8192x1024 ![] bcast_S_S8192x1024 main_cst_13
  let main_v37 : IVec S8192x1024 1 := cmpf .olt main_v35 main_v36
  let main_c_14 : IVec S_ 1 := constantI S_ 1 1#1
  let main_v38 : IVec S_ 1 := (fun x v => Host.reduce IntOp.andi x v reducesTo_S8192x1024_S_d0_1 h_S_) main_v37 main_c_14
  let main_v39 : IVec S_ 1 := andi main_v34 main_v38
  let main_v40 : FVec F S8192x512 .f32 := Host.absf main_arg8
  let main_cst_15 : FVec F S_ .f32 := constant S_ .f32 0x7F800000#32
  let main_v41 : FVec F S8192x512 .f32 := broadcastInDim S8192x512 ![] bcast_S_S8192x512 main_cst_15
  let main_v42 : IVec S8192x512 1 := cmpf .olt main_v40 main_v41
  let main_c_16 : IVec S_ 1 := constantI S_ 1 1#1
  let main_v43 : IVec S_ 1 := (fun x v => Host.reduce IntOp.andi x v reducesTo_S8192x512_S_d0_1 h_S_) main_v42 main_c_16
  let main_v44 : IVec S_ 1 := andi main_v39 main_v43
  let main_v45 : FVec F S8192x512 .f32 := Host.absf main_arg9
  let main_cst_17 : FVec F S_ .f32 := constant S_ .f32 0x7F800000#32
  let main_v46 : FVec F S8192x512 .f32 := broadcastInDim S8192x512 ![] bcast_S_S8192x512 main_cst_17
  let main_v47 : IVec S8192x512 1 := cmpf .olt main_v45 main_v46
  let main_c_18 : IVec S_ 1 := constantI S_ 1 1#1
  let main_v48 : IVec S_ 1 := (fun x v => Host.reduce IntOp.andi x v reducesTo_S8192x512_S_d0_1 h_S_) main_v47 main_c_18
  let main_v49 : IVec S_ 1 := andi main_v44 main_v48
  let main_v50 : FVec F S8192x512 .f32 := Host.absf main_arg10
  fn_part3 (F := F) main_arg11 main_v49 main_v50

def fn_part1 {F : FTy → Type} [FloatOps F] (main_arg4 : FVec F S1x128 .f32) (main_arg5 : FVec F S4x128x128 .f32) (main_arg6 : FVec F S4x128 .f32) (main_arg7 : FVec F S8192x1024 .f32) (main_arg8 : FVec F S8192x512 .f32) (main_arg9 : FVec F S8192x512 .f32) (main_arg10 : FVec F S8192x512 .f32) (main_arg11 : FVec F S8192x512 .f32) (main_v14 : IVec S_ 1) (main_v15 : FVec F S1x128 .f32) (main_cst_5 : FVec F S_ .f32) : IVec S_ 1 :=
  let main_v16 : FVec F S1x128 .f32 := broadcastInDim S1x128 ![] bcast_S_S1x128 main_cst_5
  let main_v17 : IVec S1x128 1 := cmpf .olt main_v15 main_v16
  let main_c_6 : IVec S_ 1 := constantI S_ 1 1#1
  let main_v18 : IVec S_ 1 := (fun x v => Host.reduce IntOp.andi x v reducesTo_S1x128_S_d0_1 h_S_) main_v17 main_c_6
  let main_v19 : IVec S_ 1 := andi main_v14 main_v18
  let main_v20 : FVec F S1x128 .f32 := Host.absf main_arg4
  let main_cst_7 : FVec F S_ .f32 := constant S_ .f32 0x7F800000#32
  let main_v21 : FVec F S1x128 .f32 := broadcastInDim S1x128 ![] bcast_S_S1x128 main_cst_7
  let main_v22 : IVec S1x128 1 := cmpf .olt main_v20 main_v21
  let main_c_8 : IVec S_ 1 := constantI S_ 1 1#1
  let main_v23 : IVec S_ 1 := (fun x v => Host.reduce IntOp.andi x v reducesTo_S1x128_S_d0_1 h_S_) main_v22 main_c_8
  let main_v24 : IVec S_ 1 := andi main_v19 main_v23
  let main_v25 : FVec F S4x128x128 .f32 := Host.absf main_arg5
  let main_cst_9 : FVec F S_ .f32 := constant S_ .f32 0x7F800000#32
  let main_v26 : FVec F S4x128x128 .f32 := broadcastInDim S4x128x128 ![] bcast_S_S4x128x128 main_cst_9
  let main_v27 : IVec S4x128x128 1 := cmpf .olt main_v25 main_v26
  let main_c_10 : IVec S_ 1 := constantI S_ 1 1#1
  let main_v28 : IVec S_ 1 := (fun x v => Host.reduce IntOp.andi x v reducesTo_S4x128x128_S_d0_1_2 h_S_) main_v27 main_c_10
  let main_v29 : IVec S_ 1 := andi main_v24 main_v28
  let main_v30 : FVec F S4x128 .f32 := Host.absf main_arg6
  let main_cst_11 : FVec F S_ .f32 := constant S_ .f32 0x7F800000#32
  let main_v31 : FVec F S4x128 .f32 := broadcastInDim S4x128 ![] bcast_S_S4x128 main_cst_11
  let main_v32 : IVec S4x128 1 := cmpf .olt main_v30 main_v31
  let main_c_12 : IVec S_ 1 := constantI S_ 1 1#1
  fn_part2 (F := F) main_arg7 main_arg8 main_arg9 main_arg10 main_arg11 main_v29 main_v32 main_c_12

def fn {F : FTy → Type} [FloatOps F] (main_arg0 : FVec F S8192x1024 .f32) (main_arg1 : FVec F S1x1024 .f32) (main_arg2 : FVec F S1024x2560 .f32) (main_arg3 : FVec F S1x128 .f32) (main_arg4 : FVec F S1x128 .f32) (main_arg5 : FVec F S4x128x128 .f32) (main_arg6 : FVec F S4x128 .f32) (main_arg7 : FVec F S8192x1024 .f32) (main_arg8 : FVec F S8192x512 .f32) (main_arg9 : FVec F S8192x512 .f32) (main_arg10 : FVec F S8192x512 .f32) (main_arg11 : FVec F S8192x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1024x2560 .f32 := Host.absf main_arg2
  let main_cst_3 : FVec F S_ .f32 := constant S_ .f32 0x7F800000#32
  let main_v11 : FVec F S1024x2560 .f32 := broadcastInDim S1024x2560 ![] bcast_S_S1024x2560 main_cst_3
  let main_v12 : IVec S1024x2560 1 := cmpf .olt main_v10 main_v11
  let main_c_4 : IVec S_ 1 := constantI S_ 1 1#1
  let main_v13 : IVec S_ 1 := (fun x v => Host.reduce IntOp.andi x v reducesTo_S1024x2560_S_d0_1 h_S_) main_v12 main_c_4
  let main_v14 : IVec S_ 1 := andi main_v9 main_v13
  let main_v15 : FVec F S1x128 .f32 := Host.absf main_arg3
  let main_cst_5 : FVec F S_ .f32 := constant S_ .f32 0x7F800000#32
  fn_part1 (F := F) main_arg4 main_arg5 main_arg6 main_arg7 main_arg8 main_arg9 main_arg10 main_arg11 main_v14 main_v15 main_cst_5
-- ==== Pre_finite2.lean ====
abbrev S8192x1024 : Shape := ⟨2, ![8192, 1024]⟩
abbrev S8192x256 : Shape := ⟨2, ![8192, 256]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S2816x1024 .f32) (main_arg8 : FVec F S1024x1024 .f32) (main_arg9 : FVec F S256x1024 .f32) (main_v29 : IVec S_ 1) (main_v32 : IVec S1024x5632 1) (main_c_12 : IVec S_ 1) : IVec S_ 1 :=
  let main_v33 : IVec S_ 1 := (fun x v => Host.reduce IntOp.andi x v reducesTo_S1024x5632_S_d0_1 h_S_) main_v32 main_c_12
  let main_v34 : IVec S_ 1 := andi main_v29 main_v33
  let main_v35 : FVec F S2816x1024 .f32 := Host.absf main_arg7
  let main_cst_13 : FVec F S_ .f32 := constant S_ .f32 0x7F800000#32
  let main_v36 : FVec F S2816x1024 .f32 := broadcastInDim S2816x1024 ![] bcast_S_S2816x1024 main_cst_13
  let main_v37 : IVec S2816x1024 1 := cmpf .olt main_v35 main_v36
  let main_c_14 : IVec S_ 1 := constantI S_ 1 1#1
  let main_v38 : IVec S_ 1 := (fun x v => Host.reduce IntOp.andi x v reducesTo_S2816x1024_S_d0_1 h_S_) main_v37 main_c_14
  let main_v39 : IVec S_ 1 := andi main_v34 main_v38
  let main_v40 : FVec F S1024x1024 .f32 := Host.absf main_arg8
  let main_cst_15 : FVec F S_ .f32 := constant S_ .f32 0x7F800000#32
  let main_v41 : FVec F S1024x1024 .f32 := broadcastInDim S1024x1024 ![] bcast_S_S1024x1024 main_cst_15
  let main_v42 : IVec S1024x1024 1 := cmpf .olt main_v40 main_v41
  let main_c_16 : IVec S_ 1 := constantI S_ 1 1#1
  let main_v43 : IVec S_ 1 := (fun x v => Host.reduce IntOp.andi x v reducesTo_S1024x1024_S_d0_1 h_S_) main_v42 main_c_16
  let main_v44 : IVec S_ 1 := andi main_v39 main_v43
  let main_v45 : FVec F S256x1024 .f32 := Host.absf main_arg9
  let main_cst_17 : FVec F S_ .f32 := constant S_ .f32 0x7F800000#32
  let main_v46 : FVec F S256x1024 .f32 := broadcastInDim S256x1024 ![] bcast_S_S256x1024 main_cst_17
  let main_v47 : IVec S256x1024 1 := cmpf .olt main_v45 main_v46
  let main_c_18 : IVec S_ 1 := constantI S_ 1 1#1
  let main_v48 : IVec S_ 1 := (fun x v => Host.reduce IntOp.andi x v reducesTo_S256x1024_S_d0_1 h_S_) main_v47 main_c_18
  let main_v49 : IVec S_ 1 := andi main_v44 main_v48
  main_v49

def fn_part1 {F : FTy → Type} [FloatOps F] (main_arg4 : FVec F S1x1024 .f32) (main_arg5 : FVec F S1x1024 .f32) (main_arg6 : FVec F S1024x5632 .f32) (main_arg7 : FVec F S2816x1024 .f32) (main_arg8 : FVec F S1024x1024 .f32) (main_arg9 : FVec F S256x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1024x5632 .f32 := Host.absf main_arg6
  let main_cst_11 : FVec F S_ .f32 := constant S_ .f32 0x7F800000#32
  let main_v31 : FVec F S1024x5632 .f32 := broadcastInDim S1024x5632 ![] bcast_S_S1024x5632 main_cst_11
  let main_v32 : IVec S1024x5632 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S8192x1024 .f32) (main_arg1 : FVec F S8192x256 .f32) (main_arg2 : FVec F S8192x1024 .f32) (main_arg3 : FVec F S1x1024 .f32) (main_arg4 : FVec F S1x1024 .f32) (main_arg5 : FVec F S1x1024 .f32) (main_arg6 : FVec F S1024x5632 .f32) (main_arg7 : FVec F S2816x1024 .f32) (main_arg8 : FVec F S1024x1024 .f32) (main_arg9 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x256 .f32 := Host.absf main_arg1
  let main_cst_1 : FVec F S_ .f32 := constant S_ .f32 0x7F800000#32
  let main_v6 : FVec F S8192x256 .f32 := broadcastInDim S8192x256 ![] bcast_S_S8192x256 main_cst_1
  let main_v7 : IVec S8192x256 1 := cmpf .olt main_v5 main_v6
  let main_c_2 : IVec S_ 1 := constantI S_ 1 1#1
  let main_v8 : IVec S_ 1 := (fun x v => Host.reduce IntOp.andi x v reducesTo_S8192x256_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Kernel.lean ====
abbrev S8192x1024 : Shape := ⟨2, ![8192, 1024]⟩
abbrev S1x1024 : Shape := ⟨2, ![1, 1024]⟩
abbrev S1024x2560 : Shape := ⟨2, ![1024, 2560]⟩
abbrev S1x128 : Shape := ⟨2, ![1, 128]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S8192x4x128 : Shape := ⟨3, ![8192, 4, 128]⟩
abbrev S4x8192x128 : Shape := ⟨3, ![4, 8192, 128]⟩
abbrev S4x8704x128 : Shape := ⟨3, ![4, 8704, 128]⟩
abbrev S4x512x128 : Shape := ⟨3, ![4, 512, 128]⟩
abbrev S512x1024 : Shape := ⟨2, ![512, 1024]⟩
abbrev S512x512 : Shape := ⟨2, ![512, 512]⟩
abbrev S512x2560 : Shape := ⟨2, ![512, 2560]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128 : Shape := ⟨1, ![128]⟩
abbrev S128x1 : Shape := ⟨2, ![128, 1]⟩
abbrev S1024 : Shape := ⟨1, ![1024]⟩

abbrev nBuf : Space → Nat
  | .hbm => 66
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S1x128, .f32⟩
  | .hbm, ⟨4, _⟩ => ⟨S1x128, .f32⟩
  | .hbm, ⟨5, _⟩ => ⟨S4x128x128, .f32⟩
  | .hbm, ⟨6, _⟩ => ⟨S4x128, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2560, .f32⟩
  | .hbm, ⟨28, _⟩ => ⟨S8192x1024, .f32⟩
  | .hbm, ⟨29, _⟩ => ⟨S_, .f32⟩
  | .hbm, ⟨30, _⟩ => ⟨S128x128, .f32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128, .i1⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S1x128x128, .f32⟩
  | .hbm, ⟨41, _⟩ => ⟨S4x128x128, .f32⟩
  | .hbm, ⟨42, _⟩ => ⟨S4x128x128, .f32⟩
  | .hbm, ⟨43, _⟩ => ⟨S4x128x128, .bf16⟩
  | .hbm, ⟨44, _⟩ => ⟨S4x128x128, .f32⟩
  | .hbm, ⟨45, _⟩ => ⟨S4x128x128, .bf16⟩
  | .hbm, ⟨46, _⟩ => ⟨S128x4, .f32⟩
  | .hbm, ⟨47, _⟩ => ⟨S128x4x128, .f32⟩
  | .hbm, ⟨48, _⟩ => ⟨S128x512, .f32⟩
  | .hbm, ⟨49, _⟩ => ⟨S8192x4x128, .f32⟩
  | .hbm, ⟨50, _⟩ => ⟨S4x8192x128, .f32⟩
  | .hbm, ⟨51, _⟩ => ⟨S_, .i32⟩
  | .hbm, ⟨52, _⟩ => ⟨S_, .f32⟩
  | .hbm, ⟨53, _⟩ => ⟨S4x8704x128, .f32⟩
  | .hbm, ⟨54, _⟩ => ⟨S8192x4x128, .f32⟩
  | .hbm, ⟨55, _⟩ => ⟨S4x8192x128, .f32⟩
  | .hbm, ⟨56, _⟩ => ⟨S8192x4x128, .f32⟩
  | .hbm, ⟨57, _⟩ => ⟨S4x8192x128, .f32⟩
  | .hbm, ⟨58, _⟩ => ⟨S1024x2560, .bf16⟩
  | .hbm, ⟨59, _⟩ => ⟨S8192x1024, .f32⟩
  | .hbm, ⟨60, _⟩ => ⟨S8192x2560, .bf16⟩
  | .hbm, ⟨61, _⟩ => ⟨S1x1024, .f32⟩
  | .hbm, ⟨62, _⟩ => ⟨S1x128, .f32⟩
  | .hbm, ⟨63, _⟩ => ⟨S1x128, .f32⟩
  | .hbm, ⟨64, _⟩ => ⟨S4x128x128, .f32⟩
  | .hbm, ⟨65, _⟩ => ⟨S128x128, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x128, .f32⟩
  | .local _ .vmem, ⟨16, _⟩ => ⟨S1x128, .f32⟩
  | .local _ .vmem, ⟨17, _⟩ => ⟨S4x128x128, .bf16⟩
  | .local _ .vmem, ⟨18, _⟩ => ⟨S4x128x128, .bf16⟩
  | .local _ .vmem, ⟨19, _⟩ => ⟨S128x512, .f32⟩
  | .local _ .vmem, ⟨20, _⟩ => ⟨S1024x2560, .bf16⟩
  | .local _ .vmem, ⟨21, _⟩ => ⟨S512x1024, .f32⟩
  | .local _ .vmem, ⟨22, _⟩ => ⟨S512x1024, .f32⟩
  | .local _ .vmem, ⟨23, _⟩ => ⟨S512x2560, .bf16⟩
  | .local _ .vmem, ⟨24, _⟩ => ⟨S512x2560, .bf16⟩
  | .local _ .vmem, ⟨25, _⟩ => ⟨S1x1024, .f32⟩
  | .local _ .vmem, ⟨26, _⟩ => ⟨S1x128, .f32⟩
  | .local _ .vmem, ⟨27, _⟩ => ⟨S1x128, .f32⟩
  | .local _ .vmem, ⟨28, _⟩ => ⟨S4x128x128, .f32⟩
  | .local _ .vmem, ⟨29, _⟩ => ⟨S128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_cst : Ref sig .tc := ⟨.hbm, 37, rfl⟩
abbrev main_call0_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v33_2 : Ref sig .tc := ⟨.hbm, 61, rfl⟩
abbrev main_v33_3 : Ref sig .tc := ⟨.hbm, 62, rfl⟩
abbrev main_v33_4 : Ref sig .tc := ⟨.hbm, 63, rfl⟩
abbrev main_v33_5 : Ref sig .tc := ⟨.hbm, 64, rfl⟩
abbrev main_v33_6 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2560 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2560 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S8192x1024 : Shape := ⟨2, ![8192, 1024]⟩
abbrev S1x1024 : Shape := ⟨2, ![1, 1024]⟩
abbrev S1024x2560 : Shape := ⟨2, ![1024, 2560]⟩
abbrev S1x128 : Shape := ⟨2, ![1, 128]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S128 : Shape := ⟨1, ![128]⟩
abbrev S1024 : Shape := ⟨1, ![1024]⟩

abbrev nBuf : Space → Nat
  | .hbm => 281
  | .vmem => 0
  | .smem => 0
  | _ => 0

abbrev hbmTy0_0 (i : Nat) : BufTy := match i % 128 with
  | 0 => ⟨S8192x1024, .f32⟩
  | 1 => ⟨S1x1024, .f32⟩
  | 2 => ⟨S1024x2560, .f32⟩
  | 3 => ⟨S1x128, .f32⟩
  | 4 => ⟨S1x128, .f32⟩
  | 5 => ⟨S4x128x128, .f32⟩
  | 6 => ⟨S4x128, .f32⟩
  | 7 => ⟨S8192x1024, .f32⟩
  | 8 => ⟨S8192x512, .f32⟩
  | 9 => ⟨S8192x512, .f32⟩
  | 10 => ⟨S8192x512, .f32⟩
  | 11 => ⟨S8192x512, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S8192x1024, .f32⟩
  | 31 => ⟨S8192x2560, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S_, .f32⟩
  | 38 => ⟨S_, .f32⟩
  | 39 => ⟨S_, .f32⟩
  | 40 => ⟨S8192x512, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x512, .f32⟩
  | 67 => ⟨S8192x4x128, .f32⟩
  | 68 => ⟨S_, .f32⟩
  | 69 => ⟨S_, .f32⟩
  | 70 => ⟨S_, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S8192x4x128, .f32⟩
  | 99 => ⟨S_, .f32⟩
  | 100 => ⟨S8192x4, .f32⟩
  | 101 => ⟨S8192x4x1, .f32⟩
  | 102 => ⟨S_, .f32⟩
  | 103 => ⟨S8192x4x1, .f32⟩
  | 104 => ⟨S8192x4x1, .f32⟩
  | 105 => ⟨S8192x4x128, .f32⟩
  | 106 => ⟨S8192x4x128, .f32⟩
  | 107 => ⟨S8192x4x128, .f32⟩
  | 108 => ⟨S_, .f32⟩
  | 109 => ⟨S8192x4, .f32⟩
  | 110 => ⟨S8192x4x1, .f32⟩
  | 111 => ⟨S_, .f32⟩
  | 112 => ⟨S8192x4x1, .f32⟩
  | 113 => ⟨S8192x4x1, .f32⟩
  | 114 => ⟨S_, .f32⟩
  | 115 => ⟨S8192x4x1, .f32⟩
  | 116 => ⟨S8192x4x1, .f32⟩
  | 117 => ⟨S8192x4x1, .f32⟩
  | 118 => ⟨S8192x4x1, .f32⟩
  | 119 => ⟨S_, .f32⟩
  | 120 => ⟨S8192x4x1, .f32⟩
  | 121 => ⟨S8192x4x1, .f32⟩
  | 122 => ⟨S8192x4x128, .f32⟩
  | 123 => ⟨S8192x4x128, .f32⟩
  | 124 => ⟨S1x1x128, .f32⟩
  | 125 => ⟨S8192x4x128, .f32⟩
  | 126 => ⟨S8192x4x128, .f32⟩
  | 127 => ⟨S1x1x128, .f32⟩
  | _ => ⟨S8192x1024, .f32⟩

abbrev hbmTy0_1 (i : Nat) : BufTy := match i % 128 with
  | 0 => ⟨S8192x4x128, .f32⟩
  | 1 => ⟨S8192x4x128, .f32⟩
  | 2 => ⟨S64x128x4x128, .f32⟩
  | 3 => ⟨S_, .f32⟩
  | 4 => ⟨S128x128, .f32⟩
  | 5 => ⟨S128x128, .i32⟩
  | 6 => ⟨S_, .i32⟩
  | 7 => ⟨S128x128, .i32⟩
  | 8 => ⟨S128x128, .i32⟩
  | 9 => ⟨S128x128, .i32⟩
  | 10 => ⟨S128x128, .i1⟩
  | 11 => ⟨S_, .f32⟩
  | 12 => ⟨S128x128, .f32⟩
  | 13 => ⟨S128x128, .f32⟩
  | 14 => ⟨S1x128x128, .f32⟩
  | 15 => ⟨S4x128x128, .f32⟩
  | 16 => ⟨S4x128x128, .f32⟩
  | 17 => ⟨S4x64x128x128, .f32⟩
  | 18 => ⟨S64x128x4x128, .f32⟩
  | 19 => ⟨S128x4, .f32⟩
  | 20 => ⟨S1x128x4x1, .f32⟩
  | 21 => ⟨S64x128x4x128, .f32⟩
  | 22 => ⟨S64x128x4x128, .f32⟩
  | 23 => ⟨S8192x4x128, .f32⟩
  | 24 => ⟨S8192x4x128, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x4x128, .f32⟩
  | 33 => ⟨S8192x4x128, .f32⟩
  | 34 => ⟨S8192x4x128, .f32⟩
  | 35 => ⟨S64x128x4x128, .f32⟩
  | 36 => ⟨S_, .f32⟩
  | 37 => ⟨S128x4, .f32⟩
  | 38 => ⟨S1x128x4x1, .f32⟩
  | 39 => ⟨S_, .f32⟩
  | 40 => ⟨S128x4, .f32⟩
  | 41 => ⟨S4x128, .f32⟩
  | 42 => ⟨S4x64x128x128, .f32⟩
  | 43 => ⟨S4x128x128, .f32⟩
  | 44 => ⟨S4x64x128x128, .f32⟩
  | 45 => ⟨S64x128x4x128, .f32⟩
  | 46 => ⟨S4x128x128, .f32⟩
  | 47 => ⟨S4x128x128, .f32⟩
  | 48 => ⟨S8192x4x128, .f32⟩
  | 49 => ⟨S_, .f32⟩
  | 50 => ⟨S128, .f32⟩
  | 51 => ⟨S1x1x128, .f32⟩
  | 52 => ⟨S_, .f32⟩
  | 53 => ⟨S128, .f32⟩
  | 54 => ⟨S1x128, .f32⟩
  | 55 => ⟨S8192x4x128, .f32⟩
  | 56 => ⟨S_, .f32⟩
  | 57 => ⟨S128, .f32⟩
  | 58 => ⟨S1x1x128, .f32⟩
  | 59 => ⟨S8192x4x128, .f32⟩
  | 60 => ⟨S8192x4x128, .f32⟩
  | 61 => ⟨S_, .f32⟩
  | 62 => ⟨S128, .f32⟩
  | 63 => ⟨S1x128, .f32⟩
  | 64 => ⟨S8192x4x128, .f32⟩
  | 65 => ⟨S_, .f32⟩
  | 66 => ⟨S8192x4, .f32⟩
  | 67 => ⟨S8192x4x1, .f32⟩
  | 68 => ⟨S8192x4x128, .f32⟩
  | 69 => ⟨S8192x4x128, .f32⟩
  | 70 => ⟨S8192x4x1, .f32⟩
  | 71 => ⟨S_, .f32⟩
  | 72 => ⟨S8192x4x1, .f32⟩
  | 73 => ⟨S8192x4x1, .f32⟩
  | 74 => ⟨S_, .f32⟩
  | 75 => ⟨S8192x4, .f32⟩
  | 76 => ⟨S8192x4x128, .f32⟩
  | 77 => ⟨S8192x4x128, .f32⟩
  | 78 => ⟨S8192x4x128, .f32⟩
  | 79 => ⟨S8192x4x128, .f32⟩
  | 80 => ⟨S8192x4x128, .f32⟩
  | 81 => ⟨S8192x4x128, .f32⟩
  | 82 => ⟨S_, .f32⟩
  | 83 => ⟨S8192x4, .f32⟩
  | 84 => ⟨S8192x4x1, .f32⟩
  | 85 => ⟨S_, .f32⟩
  | 86 => ⟨S8192x4x1, .f32⟩
  | 87 => ⟨S8192x4x1, .f32⟩
  | 88 => ⟨S_, .f32⟩
  | 89 => ⟨S8192x4, .f32⟩
  | 90 => ⟨S8192x4x128, .f32⟩
  | 91 => ⟨S8192x4x128, .f32⟩
  | 92 => ⟨S8192x512, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192x512, .f32⟩
  | 114 => ⟨S_, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x2560, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S128x4, .f32⟩
  | 21 => ⟨S_, .i32⟩
  | 22 => ⟨S_, .f32⟩
  | 23 => ⟨S128x128, .f32⟩
  | 24 => ⟨S8192x2560, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_cst_16 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_17 : Ref sig .tc := ⟨.hbm, 91, rfl⟩
abbrev main_v61 : Ref sig .tc := ⟨.hbm, 92, rfl⟩
abbrev main_v62 : Ref sig .tc := ⟨.hbm, 93, rfl⟩
abbrev main_cst_18 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_19 : Ref sig .tc := ⟨.hbm, 99, rfl⟩
abbrev main_v67 : Ref sig .tc := ⟨.hbm, 100, rfl⟩
abbrev main_v68 : Ref sig .tc := ⟨.hbm, 101, rfl⟩
abbrev main_cst_20 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_21 : Ref sig .tc := ⟨.hbm, 108, rfl⟩
abbrev main_v74 : Ref sig .tc := ⟨.hbm, 109, rfl⟩
abbrev main_v75 : Ref sig .tc := ⟨.hbm, 110, rfl⟩
abbrev main_cst_22 : Ref sig .tc := ⟨.hbm, 111, rfl⟩
abbrev main_v76 : Ref sig .tc := ⟨.hbm, 112, rfl⟩
abbrev main_v77 : Ref sig .tc := ⟨.hbm, 113, rfl⟩
abbrev main_cst_23 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_24 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_25 : Ref sig .tc := ⟨.hbm, 131, rfl⟩
abbrev main_v93 : Ref sig .tc := ⟨.hbm, 132, rfl⟩
abbrev main_call0_v0 : Ref sig .tc := ⟨.hbm, 133, rfl⟩
abbrev main_call0_c : Ref sig .tc := ⟨.hbm, 134, rfl⟩
abbrev main_call0_v1 : Ref sig .tc := ⟨.hbm, 135, rfl⟩
abbrev main_call0_v2 : Ref sig .tc := ⟨.hbm, 136, rfl⟩
abbrev main_call0_v3 : Ref sig .tc := ⟨.hbm, 137, rfl⟩
abbrev main_call0_v4 : Ref sig .tc := ⟨.hbm, 138, rfl⟩
abbrev main_call0_cst : Ref sig .tc := ⟨.hbm, 139, rfl⟩
abbrev main_call0_v5 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_26 : Ref sig .tc := ⟨.hbm, 154, rfl⟩
abbrev main_v107 : Ref sig .tc := ⟨.hbm, 155, rfl⟩
abbrev main_v108 : Ref sig .tc := ⟨.hbm, 156, rfl⟩
abbrev main_cst_27 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_28 : Ref sig .tc := ⟨.hbm, 164, rfl⟩
abbrev main_v115 : Ref sig .tc := ⟨.hbm, 165, rfl⟩
abbrev main_v116 : Ref sig .tc := ⟨.hbm, 166, rfl⟩
abbrev main_cst_29 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_30 : Ref sig .tc := ⟨.hbm, 177, rfl⟩
abbrev main_v126 : Ref sig .tc := ⟨.hbm, 178, rfl⟩
abbrev main_v127 : Ref sig .tc := ⟨.hbm, 179, rfl⟩
abbrev main_cst_31 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_32 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_33 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_34 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_35 : Ref sig .tc := ⟨.hbm, 199, rfl⟩
abbrev main_v143 : Ref sig .tc := ⟨.hbm, 200, rfl⟩
abbrev main_v144 : Ref sig .tc := ⟨.hbm, 201, rfl⟩
abbrev main_cst_36 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_37 : Ref sig .tc := ⟨.hbm, 210, rfl⟩
abbrev main_v152 : Ref sig .tc := ⟨.hbm, 211, rfl⟩
abbrev main_v153 : Ref sig .tc := ⟨.hbm, 212, rfl⟩
abbrev main_cst_38 : Ref sig .tc := ⟨.hbm, 213, rfl⟩
abbrev main_v154 : Ref sig .tc := ⟨.hbm, 214, rfl⟩
abbrev main_v155 : Ref sig .tc := ⟨.hbm, 215, rfl⟩
abbrev main_cst_39 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_40 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_41 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_cst_42 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_cst_43 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_cst_44 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_cst_45 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_cst_46 : Ref sig .tc := ⟨.hbm, 266, rfl⟩
abbrev main_v199 : Ref sig .tc := ⟨.hbm, 267, rfl⟩
abbrev main_v200 : Ref sig .tc := ⟨.hbm, 268, rfl⟩
abbrev main_cst_47 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_c : Ref sig .tc := ⟨.hbm, 277, rfl⟩
abbrev main_call1_v0 : Ref sig .tc := ⟨.hbm, 278, rfl⟩
abbrev main_v208 : Ref sig .tc := ⟨.hbm, 279, rfl⟩
abbrev main_v209 : Ref sig .tc := ⟨.hbm, 280, rfl⟩

abbrev nD : Nat := 1
abbrev τ : Topo := Topo.v7x

variable {F : FTy → Type} [FloatOps F]
-- ==== Kernel2.lean ====
abbrev S8192x1024 : Shape := ⟨2, ![8192, 1024]⟩
abbrev S8192x256 : Shape := ⟨2, ![8192, 256]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S8192x2816 : Shape := ⟨2, ![8192, 2816]⟩
abbrev S8192x5632 : Shape := ⟨2, ![8192, 5632]⟩
abbrev S1x1 : Shape := ⟨2, ![1, 1]⟩
abbrev S256x256 : Shape := ⟨2, ![256, 256]⟩
abbrev S256x2816 : Shape := ⟨2, ![256, 2816]⟩
abbrev S256x5632 : Shape := ⟨2, ![256, 5632]⟩
abbrev S4 : Shape := ⟨1, ![4]⟩
abbrev S1 : Shape := ⟨1, ![1]⟩
abbrev S_ : Shape := ⟨0, ![]⟩
abbrev S256 : Shape := ⟨1, ![256]⟩
abbrev S256x1 : Shape := ⟨2, ![256, 1]⟩
abbrev S1024x2816 : Shape := ⟨2, ![1024, 2816]⟩
abbrev S1024 : Shape := ⟨1, ![1024]⟩

abbrev nBuf : Space → Nat
  | .hbm => 27
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S1024x1024, .f32⟩
  | .hbm, ⟨9, _⟩ => ⟨S256x1024, .f32⟩
  | .hbm, ⟨10, _⟩ => ⟨S1024x5632, .bf16⟩
  | .hbm, ⟨11, _⟩ => ⟨S2816x1024, .bf16⟩
  | .hbm, ⟨12, _⟩ => ⟨S1024x1024, .bf16⟩
  | .hbm, ⟨13, _⟩ => ⟨S256x1024, .bf16⟩
  | .hbm, ⟨14, _⟩ => ⟨S8192x1024, .f32⟩
  | .hbm, ⟨15, _⟩ => ⟨S8192x1024, .bf16⟩
  | .hbm, ⟨16, _⟩ => ⟨S8192x2816, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x5632, .bf16⟩
  | .hbm, ⟨22, _⟩ => ⟨S8192x256, .bf16⟩
  | .hbm, ⟨23, _⟩ => ⟨S1x1, .f32⟩
  | .hbm, ⟨24, _⟩ => ⟨S1x1024, .f32⟩
  | .hbm, ⟨25, _⟩ => ⟨S1x1024, .f32⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x5632, .bf16⟩
  | .local _ .vmem, ⟨24, _⟩ => ⟨S256x5632, .bf16⟩
  | .local _ .vmem, ⟨25, _⟩ => ⟨S256x256, .bf16⟩
  | .local _ .vmem, ⟨26, _⟩ => ⟨S256x256, .bf16⟩
  | .local _ .vmem, ⟨27, _⟩ => ⟨S1x1, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x5632, .bf16⟩
  | .local _ .vmem, ⟨32, _⟩ => ⟨S2816x1024, .bf16⟩
  | .local _ .vmem, ⟨33, _⟩ => ⟨S1024x1024, .bf16⟩
  | .local _ .vmem, ⟨34, _⟩ => ⟨S256x1024, .bf16⟩
  | .local _ .vmem, ⟨35, _⟩ => ⟨S256x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev main_v4_9 : Ref sig .tc := ⟨.hbm, 23, rfl⟩
abbrev main_v4_10 : Ref sig .tc := ⟨.hbm, 24, rfl⟩
abbrev main_v4_11 : Ref sig .tc := ⟨.hbm, 25, rfl⟩
abbrev main_v4_12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S8192x1024 : Shape := ⟨2, ![8192, 1024]⟩
abbrev S8192x256 : Shape := ⟨2, ![8192, 256]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024, .f32⟩
  | 4 => ⟨S1x1024, .f32⟩
  | 5 => ⟨S1x1024, .f32⟩
  | 6 => ⟨S1024x5632, .f32⟩
  | 7 => ⟨S2816x1024, .f32⟩
  | 8 => ⟨S1024x1024, .f32⟩
  | 9 => ⟨S256x1024, .f32⟩
  | 10 => ⟨S_, .f32⟩
  | 11 => ⟨S8192x5632, .f32⟩
  | 12 => ⟨S_, .f32⟩
  | 13 => ⟨S8192x1024, .f32⟩
  | 14 => ⟨S_, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S8192x1024, .f32⟩
  | 36 => ⟨S8192x1024, .f32⟩
  | 37 => ⟨S8192x5632, .f32⟩
  | 38 => ⟨S8192x5632, .f32⟩
  | 39 => ⟨S8192x2816, .f32⟩
  | 40 => ⟨S8192x2816, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S8192x2816, .f32⟩
  | 54 => ⟨S8192x2816, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192, .f32⟩
  | 104 => ⟨S_, .f32⟩
  | 105 => ⟨S8192, .f32⟩
  | 106 => ⟨S8192, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S8192, .f32⟩
  | 115 => ⟨S_, .f32⟩
  | 116 => ⟨S8192, .f32⟩
  | 117 => ⟨S8192, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1024, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x2816, .f32⟩
  | 24 => ⟨S8192x2816, .f32⟩
  | 25 => ⟨S8192x2816, .f32⟩
  | 26 => ⟨S8192x2816, .f32⟩
  | 27 => ⟨S8192x2816, .f32⟩
  | 28 => ⟨S8192x2816, .f32⟩
  | 29 => ⟨S8192x2816, .f32⟩
  | 30 => ⟨S8192x5632, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S8192x1024, .f32⟩
  | 43 => ⟨S8192x1024, .f32⟩
  | 44 => ⟨S8192x1024, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .bf16⟩
  | 57 => ⟨S8192x2816, .bf16⟩
  | 58 => ⟨S8192x1024, .bf16⟩
  | 59 => ⟨S8192x1024, .bf16⟩
  | 60 => ⟨S8192x1024, .bf16⟩
  | 61 => ⟨S8192x1024, .bf16⟩
  | 62 => ⟨S8192x5632, .bf16⟩
  | 63 => ⟨S8192x256, .bf16⟩
  | 64 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_cst_4 : Ref sig .tc := ⟨.hbm, 22, rfl⟩
abbrev main_v7 : Ref sig .tc := ⟨.hbm, 23, rfl⟩
abbrev main_v8 : Ref sig .tc := ⟨.hbm, 24, rfl⟩
abbrev main_cst_5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v23_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v23_1 : Ref sig .tc := ⟨.hbm, 52, rfl⟩
abbrev main_v23_0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_7 : Ref sig .tc := ⟨.hbm, 58, rfl⟩
abbrev main_v28 : Ref sig .tc := ⟨.hbm, 59, rfl⟩
abbrev main_v29 : Ref sig .tc := ⟨.hbm, 60, rfl⟩
abbrev main_cst_8 : Ref sig .tc := ⟨.hbm, 61, rfl⟩
abbrev main_v30 : Ref sig .tc := ⟨.hbm, 62, rfl⟩
abbrev main_v31 : Ref sig .tc := ⟨.hbm, 63, rfl⟩
abbrev main_cst_9 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_10 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_cst_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_14 : Ref sig .tc := ⟨.hbm, 99, rfl⟩
abbrev main_v62 : Ref sig .tc := ⟨.hbm, 100, rfl⟩
abbrev main_v63 : Ref sig .tc := ⟨.hbm, 101, rfl⟩
abbrev main_cst_15 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_cst_18 : Ref sig .tc := ⟨.hbm, 109, rfl⟩
abbrev main_v68 : Ref sig .tc := ⟨.hbm, 110, rfl⟩
abbrev main_cst_19 : Ref sig .tc := ⟨.hbm, 111, rfl⟩
abbrev main_cst_20 : Ref sig .tc := ⟨.hbm, 112, rfl⟩
abbrev main_v69 : Ref sig .tc := ⟨.hbm, 113, rfl⟩
abbrev main_v70 : Ref sig .tc := ⟨.hbm, 114, rfl⟩
abbrev main_cst_21 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_22 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_23 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_24 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_25 : Ref sig .tc := ⟨.hbm, 141, rfl⟩
abbrev main_v93 : Ref sig .tc := ⟨.hbm, 142, rfl⟩
abbrev main_v94 : Ref sig .tc := ⟨.hbm, 143, rfl⟩
abbrev main_cst_26 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_27 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_28 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_29 : Ref sig .tc := ⟨.hbm, 174, rfl⟩
abbrev main_v119 : Ref sig .tc := ⟨.hbm, 175, rfl⟩
abbrev main_v120 : Ref sig .tc := ⟨.hbm, 176, rfl⟩
abbrev main_cst_30 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x2560 : Shape := ⟨2, ![8192, 2560]⟩
abbrev S1024x2560 : Shape := ⟨2, ![1024, 2560]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x256 : Shape := ⟨2, ![8192, 256]⟩
abbrev S8192x1024 : Shape := ⟨2, ![8192, 1024]⟩
abbrev S1024x256 : Shape := ⟨2, ![1024, 256]⟩
abbrev S4096x1024 : Shape := ⟨2, ![4096, 1024]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S1024x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1024x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S1 : Shape := ⟨1, ![1]⟩
abbrev S512x640 : Shape := ⟨2, ![512, 640]⟩
abbrev S1024x640 : Shape := ⟨2, ![1024, 640]⟩
abbrev S128x640 : Shape := ⟨2, ![128, 640]⟩

abbrev nBuf : Space → Nat
  | .hbm => 9
  | .vmem => 18
  | .smem => 1
  | _ => 0

abbrev bufTy : (tb : Table) → Fin (tcTables nBuf tb) → BufTy
  | .hbm, ⟨0, _⟩ => ⟨S512x640, .f32⟩
  | .hbm, ⟨1, _⟩ => ⟨S512x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S128x640, .f32⟩
  | .local _ .vmem, ⟨1, _⟩ => ⟨S128x640, .f32⟩
  | .local _ .vmem, ⟨2, _⟩ => ⟨S128x640, .f32⟩
  | .local _ .vmem, ⟨3, _⟩ => ⟨S128x640, .f32⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | .local _ .smem, ⟨0, _⟩ => ⟨S1, .i32⟩
  | _, _ => ⟨S512x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S1 : Shape := ⟨1, ![1]⟩
abbrev S512x640 : Shape := ⟨2, ![512, 640]⟩
abbrev S1024x640 : Shape := ⟨2, ![1024, 640]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x640, .f32⟩
  | .hbm, ⟨2, _⟩ => ⟨S512x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x640, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | .hbm, ⟨40, _⟩ => ⟨S1024x640, .f32⟩
  | .hbm, ⟨41, _⟩ => ⟨S_, .f32⟩
  | .hbm, ⟨42, _⟩ => ⟨S1024x640, .f32⟩
  | .hbm, ⟨43, _⟩ => ⟨S1024x640, .f32⟩
  | .hbm, ⟨44, _⟩ => ⟨S1024x640, .f32⟩
  | .hbm, ⟨45, _⟩ => ⟨S_, .f32⟩
  | .hbm, ⟨46, _⟩ => ⟨S1024x640, .f32⟩
  | .hbm, ⟨47, _⟩ => ⟨S1024x640, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Spec.lean ====
/- The gradient as plain real mathematics (`Args`, `dproj`, `dx`, …), and the lemmas that carry an operation on extended
   reals which are real numbers to the operation on the real numbers. Neither program is named here. -/
module

public import Idealize.ShloMosaic.Lib.Pipeline.Value
public import Idealize.ShloMosaic.Lib.ValueIdx
public import Idealize.ShloMosaic.Lib.IdealHost

@[expose] public section

noncomputable section

namespace Cert.Spec

open Idealize.ShloMosaic Finset

/-! ## Operations at real numbers -/

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

section
variable {φ : FTy}

theorem mulf_coe (a b : ℝ) : FloatOps.mulf (F := Ideal) (φ := φ) (a : EReal) (b : EReal) = ((a * b : ℝ) : EReal) :=
  (EReal.coe_mul a b).symm
theorem addf_coe (a b : ℝ) : FloatOps.addf (F := Ideal) (φ := φ) (a : EReal) (b : EReal) = ((a + b : ℝ) : EReal) :=
  (EReal.coe_add a b).symm
theorem subf_coe (a b : ℝ) : FloatOps.subf (F := Ideal) (φ := φ) (a : EReal) (b : EReal) = ((a - b : ℝ) : EReal) :=
  (EReal.coe_sub a b).symm
theorem negf_coe (a : ℝ) : FloatOps.negf (F := Ideal) (φ := φ) (a : EReal) = ((-a : ℝ) : EReal) := rfl
theorem hostNegf_coe (a : ℝ) : FloatOps.hostNegf (F := Ideal) (φ := φ) (a : EReal) = ((-a : ℝ) : EReal) := rfl
theorem div_coe (a b : ℝ) (h : b ≠ 0) : Ideal.div (a : EReal) (b : EReal) = ((a / b : ℝ) : EReal) := by
  rw [Ideal.div_coe h, ← EReal.coe_mul]; congr 1; ring
theorem hostDivf_coe (a b : ℝ) (h : b ≠ 0) :
    FloatOps.hostDivf (F := Ideal) (φ := φ) (a : EReal) (b : EReal) = ((a / b : ℝ) : EReal) := div_coe a b h
theorem divf_coe (a b : ℝ) (h : b ≠ 0) :
    FloatOps.divf (F := Ideal) (φ := φ) (a : EReal) (b : EReal) = ((a / b : ℝ) : EReal) := div_coe a b h
theorem irsqrt_coe (a : ℝ) (h : 0 < a) : Ideal.rsqrt (a : EReal) = (((√a)⁻¹ : ℝ) : EReal) := by
  rw [Ideal.rsqrt_coe, if_neg (not_lt.2 h.le), if_neg h.ne']
theorem hostRsqrt_coe (a : ℝ) (h : 0 < a) :
    FloatOps.hostUnary (F := Ideal) (φ := φ) .rsqrt (a : EReal) = (((√a)⁻¹ : ℝ) : EReal) := irsqrt_coe a h
theorem rsqrt_coe (a : ℝ) (h : 0 < a) :
    FloatOps.rsqrt (F := Ideal) (φ := φ) (a : EReal) = (((√a)⁻¹ : ℝ) : EReal) := irsqrt_coe a h
theorem hostTanh_coe (a : ℝ) :
    FloatOps.hostUnary (F := Ideal) (φ := φ) .tanh (a : EReal) = ((Real.tanh a : ℝ) : EReal) := Ideal.tanh_coe a
theorem tanh_coe (a : ℝ) :
    FloatOps.tanh (F := Ideal) (φ := φ) (a : EReal) = ((Real.tanh a : ℝ) : EReal) := Ideal.tanh_coe a
end

theorem div_128 (a : ℝ) : Ideal.div (a : EReal) ((128 : ℝ) : EReal) = ((a / 128 : ℝ) : EReal) := div_coe _ _ (by norm_num)
theorem div_1024 (a : ℝ) : Ideal.div (a : EReal) ((1024 : ℝ) : EReal) = ((a / 1024 : ℝ) : EReal) := div_coe _ _ (by norm_num)
theorem one_coe : (1 : EReal) = ((1 : ℝ) : EReal) := rfl
theorem zero_coe : (0 : EReal) = ((0 : ℝ) : EReal) := rfl
theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem neg_coe (a : ℝ) : -(a : EReal) = ((-a : ℝ) : EReal) := rfl

/-! ## The programs' constants -/

/-- The value added under the square roots (the f32 nearest to 10⁻⁶). -/
def eps : ℝ := 8796093 / 2 ^ 43
/-- The f32 nearest to √(2/π). -/
def cC : ℝ := 13386282 / 2 ^ 24
/-- The cubic's coefficient, 0.044715. -/
def cub : ℝ := 8943 / 200000

theorem bits_zero : Ideal.ofBits .f32 0x00000000#32 = ((0 : ℝ) : EReal) := Ideal.ofBits_zero_f32
theorem bits_one : Ideal.ofBits .f32 0x3F800000#32 = ((1 : ℝ) : EReal) := Ideal.ofBits_one_f32
theorem bits_half : Ideal.ofBits .f32 0x3F000000#32 = ((1 / 2 : ℝ) : EReal) := by
  simp [Ideal.ofBits, Ideal.ieee, -EReal.coe_mul]; norm_num
theorem bits_neghalf : Ideal.ofBits .f32 0xBF000000#32 = ((-(1 / 2) : ℝ) : EReal) := by
  simp [Ideal.ofBits, Ideal.ieee, -EReal.coe_mul, -EReal.coe_neg]; norm_num
theorem bits_eighth : Ideal.ofBits .f32 0x3E000000#32 = ((1 / 8 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num
theorem bits_eps : Ideal.ofBits .f32 0x358637BD#32 = (eps : EReal) := by
  simp [Ideal.ofBits, Ideal.ieee, -EReal.coe_mul, eps]; norm_num
theorem bits_cC : Ideal.ofBits .f32 0x3F4C422A#32 = (cC : EReal) := by
  simp [Ideal.ofBits, Ideal.ieee, -EReal.coe_mul, cC]; norm_num

/-! ## The mathematics -/

/-- The tanh of the activation's argument. -/
def geluT (v : ℝ) : ℝ := Real.tanh (cC * (v + cub * (v * v * v)))
/-- The activation (tanh form). -/
def gelu (v : ℝ) : ℝ := v * (1 / 2 * (1 + geluT v))
/-- Its derivative. -/
def dgelu (v : ℝ) : ℝ := 1 / 2 * (1 + geluT v) + 1 / 2 * v * (1 - geluT v * geluT v) * (cC * (1 + 3 * cub * (v * v)))

/-- A row's mean. -/
def mean {n : ℕ} (v : Fin n → ℝ) : ℝ := (∑ k, v k) / n
/-- A row's mean square with the small constant added. -/
def msq {n : ℕ} (v : Fin n → ℝ) : ℝ := (∑ k, v k * v k) / n + eps
/-- The reciprocal root of it. -/
def rstd {n : ℕ} (v : Fin n → ℝ) : ℝ := (√(msq v))⁻¹
/-- A row with its mean taken off. -/
def cen {n : ℕ} (v : Fin n → ℝ) : Fin n → ℝ := fun d => v d - mean v
/-- A row normalised. -/
def hat {n : ℕ} (v : Fin n → ℝ) : Fin n → ℝ := fun d => cen v d * rstd (cen v)
/-- The gradient of a row's root-mean-square normalisation. -/
def rmsBack {n : ℕ} (v dn : Fin n → ℝ) : Fin n → ℝ :=
  fun d => rstd v * (dn d - (v d * rstd v) * mean (fun k => dn k * (v k * rstd v)))
/-- The gradient of a row's layer normalisation. -/
def lnBack {n : ℕ} (v dh : Fin n → ℝ) : Fin n → ℝ :=
  fun d => rstd (cen v) * (dh d - mean dh - hat v d * mean (fun k => dh k * hat v k))

theorem eps_pos : 0 < eps := by unfold eps; positivity
theorem msq_pos {n : ℕ} (v : Fin n → ℝ) : 0 < msq v := by
  have : 0 ≤ (∑ k, v k * v k) / n := div_nonneg (Finset.sum_nonneg fun k _ => mul_self_nonneg _) (Nat.cast_nonneg _)
  have := eps_pos; unfold msq; linarith

/-- The arguments as real arrays. -/
structure Args where
  X : Fin 8192 → Fin 1024 → ℝ
  G : Fin 1024 → ℝ
  W : Fin 1024 → Fin 2560 → ℝ
  LG : Fin 128 → ℝ
  LB : Fin 128 → ℝ
  WS : Fin 4 → Fin 128 → Fin 128 → ℝ
  BS : Fin 4 → Fin 128 → ℝ
  DH : Fin 8192 → Fin 1024 → ℝ
  DQ : Fin 8192 → Fin 512 → ℝ
  DK : Fin 8192 → Fin 512 → ℝ
  DV : Fin 8192 → Fin 512 → ℝ
  DS : Fin 8192 → Fin 512 → ℝ

/-- Column `d` of group `g`. -/
def col (g : Fin 4) (d : Fin 128) : Fin 512 := ⟨g.val * 128 + d.val, by omega⟩
/-- The group of a column. -/
def grp (c : Fin 512) : Fin 4 := ⟨c.val / 128, by omega⟩
/-- The place of a column in its group. -/
def sub (c : Fin 512) : Fin 128 := ⟨c.val % 128, by omega⟩
/-- Row `r` of block `b`. -/
def row (b : Fin 64) (r : Fin 128) : Fin 8192 := ⟨b.val * 128 + r.val, by omega⟩
/-- The block of a row. -/
def blk (s : Fin 8192) : Fin 64 := ⟨s.val / 128, by omega⟩
/-- The place of a row in its block. -/
def pos (s : Fin 8192) : Fin 128 := ⟨s.val % 128, by omega⟩

theorem row_blk_pos (s : Fin 8192) : row (blk s) (pos s) = s := Fin.ext (by simp only [row, blk, pos]; omega)
theorem blk_row (b : Fin 64) (r : Fin 128) : blk (row b r) = b := Fin.ext (by simp only [row, blk]; omega)
theorem pos_row (b : Fin 64) (r : Fin 128) : pos (row b r) = r := Fin.ext (by simp only [row, pos]; omega)
theorem grp_col (g : Fin 4) (d : Fin 128) : grp (col g d) = g := Fin.ext (by simp only [grp, col]; omega)
theorem sub_col (g : Fin 4) (d : Fin 128) : sub (col g d) = d := Fin.ext (by simp only [sub, col]; omega)
theorem col_grp_sub (c : Fin 512) : col (grp c) (sub c) = c := Fin.ext (by simp only [grp, col, sub]; omega)

namespace Args
variable (a : Args)

/-- The projection of the normalised rows. -/
def proj (s : Fin 8192) (c : Fin 2560) : ℝ := ∑ k, a.X s k * rstd (a.X s) * a.G k * a.W k c
/-- The gating unit's first half before its activation, -/
def uRaw (s : Fin 8192) (c : Fin 512) : ℝ := a.proj s ⟨1536 + c.val, by omega⟩
/-- and its second half. -/
def zRaw (s : Fin 8192) (c : Fin 512) : ℝ := a.proj s ⟨2048 + c.val, by omega⟩
def u (s : Fin 8192) (g : Fin 4) (d : Fin 128) : ℝ := gelu (a.uRaw s (col g d))
def z (s : Fin 8192) (g : Fin 4) (d : Fin 128) : ℝ := gelu (a.zRaw s (col g d))
def zn (s : Fin 8192) (g : Fin 4) (d : Fin 128) : ℝ := hat (a.z s g) d * a.LG d + a.LB d
/-- The lower triangle of the mixing weights. -/
def wm (g : Fin 4) (i j : Fin 128) : ℝ := if j ≤ i then a.WS g i j else 0
def mix (b : Fin 64) (g : Fin 4) (i d : Fin 128) : ℝ := (∑ j, a.wm g i j * a.zn (row b j) g d) + a.BS g i
def ds (s : Fin 8192) (g : Fin 4) (d : Fin 128) : ℝ := a.DS s (col g d)
def du (s : Fin 8192) (g : Fin 4) (d : Fin 128) : ℝ := a.ds s g d * a.mix (blk s) g (pos s) d
def dm (s : Fin 8192) (g : Fin 4) (d : Fin 128) : ℝ := a.ds s g d * a.u s g d
def dzn (s : Fin 8192) (g : Fin 4) (d : Fin 128) : ℝ := ∑ i, a.wm g i (pos s) * a.dm (row (blk s) i) g d
def dz (s : Fin 8192) (g : Fin 4) (d : Fin 128) : ℝ := lnBack (a.z s g) (fun d => a.dzn s g d * a.LG d) d
/-- The gradient of the projection, its columns in the order q, k, v, u, z. -/
def dproj (s : Fin 8192) (c : Fin 2560) : ℝ :=
  if h₁ : c.val < 512 then a.DQ s ⟨c.val, h₁⟩ * (1 / 8)
  else if h₂ : c.val < 1024 then a.DK s ⟨c.val - 512, by omega⟩
  else if h₃ : c.val < 1536 then a.DV s ⟨c.val - 1024, by omega⟩
  else if h₄ : c.val < 2048 then
    (fun k : Fin 512 => a.du s (grp k) (sub k) * dgelu (a.uRaw s k)) ⟨c.val - 1536, by omega⟩
  else (fun k : Fin 512 => a.dz s (grp k) (sub k) * dgelu (a.zRaw s k)) ⟨c.val - 2048, by omega⟩
def da (s : Fin 8192) (k : Fin 1024) : ℝ := ∑ c, a.dproj s c * a.W k c
def dx (s : Fin 8192) (k : Fin 1024) : ℝ := a.DH s k + rmsBack (a.X s) (fun k => a.da s k * a.G k) k
def dg (k : Fin 1024) : ℝ := ∑ s, a.da s k * (a.X s k * rstd (a.X s))
def dlg (d : Fin 128) : ℝ := ∑ s, ∑ g, a.dzn s g d * hat (a.z s g) d
def dlb (d : Fin 128) : ℝ := ∑ s, ∑ g, a.dzn s g d
def dw (g : Fin 4) (i j : Fin 128) : ℝ := if j ≤ i then ∑ b, ∑ d, a.dm (row b i) g d * a.zn (row b j) g d else 0
def db (i c : Fin 128) : ℝ := if h : c.val < 4 then ∑ b, ∑ d, a.dm (row b i) ⟨c.val, h⟩ d else 0

end Args

/-! ## The two normalisations' gradients in the form a chain of derivatives gives -/

theorem rstd_div {n : ℕ} (v : Fin n → ℝ) : rstd v / msq v = rstd v * rstd v * rstd v := by
  have h := msq_pos v
  have hs : √(msq v) * √(msq v) = msq v := Real.mul_self_sqrt h.le
  have : (msq v)⁻¹ = rstd v * rstd v := by unfold rstd; rw [← mul_inv, hs]
  rw [div_eq_mul_inv, this]; ring

theorem rmsBack_eq (v dn : Fin 1024 → ℝ) (d : Fin 1024) (r : ℝ) :
    r + dn d * rstd v + v d * ((∑ k, v k * dn k) * (-(1 / 2) * (rstd v / msq v)) / 1024)
      + (∑ k, v k * dn k) * (-(1 / 2) * (rstd v / msq v)) / 1024 * v d = r + rmsBack v dn d := by
  rw [rstd_div]
  have h : ∑ k, dn k * (v k * rstd v) = (∑ k, v k * dn k) * rstd v := by
    rw [Finset.sum_mul]; exact Finset.sum_congr rfl fun k _ => by ring
  unfold rmsBack mean
  rw [h]; push_cast; ring

theorem sum_cen (v : Fin 128 → ℝ) : ∑ k, cen v k = 0 := by
  unfold cen mean
  rw [Finset.sum_sub_distrib, Finset.sum_const, Finset.card_univ, Fintype.card_fin, nsmul_eq_mul]
  push_cast; ring

theorem lnBack_eq (v dh : Fin 128 → ℝ) (d : Fin 128) (q : ℝ)
    (hq : q = (∑ k, cen v k * dh k) * (-(1 / 2) * (rstd (cen v) / msq (cen v))) / 128) :
    (dh d * rstd (cen v) + cen v d * q + q * cen v d)
      + (∑ k, -(dh k * rstd (cen v) + cen v k * q + q * cen v k)) / 128 = lnBack v dh d := by
  have h1 : ∑ k, -(dh k * rstd (cen v) + cen v k * q + q * cen v k) = -((∑ k, dh k) * rstd (cen v)) := by
    rw [Finset.sum_neg_distrib, Finset.sum_add_distrib, Finset.sum_add_distrib, ← Finset.sum_mul, ← Finset.sum_mul,
      ← Finset.mul_sum, sum_cen]; ring
  have h2 : ∑ k, dh k * hat v k = (∑ k, cen v k * dh k) * rstd (cen v) := by
    rw [Finset.sum_mul]; exact Finset.sum_congr rfl fun k _ => by unfold hat; ring
  rw [rstd_div] at hq
  rw [h1, hq]
  unfold lnBack mean
  rw [h2]; unfold hat; push_cast; ring

theorem dgelu_eq (v y : ℝ) (t : ℝ) (ht : t = geluT v) :
    (y * (1 / 2 * (1 + t)) + cC * (1 / 2 * (v * y) * ((1 + t) * (1 - t))))
      + 44715 / 1000000 * (cC * (1 / 2 * (v * y) * ((1 + t) * (1 - t)))) * (3 * (v * v)) = y * dgelu v := by
  subst ht; unfold dgelu cub; ring

end Cert.Spec
-- ==== Proof.KernelOps.lean ====
/- The kernel's arithmetic for one group of 128 columns, as functions of the group's blocks, and what each function is at real numbers. -/
module

public import proofs.«01_k».proof.Proof.Gen.KernelIdeal.Value
public import proofs.«01_k».proof.Proof.Spec
public import Idealize.ShloMosaic.Lib.Pointwise
public import Idealize.ShloMosaic.Lib.Pipeline.ValueKit
public import Idealize.ShloMosaic.Lib.Pipeline.ReadBack

@[expose] public section

noncomputable section

namespace Cert.KernelOps

open Cert.KernelIdeal Cert.KernelIdeal.Gen Cert.KernelIdeal.Value Idealize.ShloMosaic Idealize.ShloMosaic.TcCoe Idealize.SL.Sem
open Cert.Spec

section
variable {F : FTy → Type} [FloatOps F] [Named F]

/-- The activation's tanh. -/
def tT (v : FVec F S512x128 .f32) : FVec F S512x128 .f32 :=
  tanh (mulf (broadcast S512x128 (Scalar.ofBits .f32 0x3F4C422A#32)) (addf v (mulf (broadcast S512x128 (Named.named κ "cubic" 0x3D372713#32)) (mulf (mulf v v) v))))
/-- The activation. -/
def act (v : FVec F S512x128 .f32) : FVec F S512x128 .f32 :=
  mulf v (mulf (broadcast S512x128 (Scalar.ofBits .f32 0x3F000000#32)) (addf (broadcast S512x128 (Scalar.ofBits .f32 0x3F800000#32)) (tT v)))
/-- A stripe of the projection's gradient: the activation's derivative times the gradient after it. -/
def dact (v dy : FVec F S512x128 .f32) : FVec F S512x128 .bf16 :=
  truncf .bf16 (mulf dy (addf (mulf (broadcast S512x128 (Scalar.ofBits .f32 0x3F000000#32)) (addf (broadcast S512x128 (Scalar.ofBits .f32 0x3F800000#32)) (tT v)))
    (mulf (mulf (mulf (broadcast S512x128 (Scalar.ofBits .f32 0x3F000000#32)) v) (subf (broadcast S512x128 (Scalar.ofBits .f32 0x3F800000#32)) (mulf (tT v) (tT v))))
      (mulf (broadcast S512x128 (Scalar.ofBits .f32 0x3F4C422A#32)) (addf (broadcast S512x128 (Scalar.ofBits .f32 0x3F800000#32))
        (mulf (broadcast S512x128 (Named.named κ "cubic3" 0x3E095D4F#32)) (mulf v v))))))) bitsLt_bf16_f32
/-- The mean of each row, in a column. -/
def rowMean (v : FVec F S512x128 .f32) : FVec F S512x1 .f32 :=
  divf (shapeCast S512x1 (multiReduction .add [1] S512 v 0x00000000#32 reduces_S512x128_S512 (.inl rfl) rfl) shapeCasts_S512_S512x1) (broadcast S512x1 (Scalar.ofBits .f32 0x43000000#32))
/-- Each row with its mean taken off. -/
def cenV (v : FVec F S512x128 .f32) : FVec F S512x128 .f32 :=
  subf v (broadcastTo S512x128 (rowMean v) broadcasts_S512x1_S512x128)
/-- The reciprocal root of each row's mean square. -/
def rsV (c : FVec F S512x128 .f32) : FVec F S512x1 .f32 :=
  rsqrt (addf (rowMean (mulf c c)) (broadcast S512x1 (Scalar.ofBits .f32 0x358637BD#32)))
/-- Each row normalised. -/
def hatV (v : FVec F S512x128 .f32) : FVec F S512x128 .f32 :=
  mulf (cenV v) (broadcastTo S512x128 (rsV (cenV v)) broadcasts_S512x1_S512x128)
/-- The normalised rows scaled and shifted. -/
def znV (lg lb : Vec F S1x128 .f32) (h : FVec F S512x128 .f32) : FVec F S512x128 .bf16 :=
  truncf .bf16 (addf (mulf h (broadcastTo S512x128 lg broadcasts_S1x128_S512x128)) (broadcastTo S512x128 lb broadcasts_S1x128_S512x128)) bitsLt_bf16_f32
/-- The gradient of the normalisation. -/
def lnbV (lg : Vec F S1x128 .f32) (rz : FVec F S512x1 .f32) (h d : FVec F S512x128 .f32) : FVec F S512x128 .f32 :=
  have e := mulf d (broadcastTo S512x128 lg broadcasts_S1x128_S512x128)
  mulf (broadcastTo S512x128 rz broadcasts_S512x1_S512x128)
    (subf (subf e (broadcastTo S512x128 (rowMean e) broadcasts_S512x1_S512x128)) (mulf h (broadcastTo S512x128 (rowMean (mulf e h)) broadcasts_S512x1_S512x128)))

/-- Four blocks of 128 rows, one under the other. -/
def cat4 (a b c d : FVec F S128x128 .f32) : FVec F S512x128 .f32 :=
  concatenate S512x128 0 [⟨S128x128, a⟩, ⟨S128x128, b⟩, ⟨S128x128, c⟩, ⟨S128x128, d⟩] concatenates_S128x128_S128x128_S128x128_S128x128_S512x128_d0

section
variable {φ : FTy}
/-- The four blocks of 128 rows. -/
def ch0 (v : FVec F S512x128 φ) : FVec F S128x128 φ := extractStridedSlice S128x128 ![0, 0] v slices_S512x128_o0_0_S128x128
def ch1 (v : FVec F S512x128 φ) : FVec F S128x128 φ := extractStridedSlice S128x128 ![128, 0] v slices_S512x128_o128_0_S128x128
def ch2 (v : FVec F S512x128 φ) : FVec F S128x128 φ := extractStridedSlice S128x128 ![256, 0] v slices_S512x128_o256_0_S128x128
def ch3 (v : FVec F S512x128 φ) : FVec F S128x128 φ := extractStridedSlice S128x128 ![384, 0] v slices_S512x128_o384_0_S128x128
end

/-- The mixed rows of one block. -/
def mixC (wm z : FVec F S128x128 .bf16) (bx : Vec F S128x128 .f32) : FVec F S128x128 .f32 :=
  addf (matmul dot_S128x128_S128x128_S128x128_1_0_0_1_n_n none wm z (constant S128x128 .f32 0x00000000#32)) (shapeCast S128x128 bx shapeCasts_S128x128_S128x128)
/-- The gradient of the first half. -/
def duV (wm : FVec F S128x128 .bf16) (bx : Vec F S128x128 .f32) (zn : FVec F S512x128 .bf16) (ds : Vec F S512x128 .f32) : FVec F S512x128 .f32 :=
  cat4 (mulf (ch0 ds) (mixC wm (ch0 zn) bx)) (mulf (ch1 ds) (mixC wm (ch1 zn) bx)) (mulf (ch2 ds) (mixC wm (ch2 zn) bx)) (mulf (ch3 ds) (mixC wm (ch3 zn) bx))
/-- One block of the gradient of the normalised second half. -/
def dznC (wmt : FVec F S128x128 .bf16) (dm : FVec F S128x128 .f32) : FVec F S128x128 .f32 :=
  matmul dot_S128x128_S128x128_S128x128_1_0_0_1_n_n none wmt (truncf .bf16 dm bitsLt_bf16_f32) (constant S128x128 .f32 0x00000000#32)
/-- The gradient of the normalised second half. -/
def dznV (wmt : FVec F S128x128 .bf16) (u : FVec F S512x128 .f32) (ds : Vec F S512x128 .f32) : FVec F S512x128 .f32 :=
  cat4 (dznC wmt (mulf (ch0 ds) (ch0 u))) (dznC wmt (mulf (ch1 ds) (ch1 u))) (dznC wmt (mulf (ch2 ds) (ch2 u))) (dznC wmt (mulf (ch3 ds) (ch3 u)))
/-- One block's addition to the gradient of a group's mixing weights. -/
def dwC (acc : FVec F S1x128x128 .f32) (dm : FVec F S128x128 .f32) (z : FVec F S128x128 .bf16) : FVec F S1x128x128 .f32 :=
  shapeCast S1x128x128 (addf (shapeCast S128x128 acc shapeCasts_S1x128x128_S128x128)
    (select k0_pay21 (matmul dot_S128x128_S128x128_S128x128_1_1_0_0_n_n none (truncf .bf16 dm bitsLt_bf16_f32) z (constant S128x128 .f32 0x00000000#32))
      (broadcast S128x128 (Scalar.ofBits .f32 0x00000000#32)))) shapeCasts_S128x128_S1x128x128
/-- The four blocks' additions. -/
def dwV (acc : FVec F S1x128x128 .f32) (u : FVec F S512x128 .f32) (ds : Vec F S512x128 .f32) (zn : FVec F S512x128 .bf16) : FVec F S1x128x128 .f32 :=
  dwC (dwC (dwC (dwC acc (mulf (ch0 ds) (ch0 u)) (ch0 zn)) (mulf (ch1 ds) (ch1 u)) (ch1 zn)) (mulf (ch2 ds) (ch2 u)) (ch2 zn)) (mulf (ch3 ds) (ch3 u)) (ch3 zn)
/-- One block's addition to the gradient of the biases: the row sums, in column `g`. -/
def dbC (g : BitVec 32) (acc dm : FVec F S128x128 .f32) : FVec F S128x128 .f32 :=
  addf (shapeCast S128x128 acc shapeCasts_S128x128_S128x128)
    (select (cmpi .eq (iota .tc S128x128 32 [1] iota_S128x128_d1_w32) (broadcast S128x128 g))
      (broadcastTo S128x128 (shapeCast S128x1 (shapeCast S128x1 (multiReduction .add [1] S128 dm 0x00000000#32 reduces_S128x128_S128 (.inl rfl) rfl) shapeCasts_S128_S128x1) shapeCasts_S128x1_S128x1) broadcasts_S128x1_S128x128)
      (broadcast S128x128 (Scalar.ofBits .f32 0x00000000#32)))
/-- The four blocks' additions. -/
def dbV (g : BitVec 32) (acc : FVec F S128x128 .f32) (u : FVec F S512x128 .f32) (ds : Vec F S512x128 .f32) : FVec F S128x128 .f32 :=
  dbC g (dbC g (dbC g (dbC g acc (mulf (ch0 ds) (ch0 u))) (mulf (ch1 ds) (ch1 u))) (mulf (ch2 ds) (ch2 u))) (mulf (ch3 ds) (ch3 u))
/-- The column sums added to an accumulator. -/
def csV (acc : FVec F S1x128 .f32) (v : FVec F S512x128 .f32) : FVec F S1x128 .f32 :=
  addf (shapeCast S1x128 acc shapeCasts_S1x128_S1x128) (shapeCast S1x128 (multiReduction .add [0] S128 v 0x00000000#32 reduces_S512x128_S128 (.inl rfl) rfl) shapeCasts_S128_S1x128)

/-! ## The groups' blocks -/

/-- Group `g`'s columns of the projection's first gated half, -/
def uR (g : Fin 4) (x : Vec F S512x1024 .f32) : FVec F S512x128 .f32 :=
  match g with
  | 0 => extractStridedSlice S512x128 ![0, 0] (shapeCast S512x1024 x shapeCasts_S512x1024_S512x1024) slices_S512x1024_o0_0_S512x128
  | 1 => extractStridedSlice S512x128 ![0, 128] (shapeCast S512x1024 x shapeCasts_S512x1024_S512x1024) slices_S512x1024_o0_128_S512x128
  | 2 => extractStridedSlice S512x128 ![0, 256] (shapeCast S512x1024 x shapeCasts_S512x1024_S512x1024) slices_S512x1024_o0_256_S512x128
  | 3 => extractStridedSlice S512x128 ![0, 384] (shapeCast S512x1024 x shapeCasts_S512x1024_S512x1024) slices_S512x1024_o0_384_S512x128
/-- and of its second half. -/
def zR (g : Fin 4) (x : Vec F S512x1024 .f32) : FVec F S512x128 .f32 :=
  match g with
  | 0 => extractStridedSlice S512x128 ![0, 512] (shapeCast S512x1024 x shapeCasts_S512x1024_S512x1024) slices_S512x1024_o0_512_S512x128
  | 1 => extractStridedSlice S512x128 ![0, 640] (shapeCast S512x1024 x shapeCasts_S512x1024_S512x1024) slices_S512x1024_o0_640_S512x128
  | 2 => extractStridedSlice S512x128 ![0, 768] (shapeCast S512x1024 x shapeCasts_S512x1024_S512x1024) slices_S512x1024_o0_768_S512x128
  | 3 => extractStridedSlice S512x128 ![0, 896] (shapeCast S512x1024 x shapeCasts_S512x1024_S512x1024) slices_S512x1024_o0_896_S512x128
/-- Group `g`'s columns of the gradient it is given. -/
def dsS (g : Fin 4) (x : Vec F S512x512 .f32) : Vec F S512x128 .f32 :=
  match g with
  | 0 => View.ld x (Rect.unit ![0, 0] ![512, 128] (by decide))
  | 1 => View.ld x (Rect.unit ![0, 128] ![512, 128] (by decide))
  | 2 => View.ld x (Rect.unit ![0, 256] ![512, 128] (by decide))
  | 3 => View.ld x (Rect.unit ![0, 384] ![512, 128] (by decide))
/-- Group `g`'s biases. -/
def bxS (g : Fin 4) (x : Vec F S128x512 .f32) : Vec F S128x128 .f32 :=
  match g with
  | 0 => View.ld x (Rect.unit ![0, 0] ![128, 128] (by decide))
  | 1 => View.ld x (Rect.unit ![0, 128] ![128, 128] (by decide))
  | 2 => View.ld x (Rect.unit ![0, 256] ![128, 128] (by decide))
  | 3 => View.ld x (Rect.unit ![0, 384] ![128, 128] (by decide))
/-- Member `g` of four arrays. -/
def slab16 (g : Fin 4) (x : Vec F S4x128x128 .bf16) : Vec F S1x128x128 .bf16 :=
  match g with
  | 0 => View.ld x (Rect.unit ![0, 0, 0] ![1, 128, 128] (by decide))
  | 1 => View.ld x (Rect.unit ![1, 0, 0] ![1, 128, 128] (by decide))
  | 2 => View.ld x (Rect.unit ![2, 0, 0] ![1, 128, 128] (by decide))
  | 3 => View.ld x (Rect.unit ![3, 0, 0] ![1, 128, 128] (by decide))
/-- Member `g` of four arrays. -/
def slab32 (g : Fin 4) (x : Vec F S4x128x128 .f32) : Vec F S1x128x128 .f32 :=
  match g with
  | 0 => View.ld x (Rect.unit ![0, 0, 0] ![1, 128, 128] (by decide))
  | 1 => View.ld x (Rect.unit ![1, 0, 0] ![1, 128, 128] (by decide))
  | 2 => View.ld x (Rect.unit ![2, 0, 0] ![1, 128, 128] (by decide))
  | 3 => View.ld x (Rect.unit ![3, 0, 0] ![1, 128, 128] (by decide))
def slabW (g : Fin 4) (x : Vec F S4x128x128 .bf16) : FVec F S128x128 .bf16 := shapeCast S128x128 (slab16 g x) shapeCasts_S1x128x128_S128x128
def pairS (g : Fin 4) (x : Vec F S4x512x128 .f32) : FVec F S512x128 .f32 :=
  match g with
  | 0 => shapeCast S512x128 (View.ld x (Rect.unit ![0, 0, 0] ![1, 512, 128] (by decide))) shapeCasts_S1x512x128_S512x128
  | 1 => shapeCast S512x128 (View.ld x (Rect.unit ![1, 0, 0] ![1, 512, 128] (by decide))) shapeCasts_S1x512x128_S512x128
  | 2 => shapeCast S512x128 (View.ld x (Rect.unit ![2, 0, 0] ![1, 512, 128] (by decide))) shapeCasts_S1x512x128_S512x128
  | 3 => shapeCast S512x128 (View.ld x (Rect.unit ![3, 0, 0] ![1, 512, 128] (by decide))) shapeCasts_S1x512x128_S512x128

def uG (g : Fin 4) (x3 : Vec F S512x1024 .f32) : FVec F S512x128 .f32 := act (uR g x3)
def hG (g : Fin 4) (x3 : Vec F S512x1024 .f32) : FVec F S512x128 .f32 := hatV (act (zR g x3))
def znG (g : Fin 4) (x3 : Vec F S512x1024 .f32) (x8 x9 : Vec F S1x128 .f32) : FVec F S512x128 .bf16 := znV x8 x9 (hG g x3)
def dznG (g : Fin 4) (x3 : Vec F S512x1024 .f32) (x4 : Vec F S512x512 .f32) (x11 : Vec F S4x128x128 .bf16) : FVec F S512x128 .f32 :=
  dznV (slabW g x11) (uG g x3) (dsS g x4)
def duG (g : Fin 4) (x3 : Vec F S512x1024 .f32) (x4 : Vec F S512x512 .f32) (x8 x9 : Vec F S1x128 .f32) (x10 : Vec F S4x128x128 .bf16) (x12 : Vec F S128x512 .f32) :
    FVec F S512x128 .f32 := duV (slabW g x10) (bxS g x12) (znG g x3 x8 x9) (dsS g x4)
def stU (g : Fin 4) (x3 : Vec F S512x1024 .f32) (x4 : Vec F S512x512 .f32) (x8 x9 : Vec F S1x128 .f32) (x10 : Vec F S4x128x128 .bf16) (x12 : Vec F S128x512 .f32) :
    FVec F S512x128 .bf16 := dact (uR g x3) (duG g x3 x4 x8 x9 x10 x12)
def stZ (g : Fin 4) (x3 : Vec F S512x1024 .f32) (x4 : Vec F S512x512 .f32) (x8 : Vec F S1x128 .f32) (x11 : Vec F S4x128x128 .bf16) : FVec F S512x128 .bf16 :=
  dact (zR g x3) (lnbV x8 (rsV (cenV (act (zR g x3)))) (hG g x3) (dznG g x3 x4 x11))
def stQ (g : Fin 4) (x0 : Vec F S4x512x128 .f32) : FVec F S512x128 .bf16 :=
  truncf .bf16 (mulf (pairS g x0) (broadcast S512x128 (Scalar.ofBits .f32 0x3E000000#32))) bitsLt_bf16_f32
def stK (g : Fin 4) (x1 : Vec F S4x512x128 .f32) : FVec F S512x128 .bf16 := truncf .bf16 (pairS g x1) bitsLt_bf16_f32

/-- The stripes of the projection's gradient, the last stored first. -/
def stripes (x0 x1 x2 : Vec F S4x512x128 .f32) (x3 : Vec F S512x1024 .f32) (x4 : Vec F S512x512 .f32) (x8 x9 : Vec F S1x128 .f32)
    (x10 x11 : Vec F S4x128x128 .bf16) (x12 : Vec F S128x512 .f32) : List (View.Piece (Elt F) S512x2560 .bf16) :=
  [⟨Rect.unit ![0, 2432] ![512, 128] (by decide), stZ 3 x3 x4 x8 x11⟩, ⟨Rect.unit ![0, 1920] ![512, 128] (by decide), stU 3 x3 x4 x8 x9 x10 x12⟩,
   ⟨Rect.unit ![0, 2304] ![512, 128] (by decide), stZ 2 x3 x4 x8 x11⟩, ⟨Rect.unit ![0, 1792] ![512, 128] (by decide), stU 2 x3 x4 x8 x9 x10 x12⟩,
   ⟨Rect.unit ![0, 2176] ![512, 128] (by decide), stZ 1 x3 x4 x8 x11⟩, ⟨Rect.unit ![0, 1664] ![512, 128] (by decide), stU 1 x3 x4 x8 x9 x10 x12⟩,
   ⟨Rect.unit ![0, 2048] ![512, 128] (by decide), stZ 0 x3 x4 x8 x11⟩, ⟨Rect.unit ![0, 1536] ![512, 128] (by decide), stU 0 x3 x4 x8 x9 x10 x12⟩,
   ⟨Rect.unit ![0, 1408] ![512, 128] (by decide), stK 3 x2⟩, ⟨Rect.unit ![0, 896] ![512, 128] (by decide), stK 3 x1⟩, ⟨Rect.unit ![0, 384] ![512, 128] (by decide), stQ 3 x0⟩,
   ⟨Rect.unit ![0, 1280] ![512, 128] (by decide), stK 2 x2⟩, ⟨Rect.unit ![0, 768] ![512, 128] (by decide), stK 2 x1⟩, ⟨Rect.unit ![0, 256] ![512, 128] (by decide), stQ 2 x0⟩,
   ⟨Rect.unit ![0, 1152] ![512, 128] (by decide), stK 1 x2⟩, ⟨Rect.unit ![0, 640] ![512, 128] (by decide), stK 1 x1⟩, ⟨Rect.unit ![0, 128] ![512, 128] (by decide), stQ 1 x0⟩,
   ⟨Rect.unit ![0, 1024] ![512, 128] (by decide), stK 0 x2⟩, ⟨Rect.unit ![0, 512] ![512, 128] (by decide), stK 0 x1⟩, ⟨Rect.unit ![0, 0] ![512, 128] (by decide), stQ 0 x0⟩]
end

theorem canon_whole {F : FTy → Type} (X : Vec F S512x2560 .bf16) :
    (fun j => X ((Rect.unit ![0, 0] ![512, 2560] (by decide) : Rect S512x2560).toLoadRect.idx j)) = X :=
  View.ld_unit_lit (S := S512x2560) (off := ![0, 0]) (by decide) X (by decide)

/-- A load from a list of stores, as a load the frame states. -/
theorem ld_canon {Val : EltTy → Type} {sig : RefSig} {κ : Kind} {sp : Space} {s : Shape} {e : EltTy} [∀ e, Nonempty (Val e)] (v : View sig κ sp s e)
    (L : List (View.Piece Val s e)) (r : Rect s) : View.ld (View.canon L) r = v.readCov L r.toLoadRect :=
  (View.readCov_eq_canon' v L r.toLoadRect).symm

/-! ## At real numbers -/

/-- `v` holds the real numbers `f`. -/
def Is {n m : ℕ} {φ : FTy} (v : FVec Ideal ⟨2, ![n, m]⟩ φ) (f : Fin n → Fin m → ℝ) : Prop := ∀ r d, v (ix2 r d) = ((f r d : ℝ) : EReal)

theorem named_cubic : (Named.named (F := Ideal) κ "cubic" (φ := .f32) 0x3D372713#32 : Ideal .f32) = ((cub : ℝ) : EReal) := rfl
theorem named_cubic3 : (Named.named (F := Ideal) κ "cubic3" (φ := .f32) 0x3E095D4F#32 : Ideal .f32) = ((3 * cub : ℝ) : EReal) := by
  refine Eq.trans (b := ((26829 / 200000 : ℝ) : EReal)) rfl ?_
  unfold cub; congr 1; norm_num

theorem Is.tT {v : FVec Ideal S512x128 .f32} {f : Fin 512 → Fin 128 → ℝ} (h : Is v f) : Is (tT v) fun r d => geluT (f r d) := by
  intro r d
  have e := h r d
  pointwise [KernelOps.tT]
  simp only [e, named_cubic, bits_cC, mul_coe, add_coe, Ideal.tanh_coe]
  rfl

theorem Is.act {v : FVec Ideal S512x128 .f32} {f : Fin 512 → Fin 128 → ℝ} (h : Is v f) : Is (act v) fun r d => gelu (f r d) := by
  intro r d
  have e := h r d
  have t := h.tT r d
  pointwise [KernelOps.act]
  simp only [e, t, bits_half, one_coe, bits_one, mul_coe, add_coe]
  rfl

theorem Is.dact {v dy : FVec Ideal S512x128 .f32} {f g : Fin 512 → Fin 128 → ℝ} (h : Is v f) (hy : Is dy g) :
    Is (dact v dy) fun r d => g r d * dgelu (f r d) := by
  intro r d
  have e := h r d
  have e' := hy r d
  have t := h.tT r d
  pointwise [KernelOps.dact]
  simp only [e, e', t, bits_half, one_coe, bits_one, bits_cC, named_cubic3, mul_coe, add_coe, sub_coe]
  rfl

theorem Is.rowMean {v : FVec Ideal S512x128 .f32} {f : Fin 512 → Fin 128 → ℝ} (h : Is v f) : Is (rowMean v) fun r _ => mean (f r) := by
  intro r d
  pointwise [KernelOps.rowMean]
  simp only [h r _, bits_128, coe_sum, div_128]
  unfold mean; norm_num

theorem Is.mulf {v w : FVec Ideal S512x128 .f32} {f g : Fin 512 → Fin 128 → ℝ} (h : Is v f) (h' : Is w g) :
    Is (mulf v w) fun r d => f r d * g r d := by
  intro r d
  have e := h r d
  have e' := h' r d
  pointwise
  simp only [e, e', mul_coe]

theorem Is.cenV {v : FVec Ideal S512x128 .f32} {f : Fin 512 → Fin 128 → ℝ} (h : Is v f) : Is (cenV v) fun r d => cen (f r) d := by
  intro r d
  have e := h r d
  have e' := h.rowMean r 0
  pointwise [KernelOps.cenV]
  simp only [e, e', sub_coe]
  rfl

theorem Is.rsV {v : FVec Ideal S512x128 .f32} {f : Fin 512 → Fin 128 → ℝ} (h : Is v f) : Is (rsV v) fun r _ => rstd (f r) := by
  intro r d
  have e := (h.mulf h).rowMean r d
  pointwise [KernelOps.rsV]
  simp only [e, bits_eps, add_coe]
  exact irsqrt_coe _ (msq_pos (f r))

theorem Is.hatV {v : FVec Ideal S512x128 .f32} {f : Fin 512 → Fin 128 → ℝ} (h : Is v f) : Is (hatV v) fun r d => hat (f r) d := by
  intro r d
  have e := h.cenV r d
  have e' := h.cenV.rsV r 0
  pointwise [KernelOps.hatV]
  simp only [e, e', mul_coe]
  rfl

theorem Is.znV {lg lb : FVec Ideal S1x128 .f32} {h : FVec Ideal S512x128 .f32} {f : Fin 512 → Fin 128 → ℝ} {LG LB : Fin 128 → ℝ}
    (hh : Is h f) (hg : Is lg fun _ d => LG d) (hb : Is lb fun _ d => LB d) : Is (znV lg lb h) fun r d => f r d * LG d + LB d := by
  intro r d
  have e := hh r d
  have e1 := hg 0 d
  have e2 := hb 0 d
  pointwise [KernelOps.znV]
  simp only [e, e1, e2, mul_coe, add_coe]

theorem Is.lnbV {lg : FVec Ideal S1x128 .f32} {rz : FVec Ideal S512x1 .f32} {h d : FVec Ideal S512x128 .f32} {z D : Fin 512 → Fin 128 → ℝ} {LG : Fin 128 → ℝ}
    (hg : Is lg fun _ d => LG d) (hr : Is rz fun r _ => rstd (cen (z r))) (hh : Is h fun r d => hat (z r) d) (hd : Is d D) :
    Is (lnbV lg rz h d) fun r k => lnBack (z r) (fun d => D r d * LG d) k := by
  have he : Is (Idealize.ShloMosaic.mulf d (broadcastTo S512x128 lg broadcasts_S1x128_S512x128)) fun r k => D r k * LG k := by
    intro r k
    have e := hd r k
    have e1 := hg 0 k
    pointwise
    simp only [e, e1, mul_coe]
  intro r k
  have e0 := he r k
  have e1 := he.rowMean r 0
  have e2 := (he.mulf hh).rowMean r 0
  have e3 := hh r k
  have e4 := hr r 0
  unfold KernelOps.lnbV
  generalize Idealize.ShloMosaic.mulf d (broadcastTo S512x128 lg broadcasts_S1x128_S512x128) = E at *
  pointwise
  simp only [e0, e1, e2, e3, e4, mul_coe, sub_coe]
  rfl

/-- Row `i` of block `c` among the 512 rows. -/
def cr (c : Fin 4) (i : Fin 128) : Fin 512 := ⟨c.val * 128 + i.val, by omega⟩

theorem cr_div_mod (r : Fin 512) : cr ⟨r.val / 128, by omega⟩ ⟨r.val % 128, by omega⟩ = r := Fin.ext (by simp only [cr]; omega)

theorem Is.ch0 {φ : FTy} {v : FVec Ideal S512x128 φ} {f : Fin 512 → Fin 128 → ℝ} (h : Is v f) : Is (ch0 v) fun i d => f (cr 0 i) d := by
  intro r d
  pointwise [KernelOps.ch0]
  exact (h _ d).trans (by congr 2; apply Fin.ext; simp [cr])
theorem Is.ch1 {φ : FTy} {v : FVec Ideal S512x128 φ} {f : Fin 512 → Fin 128 → ℝ} (h : Is v f) : Is (ch1 v) fun i d => f (cr 1 i) d := by
  intro r d
  pointwise [KernelOps.ch1]
  exact h _ d
theorem Is.ch2 {φ : FTy} {v : FVec Ideal S512x128 φ} {f : Fin 512 → Fin 128 → ℝ} (h : Is v f) : Is (ch2 v) fun i d => f (cr 2 i) d := by
  intro r d
  pointwise [KernelOps.ch2]
  exact h _ d
theorem Is.ch3 {φ : FTy} {v : FVec Ideal S512x128 φ} {f : Fin 512 → Fin 128 → ℝ} (h : Is v f) : Is (ch3 v) fun i d => f (cr 3 i) d := by
  intro r d
  pointwise [KernelOps.ch3]
  exact h _ d

theorem Is.mul1 {v w : FVec Ideal S128x128 .f32} {f g : Fin 128 → Fin 128 → ℝ} (h : Is v f) (h' : Is w g) :
    Is (Idealize.ShloMosaic.mulf v w) fun r d => f r d * g r d := by
  intro r d
  have e := h r d
  have e' := h' r d
  pointwise
  simp only [e, e', mul_coe]

theorem Is.cat4 {a b c d : FVec Ideal S128x128 .f32} {f : Fin 512 → Fin 128 → ℝ} (ha : Is a fun i k => f (cr 0 i) k) (hb : Is b fun i k => f (cr 1 i) k)
    (hc : Is c fun i k => f (cr 2 i) k) (hd : Is d fun i k => f (cr 3 i) k) : Is (cat4 a b c d) f := by
  intro r k
  pointwise [KernelOps.cat4]
  split
  · exact (ha _ k).trans (congrArg (fun x => ((f x k : ℝ) : EReal)) (Fin.ext (by simp [cr])))
  split
  · exact (hb _ k).trans (congrArg (fun x => ((f x k : ℝ) : EReal)) (Fin.ext (by simp only [cr]; simp; omega)))
  split
  · exact (hc _ k).trans (congrArg (fun x => ((f x k : ℝ) : EReal)) (Fin.ext (by simp only [cr]; simp; omega)))
  · exact (hd _ k).trans (congrArg (fun x => ((f x k : ℝ) : EReal)) (Fin.ext (by simp only [cr]; simp; omega)))

theorem Is.mixC {wm z : FVec Ideal S128x128 .bf16} {bx : FVec Ideal S128x128 .f32} {w y b : Fin 128 → Fin 128 → ℝ} (hw : Is wm w) (hz : Is z y) (hb : Is bx b) :
    Is (mixC wm z bx) fun i d => (∑ j, w i j * y j d) + b i d := by
  intro i d
  have e := hb i d
  pointwise [KernelOps.mixC]
  simp only [hw i _, hz _ d, e, mul_coe, coe_sum, add_coe]

theorem Is.dznC {wmt : FVec Ideal S128x128 .bf16} {dm : FVec Ideal S128x128 .f32} {w y : Fin 128 → Fin 128 → ℝ} (hw : Is wmt w) (hz : Is dm y) :
    Is (dznC wmt dm) fun i d => ∑ j, w i j * y j d := by
  intro i d
  pointwise [KernelOps.dznC]
  simp only [hw i _, hz _ d, mul_coe, coe_sum, add_coe]

/-- `v` holds the real numbers `f`, under a leading axis of one. -/
def Is1 {n m : ℕ} {φ : FTy} (v : FVec Ideal ⟨3, ![1, n, m]⟩ φ) (f : Fin n → Fin m → ℝ) : Prop := ∀ r d, v (ix3 0 r d) = ((f r d : ℝ) : EReal)

theorem sge_eq (i j : Fin 128) :
    IntOp.cmpi .sge (BitVec.ofNat 32 i.val) (BitVec.ofNat 32 j.val) = if j ≤ i then 1#1 else 0#1 := by
  have hi : (BitVec.ofNat 32 i.val).toInt = i.val := by
    rw [BitVec.toInt_eq_toNat_of_lt] <;> simp only [BitVec.toNat_ofNat] <;> omega
  have hj : (BitVec.ofNat 32 j.val).toInt = j.val := by
    rw [BitVec.toInt_eq_toNat_of_lt] <;> simp only [BitVec.toNat_ofNat] <;> omega
  show BitVec.ofBool ((BitVec.ofNat 32 j.val).sle (BitVec.ofNat 32 i.val)) = _
  rw [BitVec.sle, hi, hj]
  by_cases h : j ≤ i
  · rw [if_pos h, decide_eq_true (by exact_mod_cast h)]; rfl
  · rw [if_neg h, decide_eq_false (by exact_mod_cast h)]; rfl

theorem eq_eq (c : Fin 128) (g : Fin 4) : IntOp.cmpi .eq (BitVec.ofNat 32 c.val) (BitVec.ofNat 32 g.val) = if c.val = g.val then 1#1 else 0#1 := by
  have hh : BitVec.ofNat 32 c.val = BitVec.ofNat 32 g.val ↔ c.val = g.val := by
    rw [← BitVec.toNat_inj]; simp only [BitVec.toNat_ofNat]; omega
  show BitVec.ofBool (BitVec.ofNat 32 c.val == BitVec.ofNat 32 g.val) = _
  by_cases h : c.val = g.val
  · rw [if_pos h, h]; simp
  · rw [if_neg h, beq_eq_false_iff_ne.2 fun e => h (hh.1 e)]; rfl

theorem Is1.dwC {acc : FVec Ideal S1x128x128 .f32} {dm : FVec Ideal S128x128 .f32} {z : FVec Ideal S128x128 .bf16} {A y x : Fin 128 → Fin 128 → ℝ}
    (hA : Is1 acc A) (hy : Is dm y) (hx : Is z x) : Is1 (dwC acc dm z) fun i j => A i j + if j ≤ i then ∑ d, y i d * x j d else 0 := by
  intro i j
  have e := hA i j
  pointwise [KernelOps.dwC, k0_pay21]
  simp only [hy i _, hx j _, e, mul_coe, coe_sum, add_coe]
  rw [sge_eq]
  split
  · exact add_coe _ _
  · exact add_coe _ 0

theorem Is.dbC (g : Fin 4) {acc dm : FVec Ideal S128x128 .f32} {A y : Fin 128 → Fin 128 → ℝ}
    (hA : Is acc A) (hy : Is dm y) : Is (dbC (BitVec.ofNat 32 g.val) acc dm) fun i c => A i c + if c.val = g.val then ∑ d, y i d else 0 := by
  intro i c
  have e := hA i c
  pointwise [KernelOps.dbC]
  simp only [hy i _, e, mul_coe, coe_sum, add_coe]
  rw [eq_eq]
  split
  · exact add_coe _ _
  · exact add_coe _ 0

theorem Is.csV {acc : FVec Ideal S1x128 .f32} {v : FVec Ideal S512x128 .f32} {A : Fin 1 → Fin 128 → ℝ} {f : Fin 512 → Fin 128 → ℝ}
    (hA : Is acc A) (h : Is v f) : Is (csV acc v) fun i d => A i d + ∑ r, f r d := by
  intro i d
  have e := hA i d
  pointwise [KernelOps.csV]
  simp only [h _ d, e, coe_sum, add_coe]

/-- The block of a row among the 512, and its place there. -/
def qr (r : Fin 512) : Fin 4 := ⟨r.val / 128, by omega⟩
def pr (r : Fin 512) : Fin 128 := ⟨r.val % 128, by omega⟩
theorem qr_cr (c : Fin 4) (i : Fin 128) : qr (cr c i) = c := Fin.ext (by simp only [qr, cr]; omega)
theorem pr_cr (c : Fin 4) (i : Fin 128) : pr (cr c i) = i := Fin.ext (by simp only [pr, cr]; omega)

theorem Is.duV {wm : FVec Ideal S128x128 .bf16} {bx : FVec Ideal S128x128 .f32} {zn : FVec Ideal S512x128 .bf16} {ds : FVec Ideal S512x128 .f32}
    {w b : Fin 128 → Fin 128 → ℝ} {z s : Fin 512 → Fin 128 → ℝ} (hw : Is wm w) (hb : Is bx b) (hz : Is zn z) (hs : Is ds s) :
    Is (duV wm bx zn ds) fun r d => s r d * ((∑ j, w (pr r) j * z (cr (qr r) j) d) + b (pr r) d) := by
  apply Is.cat4
  · simpa only [qr_cr, pr_cr] using hs.ch0.mul1 (hw.mixC hz.ch0 hb)
  · simpa only [qr_cr, pr_cr] using hs.ch1.mul1 (hw.mixC hz.ch1 hb)
  · simpa only [qr_cr, pr_cr] using hs.ch2.mul1 (hw.mixC hz.ch2 hb)
  · simpa only [qr_cr, pr_cr] using hs.ch3.mul1 (hw.mixC hz.ch3 hb)

theorem Is.dznV {wmt : FVec Ideal S128x128 .bf16} {u ds : FVec Ideal S512x128 .f32}
    {w : Fin 128 → Fin 128 → ℝ} {y s : Fin 512 → Fin 128 → ℝ} (hw : Is wmt w) (hu : Is u y) (hs : Is ds s) :
    Is (dznV wmt u ds) fun r d => ∑ j, w (pr r) j * (s (cr (qr r) j) d * y (cr (qr r) j) d) := by
  apply Is.cat4
  · simpa only [qr_cr, pr_cr] using hw.dznC (hs.ch0.mul1 hu.ch0)
  · simpa only [qr_cr, pr_cr] using hw.dznC (hs.ch1.mul1 hu.ch1)
  · simpa only [qr_cr, pr_cr] using hw.dznC (hs.ch2.mul1 hu.ch2)
  · simpa only [qr_cr, pr_cr] using hw.dznC (hs.ch3.mul1 hu.ch3)

theorem Is1.dwV {acc : FVec Ideal S1x128x128 .f32} {u ds : FVec Ideal S512x128 .f32} {zn : FVec Ideal S512x128 .bf16}
    {A : Fin 128 → Fin 128 → ℝ} {y s z : Fin 512 → Fin 128 → ℝ} (hA : Is1 acc A) (hu : Is u y) (hs : Is ds s) (hz : Is zn z) :
    Is1 (dwV acc u ds zn) fun i j => A i j + if j ≤ i then ∑ c : Fin 4, ∑ d, s (cr c i) d * y (cr c i) d * z (cr c j) d else 0 := by
  intro i j
  refine (((((hA.dwC (hs.ch0.mul1 hu.ch0) hz.ch0).dwC (hs.ch1.mul1 hu.ch1) hz.ch1).dwC (hs.ch2.mul1 hu.ch2) hz.ch2).dwC (hs.ch3.mul1 hu.ch3) hz.ch3) i j).trans ?_
  beta_reduce
  congr 1
  rw [Fin.sum_univ_four]
  split <;> ring

theorem Is.dbV (g : Fin 4) {acc : FVec Ideal S128x128 .f32} {u ds : FVec Ideal S512x128 .f32}
    {A : Fin 128 → Fin 128 → ℝ} {y s : Fin 512 → Fin 128 → ℝ} (hA : Is acc A) (hu : Is u y) (hs : Is ds s) :
    Is (dbV (BitVec.ofNat 32 g.val) acc u ds) fun i c => A i c + if c.val = g.val then ∑ q : Fin 4, ∑ d, s (cr q i) d * y (cr q i) d else 0 := by
  intro i c
  refine (((((hA.dbC g (hs.ch0.mul1 hu.ch0)).dbC g (hs.ch1.mul1 hu.ch1)).dbC g (hs.ch2.mul1 hu.ch2)).dbC g (hs.ch3.mul1 hu.ch3)) i c).trans ?_
  beta_reduce
  congr 1
  rw [Fin.sum_univ_four]
  split <;> ring

end Cert.KernelOps
-- ==== Proof.KernelTile.lean ====
/- What the kernel computes from one tile of 512 rows, at real numbers. -/
module

public import proofs.«01_k».proof.Proof.KernelOps

@[expose] public section

noncomputable section

namespace Cert.KernelTile

open Cert.KernelOps Cert.KernelIdeal Cert.KernelIdeal.Gen Idealize.ShloMosaic Idealize.ShloMosaic.TcCoe Idealize.SL.Sem
open Cert.Spec

/-- Row `r` of tile `t`. -/
def srow (t : Fin 16) (r : Fin 512) : Fin 8192 := ⟨t.val * 512 + r.val, by omega⟩
/-- Block `c` of tile `t`. -/
def tb (t : Fin 16) (c : Fin 4) : Fin 64 := ⟨t.val * 4 + c.val, by omega⟩
theorem srow_cr (t : Fin 16) (c : Fin 4) (i : Fin 128) : srow t (cr c i) = row (tb t c) i := Fin.ext (by simp only [srow, cr, row, tb]; omega)
theorem pos_srow (t : Fin 16) (r : Fin 512) : pos (srow t r) = pr r := Fin.ext (by simp only [srow, pos, pr]; omega)
theorem blk_srow (t : Fin 16) (r : Fin 512) : blk (srow t r) = tb t (qr r) := Fin.ext (by simp only [srow, blk, tb, qr]; omega)

/-- The blocks of one tile hold the arguments' real numbers. -/
structure Tile (a : Args) (t : Fin 16) (x0 x1 x2 : FVec Ideal S4x512x128 .f32) (x3 : FVec Ideal S512x1024 .f32) (x4 : FVec Ideal S512x512 .f32)
    (x5 x6 : FVec Ideal S512x1024 .f32) (x7 : FVec Ideal S1x1024 .f32) (x8 x9 : FVec Ideal S1x128 .f32) (x10 x11 : FVec Ideal S4x128x128 .bf16)
    (x12 : FVec Ideal S128x512 .f32) (x13 : FVec Ideal S1024x2560 .bf16) : Prop where
  h0 : ∀ (p : Fin 4) (r : Fin 512) (l : Fin 128), x0 (ix3 p r l) = ((a.DQ (srow t r) (col p l) : ℝ) : EReal)
  h1 : ∀ (p : Fin 4) (r : Fin 512) (l : Fin 128), x1 (ix3 p r l) = ((a.DK (srow t r) (col p l) : ℝ) : EReal)
  h2 : ∀ (p : Fin 4) (r : Fin 512) (l : Fin 128), x2 (ix3 p r l) = ((a.DV (srow t r) (col p l) : ℝ) : EReal)
  h3 : ∀ (r : Fin 512) (c : Fin 1024), x3 (ix2 r c) = ((a.proj (srow t r) ⟨1536 + c.val, by omega⟩ : ℝ) : EReal)
  h4 : ∀ (r : Fin 512) (c : Fin 512), x4 (ix2 r c) = ((a.DS (srow t r) c : ℝ) : EReal)
  h5 : ∀ (r : Fin 512) (k : Fin 1024), x5 (ix2 r k) = ((a.X (srow t r) k : ℝ) : EReal)
  h6 : ∀ (r : Fin 512) (k : Fin 1024), x6 (ix2 r k) = ((a.DH (srow t r) k : ℝ) : EReal)
  h7 : ∀ (z : Fin 1) (k : Fin 1024), x7 (ix2 z k) = ((a.G k : ℝ) : EReal)
  h8 : ∀ (z : Fin 1) (d : Fin 128), x8 (ix2 z d) = ((a.LG d : ℝ) : EReal)
  h9 : ∀ (z : Fin 1) (d : Fin 128), x9 (ix2 z d) = ((a.LB d : ℝ) : EReal)
  h10 : ∀ (g : Fin 4) (i j : Fin 128), x10 (ix3 g i j) = ((a.wm g i j : ℝ) : EReal)
  h11 : ∀ (g : Fin 4) (i j : Fin 128), x11 (ix3 g i j) = ((a.wm g j i : ℝ) : EReal)
  h12 : ∀ (i : Fin 128) (c : Fin 512), x12 (ix2 i c) = ((a.BS (grp c) i : ℝ) : EReal)
  h13 : ∀ (k : Fin 1024) (c : Fin 2560), x13 (ix2 k c) = ((a.W k c : ℝ) : EReal)

variable {a : Args} {t : Fin 16} {x0 x1 x2 : FVec Ideal S4x512x128 .f32} {x3 : FVec Ideal S512x1024 .f32} {x4 : FVec Ideal S512x512 .f32}
    {x5 x6 : FVec Ideal S512x1024 .f32} {x7 : FVec Ideal S1x1024 .f32} {x8 x9 : FVec Ideal S1x128 .f32} {x10 x11 : FVec Ideal S4x128x128 .bf16}
    {x12 : FVec Ideal S128x512 .f32} {x13 : FVec Ideal S1024x2560 .bf16}
    (H : Tile a t x0 x1 x2 x3 x4 x5 x6 x7 x8 x9 x10 x11 x12 x13)
include H

theorem uR_is (g : Fin 4) : Is (uR g x3) fun r d => a.uRaw (srow t r) (col g d) := by
  intro r d
  fin_cases g
  · show uR (F := Ideal) 0 x3 _ = _
    pointwise [uR]
    exact (H.h3 r _).trans (congrArg (fun c => ((a.proj (srow t r) c : ℝ) : EReal)) (Fin.ext (by simp [col] <;> omega)))
  · show uR (F := Ideal) 1 x3 _ = _
    pointwise [uR]
    exact (H.h3 r _).trans (congrArg (fun c => ((a.proj (srow t r) c : ℝ) : EReal)) (Fin.ext (by simp [col] <;> omega)))
  · show uR (F := Ideal) 2 x3 _ = _
    pointwise [uR]
    exact (H.h3 r _).trans (congrArg (fun c => ((a.proj (srow t r) c : ℝ) : EReal)) (Fin.ext (by simp [col] <;> omega)))
  · show uR (F := Ideal) 3 x3 _ = _
    pointwise [uR]
    exact (H.h3 r _).trans (congrArg (fun c => ((a.proj (srow t r) c : ℝ) : EReal)) (Fin.ext (by simp [col] <;> omega)))

theorem zR_is (g : Fin 4) : Is (zR g x3) fun r d => a.zRaw (srow t r) (col g d) := by
  intro r d
  fin_cases g
  · show zR (F := Ideal) 0 x3 _ = _
    pointwise [zR]
    exact (H.h3 r _).trans (congrArg (fun c => ((a.proj (srow t r) c : ℝ) : EReal)) (Fin.ext (by simp [col] <;> omega)))
  · show zR (F := Ideal) 1 x3 _ = _
    pointwise [zR]
    exact (H.h3 r _).trans (congrArg (fun c => ((a.proj (srow t r) c : ℝ) : EReal)) (Fin.ext (by simp [col] <;> omega)))
  · show zR (F := Ideal) 2 x3 _ = _
    pointwise [zR]
    exact (H.h3 r _).trans (congrArg (fun c => ((a.proj (srow t r) c : ℝ) : EReal)) (Fin.ext (by simp [col] <;> omega)))
  · show zR (F := Ideal) 3 x3 _ = _
    pointwise [zR]
    exact (H.h3 r _).trans (congrArg (fun c => ((a.proj (srow t r) c : ℝ) : EReal)) (Fin.ext (by simp [col] <;> omega)))

theorem ds_is (g : Fin 4) : Is (φ := .f32) (dsS (F := Ideal) g x4) fun r d => a.ds (srow t r) g d := by
  intro r d
  fin_cases g
  · show dsS (F := Ideal) 0 x4 _ = _
    pointwise [dsS]
    exact (H.h4 r _).trans (congrArg (fun c => ((a.DS (srow t r) c : ℝ) : EReal)) (Fin.ext (by simp [col] <;> omega)))
  · show dsS (F := Ideal) 1 x4 _ = _
    pointwise [dsS]
    exact (H.h4 r _).trans (congrArg (fun c => ((a.DS (srow t r) c : ℝ) : EReal)) (Fin.ext (by simp [col] <;> omega)))
  · show dsS (F := Ideal) 2 x4 _ = _
    pointwise [dsS]
    exact (H.h4 r _).trans (congrArg (fun c => ((a.DS (srow t r) c : ℝ) : EReal)) (Fin.ext (by simp [col] <;> omega)))
  · show dsS (F := Ideal) 3 x4 _ = _
    pointwise [dsS]
    exact (H.h4 r _).trans (congrArg (fun c => ((a.DS (srow t r) c : ℝ) : EReal)) (Fin.ext (by simp [col] <;> omega)))

theorem bx_is (g : Fin 4) : Is (φ := .f32) (bxS (F := Ideal) g x12) fun i _ => a.BS g i := by
  intro r d
  fin_cases g
  · show bxS (F := Ideal) 0 x12 _ = _
    pointwise [bxS]
    exact (H.h12 r _).trans (congrArg (fun c => ((a.BS c r : ℝ) : EReal)) (Fin.ext (by simp [grp] <;> omega)))
  · show bxS (F := Ideal) 1 x12 _ = _
    pointwise [bxS]
    exact (H.h12 r _).trans (congrArg (fun c => ((a.BS c r : ℝ) : EReal)) (Fin.ext (by simp [grp] <;> omega)))
  · show bxS (F := Ideal) 2 x12 _ = _
    pointwise [bxS]
    exact (H.h12 r _).trans (congrArg (fun c => ((a.BS c r : ℝ) : EReal)) (Fin.ext (by simp [grp] <;> omega)))
  · show bxS (F := Ideal) 3 x12 _ = _
    pointwise [bxS]
    exact (H.h12 r _).trans (congrArg (fun c => ((a.BS c r : ℝ) : EReal)) (Fin.ext (by simp [grp] <;> omega)))

theorem wm_is (g : Fin 4) : Is (slabW g x10) (a.wm g) := by
  intro r d
  fin_cases g
  · show slabW (F := Ideal) 0 x10 _ = _
    pointwise [slabW, slab16]
    exact (H.h10 0 r d)
  · show slabW (F := Ideal) 1 x10 _ = _
    pointwise [slabW, slab16]
    exact (H.h10 1 r d)
  · show slabW (F := Ideal) 2 x10 _ = _
    pointwise [slabW, slab16]
    exact (H.h10 2 r d)
  · show slabW (F := Ideal) 3 x10 _ = _
    pointwise [slabW, slab16]
    exact (H.h10 3 r d)

theorem wmt_is (g : Fin 4) : Is (slabW g x11) fun i j => a.wm g j i := by
  intro r d
  fin_cases g
  · show slabW (F := Ideal) 0 x11 _ = _
    pointwise [slabW, slab16]
    exact (H.h11 0 r d)
  · show slabW (F := Ideal) 1 x11 _ = _
    pointwise [slabW, slab16]
    exact (H.h11 1 r d)
  · show slabW (F := Ideal) 2 x11 _ = _
    pointwise [slabW, slab16]
    exact (H.h11 2 r d)
  · show slabW (F := Ideal) 3 x11 _ = _
    pointwise [slabW, slab16]
    exact (H.h11 3 r d)

theorem pairq_is (g : Fin 4) : Is (pairS g x0) fun r d => a.DQ (srow t r) (col g d) := by
  intro r d
  fin_cases g
  · show pairS (F := Ideal) 0 x0 _ = _
    pointwise [pairS]
    exact (H.h0 0 r d)
  · show pairS (F := Ideal) 1 x0 _ = _
    pointwise [pairS]
    exact (H.h0 1 r d)
  · show pairS (F := Ideal) 2 x0 _ = _
    pointwise [pairS]
    exact (H.h0 2 r d)
  · show pairS (F := Ideal) 3 x0 _ = _
    pointwise [pairS]
    exact (H.h0 3 r d)

theorem pairk_is (g : Fin 4) : Is (pairS g x1) fun r d => a.DK (srow t r) (col g d) := by
  intro r d
  fin_cases g
  · show pairS (F := Ideal) 0 x1 _ = _
    pointwise [pairS]
    exact (H.h1 0 r d)
  · show pairS (F := Ideal) 1 x1 _ = _
    pointwise [pairS]
    exact (H.h1 1 r d)
  · show pairS (F := Ideal) 2 x1 _ = _
    pointwise [pairS]
    exact (H.h1 2 r d)
  · show pairS (F := Ideal) 3 x1 _ = _
    pointwise [pairS]
    exact (H.h1 3 r d)

theorem pairv_is (g : Fin 4) : Is (pairS g x2) fun r d => a.DV (srow t r) (col g d) := by
  intro r d
  fin_cases g
  · show pairS (F := Ideal) 0 x2 _ = _
    pointwise [pairS]
    exact (H.h2 0 r d)
  · show pairS (F := Ideal) 1 x2 _ = _
    pointwise [pairS]
    exact (H.h2 1 r d)
  · show pairS (F := Ideal) 2 x2 _ = _
    pointwise [pairS]
    exact (H.h2 2 r d)
  · show pairS (F := Ideal) 3 x2 _ = _
    pointwise [pairS]
    exact (H.h2 3 r d)

theorem uG_is (g : Fin 4) : Is (uG g x3) fun r d => a.u (srow t r) g d := (uR_is H g).act
theorem zG_is (g : Fin 4) : Is (act (zR g x3)) fun r d => a.z (srow t r) g d := (zR_is H g).act
theorem hG_is (g : Fin 4) : Is (hG g x3) fun r d => hat (a.z (srow t r) g) d := (zG_is H g).hatV
theorem znG_is (g : Fin 4) : Is (znG g x3 x8 x9) fun r d => a.zn (srow t r) g d := (hG_is H g).znV H.h8 H.h9

theorem dznG_is (g : Fin 4) : Is (dznG g x3 x4 x11) fun r d => a.dzn (srow t r) g d := by
  intro r d
  refine ((wmt_is H g).dznV (uG_is H g) (ds_is H g) r d).trans ?_
  beta_reduce
  simp only [srow_cr]
  unfold Args.dzn Args.dm
  rw [pos_srow, blk_srow]

theorem duG_is (g : Fin 4) : Is (duG g x3 x4 x8 x9 x10 x12) fun r d => a.du (srow t r) g d := by
  intro r d
  refine ((wm_is H g).duV (bx_is H g) (znG_is H g) (ds_is H g) r d).trans ?_
  beta_reduce
  simp only [srow_cr]
  unfold Args.du Args.mix
  rw [pos_srow, blk_srow]

theorem stU_is (g : Fin 4) : Is (stU g x3 x4 x8 x9 x10 x12) fun r d => a.du (srow t r) g d * dgelu (a.uRaw (srow t r) (col g d)) :=
  (uR_is H g).dact (duG_is H g)
theorem stZ_is (g : Fin 4) : Is (stZ g x3 x4 x8 x11) fun r d => a.dz (srow t r) g d * dgelu (a.zRaw (srow t r) (col g d)) :=
  (zR_is H g).dact (Is.lnbV H.h8 (zG_is H g).cenV.rsV (hG_is H g) (dznG_is H g))
theorem stQ_is (g : Fin 4) : Is (stQ g x0) fun r d => a.DQ (srow t r) (col g d) * (1 / 8) := by
  intro r d
  have e := pairq_is H g r d
  pointwise [stQ]
  simp only [e, bits_eighth, mul_coe]
theorem stK_is (g : Fin 4) : Is (stK g x1) fun r d => a.DK (srow t r) (col g d) := by
  intro r d
  have e := pairk_is H g r d
  pointwise [stK]
  exact e
theorem stV_is (g : Fin 4) : Is (stK g x2) fun r d => a.DV (srow t r) (col g d) := by
  intro r d
  have e := pairv_is H g r d
  pointwise [stK]
  exact e

omit H in
/-- A stripe agrees with the projection's gradient where it is stored. -/
theorem piece {off : ℕ} {inb} {v : FVec Ideal S512x128 .bf16} {f : Fin 512 → Fin 128 → ℝ} (hv : Is v f)
    (hf : ∀ r d (h : off + d.val < 2560), f r d = a.dproj (srow t r) ⟨off + d.val, h⟩) (x : (Rect.unit (s := S512x2560) ![0, off] ![512, 128] inb).shape.Idx) :
    v x = ((a.dproj (srow t ((Rect.unit (s := S512x2560) ![0, off] ![512, 128] inb).emb x 0)) ((Rect.unit (s := S512x2560) ![0, off] ![512, 128] inb).emb x 1) : ℝ) : EReal) := by
  have e0 : ((Rect.unit (s := S512x2560) ![0, off] ![512, 128] inb).emb x 0 : ℕ) = x 0 := (Rect.idx_unit_val _ _ inb x 0).trans (Nat.zero_add _)
  have e1 : ((Rect.unit (s := S512x2560) ![0, off] ![512, 128] inb).emb x 1 : ℕ) = off + x 1 := Rect.idx_unit_val _ _ inb x 1
  have hlt : off + (x 1 : ℕ) < 2560 := e1 ▸ ((Rect.unit (s := S512x2560) ![0, off] ![512, 128] inb).emb x 1).isLt
  have hx : x = ix2 (n0 := 512) (n1 := 128) (x 0) (x 1) := by
    funext k; match k with | ⟨0, _⟩ => rfl | ⟨1, _⟩ => rfl
  have := hv (x 0) (x 1)
  rw [hf (x 0) (x 1) hlt] at this
  refine (congrArg v hx).trans (this.trans ?_)
  congr 2
  · exact congrArg (srow t) (Fin.ext e0.symm)
  · exact Fin.ext e1.symm

omit H in
theorem dproj_q (s : Fin 8192) (g : Fin 4) (d : Fin 128) (c : Fin 2560) (h : c.val = g.val * 128 + d.val) : a.dproj s c = a.DQ s (col g d) * (1 / 8) := by
  unfold Args.dproj
  rw [dif_pos (by omega)]; congr 2; exact Fin.ext (by simp only [col]; omega)
omit H in
theorem dproj_k (s : Fin 8192) (g : Fin 4) (d : Fin 128) (c : Fin 2560) (h : c.val = 512 + (g.val * 128 + d.val)) : a.dproj s c = a.DK s (col g d) := by
  unfold Args.dproj
  rw [dif_neg (by omega), dif_pos (by omega)]; congr 1; exact Fin.ext (by simp only [col]; omega)
omit H in
theorem dproj_v (s : Fin 8192) (g : Fin 4) (d : Fin 128) (c : Fin 2560) (h : c.val = 1024 + (g.val * 128 + d.val)) : a.dproj s c = a.DV s (col g d) := by
  unfold Args.dproj
  rw [dif_neg (by omega), dif_neg (by omega), dif_pos (by omega)]; congr 1; exact Fin.ext (by simp only [col]; omega)
omit H in
theorem dproj_u (s : Fin 8192) (g : Fin 4) (d : Fin 128) (c : Fin 2560) (h : c.val = 1536 + (g.val * 128 + d.val)) :
    a.dproj s c = a.du s g d * dgelu (a.uRaw s (col g d)) := by
  unfold Args.dproj
  rw [dif_neg (by omega), dif_neg (by omega), dif_neg (by omega), dif_pos (by omega)]
  have : (⟨c.val - 1536, by omega⟩ : Fin 512) = col g d := Fin.ext (by simp only [col]; omega)
  rw [this]; beta_reduce; rw [grp_col, sub_col]
omit H in
theorem dproj_z (s : Fin 8192) (g : Fin 4) (d : Fin 128) (c : Fin 2560) (h : c.val = 2048 + (g.val * 128 + d.val)) :
    a.dproj s c = a.dz s g d * dgelu (a.zRaw s (col g d)) := by
  unfold Args.dproj
  rw [dif_neg (by omega), dif_neg (by omega), dif_neg (by omega), dif_neg (by omega)]
  have : (⟨c.val - 2048, by omega⟩ : Fin 512) = col g d := Fin.ext (by simp only [col]; omega)
  rw [this]; beta_reduce; rw [grp_col, sub_col]

/-- The tile's rows of the projection's gradient. -/
theorem stripes_is : Is (φ := .bf16) (View.canon (stripes (F := Ideal) x0 x1 x2 x3 x4 x8 x9 x10 x11 x12)) fun r c => a.dproj (srow t r) c := by
  intro r c
  refine View.canon_apply_of_pieces (Val := Elt Ideal) (e := .bf16) (S := S512x2560) (fun i => (((a.dproj (srow t (i 0)) (i 1) : ℝ) : EReal) : Ideal .bf16)) _ ?_ _ ?_
  · simp only [stripes, List.forall_mem_cons]
    exact ⟨
      piece (stZ_is H 3) fun r d h => (dproj_z _ 3 d _ (by simp <;> omega)).symm,
      piece (stU_is H 3) fun r d h => (dproj_u _ 3 d _ (by simp <;> omega)).symm,
      piece (stZ_is H 2) fun r d h => (dproj_z _ 2 d _ (by simp <;> omega)).symm,
      piece (stU_is H 2) fun r d h => (dproj_u _ 2 d _ (by simp <;> omega)).symm,
      piece (stZ_is H 1) fun r d h => (dproj_z _ 1 d _ (by simp <;> omega)).symm,
      piece (stU_is H 1) fun r d h => (dproj_u _ 1 d _ (by simp <;> omega)).symm,
      piece (stZ_is H 0) fun r d h => (dproj_z _ 0 d _ (by simp <;> omega)).symm,
      piece (stU_is H 0) fun r d h => (dproj_u _ 0 d _ (by simp <;> omega)).symm,
      piece (stV_is H 3) fun r d h => (dproj_v _ 3 d _ (by simp <;> omega)).symm,
      piece (stK_is H 3) fun r d h => (dproj_k _ 3 d _ (by simp <;> omega)).symm,
      piece (stQ_is H 3) fun r d h => (dproj_q _ 3 d _ (by simp <;> omega)).symm,
      piece (stV_is H 2) fun r d h => (dproj_v _ 2 d _ (by simp <;> omega)).symm,
      piece (stK_is H 2) fun r d h => (dproj_k _ 2 d _ (by simp <;> omega)).symm,
      piece (stQ_is H 2) fun r d h => (dproj_q _ 2 d _ (by simp <;> omega)).symm,
      piece (stV_is H 1) fun r d h => (dproj_v _ 1 d _ (by simp <;> omega)).symm,
      piece (stK_is H 1) fun r d h => (dproj_k _ 1 d _ (by simp <;> omega)).symm,
      piece (stQ_is H 1) fun r d h => (dproj_q _ 1 d _ (by simp <;> omega)).symm,
      piece (stV_is H 0) fun r d h => (dproj_v _ 0 d _ (by simp <;> omega)).symm,
      piece (stK_is H 0) fun r d h => (dproj_k _ 0 d _ (by simp <;> omega)).symm,
      piece (stQ_is H 0) fun r d h => (dproj_q _ 0 d _ (by simp <;> omega)).symm,
      fun p hp => absurd hp List.not_mem_nil⟩
  · simp only [stripes, List.exists_mem_cons_iff, Rect.mem_set_unit, Fin.forall_fin_two]
    simp
    omega

theorem rs_is : Is (k0_pay217 (F := Ideal) x5) fun r _ => rstd (a.X (srow t r)) := by
  intro r z
  pointwise [k0_pay217]
  simp only [H.h5, mul_coe, coe_sum, bits_1024, div_1024, bits_eps, add_coe]
  refine Eq.trans ?_ (irsqrt_coe _ (msq_pos (a.X (srow t r))))
  unfold msq
  norm_num
theorem xhat_is : Is (k0_pay218 (F := Ideal) x5) fun r k => a.X (srow t r) k * rstd (a.X (srow t r)) := by
  intro r k
  have e := rs_is H r 0
  pointwise [k0_pay218]
  simp only [H.h5, e, mul_coe]

section
variable {P : FVec Ideal S512x2560 .bf16} (hP : Is P fun r c => a.dproj (srow t r) c)
include hP

theorem da_is : Is (k0_pay219 (F := Ideal) P x13) fun r k => a.da (srow t r) k := by
  intro r k
  pointwise [k0_pay219]
  simp only [hP r _, H.h13, mul_coe, coe_sum]
  rfl

theorem dx_is : Is (k0_pay2 (F := Ideal) (k0_pay220 (k0_pay217 x5) (k0_pay218 x5) P x13 x7) x6) fun r k => a.dx (srow t r) k := by
  intro r k
  have e1 (z) := rs_is H r z
  have e2 := xhat_is H r
  have e3 := da_is H hP r
  pointwise [k0_pay2, k0_pay220]
  simp only [e1, e2, e3, H.h6, H.h7, mul_coe, coe_sum, bits_1024, div_1024, add_coe, sub_coe]
  unfold Args.dx rmsBack mean
  norm_num

theorem dg_is {acc : FVec Ideal S1x1024 .f32} {A : Fin 1 → Fin 1024 → ℝ} (hA : Is acc A) :
    Is (k0_pay1 (F := Ideal) (k0_pay221 (k0_pay218 x5) P x13) acc) fun z k => A z k + ∑ r, a.da (srow t r) k * (a.X (srow t r) k * rstd (a.X (srow t r))) := by
  intro z k
  have e := hA z k
  have e2 (r) := xhat_is H r k
  have e3 (r) := da_is H hP r k
  pointwise [k0_pay1, k0_pay221]
  simp only [e, e2, e3, mul_coe, coe_sum, add_coe]
end

theorem dlg_is {acc : FVec Ideal S1x128 .f32} {A : Fin 1 → Fin 128 → ℝ} (hA : Is acc A) :
    Is (csV (csV (csV (csV acc (mulf (dznG 0 x3 x4 x11) (hG 0 x3))) (mulf (dznG 1 x3 x4 x11) (hG 1 x3))) (mulf (dznG 2 x3 x4 x11) (hG 2 x3))) (mulf (dznG 3 x3 x4 x11) (hG 3 x3)))
      fun z d => A z d + ∑ r, ∑ g, a.dzn (srow t r) g d * hat (a.z (srow t r) g) d := by
  intro z d
  refine (((((hA.csV ((dznG_is H 0).mulf (hG_is H 0))).csV ((dznG_is H 1).mulf (hG_is H 1))).csV ((dznG_is H 2).mulf (hG_is H 2))).csV ((dznG_is H 3).mulf (hG_is H 3))) z d).trans ?_
  beta_reduce
  simp only [Fin.sum_univ_four, Finset.sum_add_distrib, add_assoc]

theorem dlb_is {acc : FVec Ideal S1x128 .f32} {A : Fin 1 → Fin 128 → ℝ} (hA : Is acc A) :
    Is (csV (csV (csV (csV acc (dznG 0 x3 x4 x11)) (dznG 1 x3 x4 x11)) (dznG 2 x3 x4 x11)) (dznG 3 x3 x4 x11))
      fun z d => A z d + ∑ r, ∑ g, a.dzn (srow t r) g d := by
  intro z d
  refine (((((hA.csV (dznG_is H 0)).csV (dznG_is H 1)).csV (dznG_is H 2)).csV (dznG_is H 3)) z d).trans ?_
  beta_reduce
  simp only [Fin.sum_univ_four, Finset.sum_add_distrib, add_assoc]

theorem dw_is (g : Fin 4) {acc : FVec Ideal S1x128x128 .f32} {A : Fin 128 → Fin 128 → ℝ} (hA : Is1 acc A) :
    Is1 (dwV acc (uG g x3) (dsS (F := Ideal) g x4) (znG g x3 x8 x9))
      fun i j => A i j + if j ≤ i then ∑ c, ∑ d, a.dm (row (tb t c) i) g d * a.zn (row (tb t c) j) g d else 0 := by
  intro i j
  refine (hA.dwV (uG_is H g) (ds_is H g) (znG_is H g) i j).trans ?_
  beta_reduce
  simp only [srow_cr]
  rfl

theorem db_is {acc : FVec Ideal S128x128 .f32} {A : Fin 128 → Fin 128 → ℝ} (hA : Is acc A) :
    Is (dbV (BitVec.ofNat 32 (3 : Fin 4).val) (dbV (BitVec.ofNat 32 (2 : Fin 4).val) (dbV (BitVec.ofNat 32 (1 : Fin 4).val) (dbV (BitVec.ofNat 32 (0 : Fin 4).val) acc
        (uG 0 x3) (dsS (F := Ideal) 0 x4)) (uG 1 x3) (dsS (F := Ideal) 1 x4)) (uG 2 x3) (dsS (F := Ideal) 2 x4)) (uG 3 x3) (dsS (F := Ideal) 3 x4))
      fun i k => A i k + if h : k.val < 4 then ∑ c, ∑ d, a.dm (row (tb t c) i) ⟨k.val, h⟩ d else 0 := by
  intro i k
  refine (((((hA.dbV 0 (uG_is H 0) (ds_is H 0)).dbV 1 (uG_is H 1) (ds_is H 1)).dbV 2 (uG_is H 2) (ds_is H 2)).dbV 3 (uG_is H 3) (ds_is H 3)) i k).trans ?_
  beta_reduce
  simp only [srow_cr]
  congr 1
  by_cases h : k.val < 4
  · rw [dif_pos h]
    obtain ⟨k, hk⟩ := k
    have : k = 0 ∨ k = 1 ∨ k = 2 ∨ k = 3 := by simp only at h; omega
    rcases this with rfl | rfl | rfl | rfl <;> simp <;> rfl
  · rw [dif_neg h]
    have h0 : ¬ k.val = 0 := by omega
    have h1 : ¬ k.val = 1 := by omega
    have h2 : ¬ k.val = 2 := by omega
    have h3 : ¬ k.val = 3 := by omega
    simp [h0, h1, h2, h3]

end Cert.KernelTile
-- ==== Proof.RefValue.lean ====
/- The reference program's results as the real gradient (`Spec`): each operation read at an index over arguments that are
   real numbers. -/
module

public import proofs.«01_k».proof.Proof.Gen.ReferenceIdeal.Read
public import proofs.«01_k».proof.Proof.Spec
public import Idealize.ShloMosaic.Lib.Pointwise
public import Idealize.ShloMosaic.Lib.TwoAxisContraction
public import Idealize.ShloMosaic.Lib.KernelVsHost

@[expose] public section

noncomputable section

namespace Cert.RefValue

open Cert.ReferenceIdeal Cert.ReferenceIdeal.Read Cert.Spec Idealize.ShloMosaic

/-- An f32 array of the ideal model. -/
abbrev Arr (s : Shape) := (⟨s, .f32⟩ : BufTy).Contents (Elt Ideal)

/-- The twelve argument arrays hold the real numbers `a`. -/
structure Agree (a : Args) (x0 : Arr S8192x1024) (x1 : Arr S1x1024) (x2 : Arr S1024x2560) (x3 x4 : Arr S1x128)
    (x5 : Arr S4x128x128) (x6 : Arr S4x128) (x7 : Arr S8192x1024) (x8 x9 x10 x11 : Arr S8192x512) : Prop where
  h0 : ∀ s k, x0 (ix2 s k) = ((a.X s k : ℝ) : EReal)
  h1 : ∀ z k, x1 (ix2 z k) = ((a.G k : ℝ) : EReal)
  h2 : ∀ k c, x2 (ix2 k c) = ((a.W k c : ℝ) : EReal)
  h3 : ∀ z d, x3 (ix2 z d) = ((a.LG d : ℝ) : EReal)
  h4 : ∀ z d, x4 (ix2 z d) = ((a.LB d : ℝ) : EReal)
  h5 : ∀ g i j, x5 (ix3 g i j) = ((a.WS g i j : ℝ) : EReal)
  h6 : ∀ g i, x6 (ix2 g i) = ((a.BS g i : ℝ) : EReal)
  h7 : ∀ s k, x7 (ix2 s k) = ((a.DH s k : ℝ) : EReal)
  h8 : ∀ s c, x8 (ix2 s c) = ((a.DQ s c : ℝ) : EReal)
  h9 : ∀ s c, x9 (ix2 s c) = ((a.DK s c : ℝ) : EReal)
  h10 : ∀ s c, x10 (ix2 s c) = ((a.DV s c : ℝ) : EReal)
  h11 : ∀ s c, x11 (ix2 s c) = ((a.DS s c : ℝ) : EReal)

variable {a : Args} {x0 : Arr S8192x1024} {x1 : Arr S1x1024} {x2 : Arr S1024x2560} {x3 x4 : Arr S1x128}
  {x5 : Arr S4x128x128} {x6 : Arr S4x128} {x7 : Arr S8192x1024} {x8 x9 x10 x11 : Arr S8192x512}
  (H : Agree a x0 x1 x2 x3 x4 x5 x6 x7 x8 x9 x10 x11)
include H

theorem r6 (s : Fin 8192) (z : Fin 1) : val_main_v6 (F := Ideal) x0 (ix2 s z) = ((msq (a.X s) : ℝ) : EReal) := by
  pointwise [val_main_v6, val_main_v5, val_main_v4, val_main_v3, val_main_v2, val_main_v1, val_main_v0, val_main_cst, val_main_cst_0, val_main_cst_1]
  simp only [H.h0, bits_1024, bits_eps, mul_coe, coe_sum, div_1024, add_coe]
  rfl
theorem r7 (s : Fin 8192) (z : Fin 1) : val_main_v7 (F := Ideal) x0 (ix2 s z) = ((rstd (a.X s) : ℝ) : EReal) := by
  pointwise [val_main_v7]
  rw [r6 H, irsqrt_coe _ (msq_pos _)]; rfl
theorem r10 (s : Fin 8192) (z : Fin 1) :
    val_main_v10 (F := Ideal) x0 (ix2 s z) = ((-(1 / 2) * (rstd (a.X s) / msq (a.X s)) : ℝ) : EReal) := by
  pointwise [val_main_v10, val_main_v9, val_main_v8, val_main_cst_2]
  rw [r6 H, r7 H, div_coe _ _ (msq_pos _).ne', bits_neghalf, mul_coe]
theorem r12 (s : Fin 8192) (k : Fin 1024) :
    val_main_v12 (F := Ideal) x0 (ix2 s k) = ((a.X s k * rstd (a.X s) : ℝ) : EReal) := by
  pointwise [val_main_v12, val_main_v11]
  rw [r7 H, H.h0, mul_coe]
theorem r15 (s : Fin 8192) (c : Fin 2560) : val_main_v15 (F := Ideal) x0 x1 x2 (ix2 s c) = ((a.proj s c : ℝ) : EReal) := by
  pointwise [val_main_v15, val_main_v14, val_main_v13]
  simp only [r12 H, H.h1, H.h2, mul_coe, coe_sum]; rfl
theorem r19 (s : Fin 8192) (c : Fin 512) : val_main_v19 (F := Ideal) x0 x1 x2 (ix2 s c) = ((a.uRaw s c : ℝ) : EReal) := by
  pointwise [val_main_v19]
  exact r15 H s _
theorem r20 (s : Fin 8192) (c : Fin 512) : val_main_v20 (F := Ideal) x0 x1 x2 (ix2 s c) = ((a.zRaw s c : ℝ) : EReal) := by
  pointwise [val_main_v20]
  exact r15 H s _
omit H in
theorem r21 (i) : val_main_v21 (F := Ideal) i = ((44715 / 1000000 : ℝ) : EReal) := by
  pointwise [val_main_v21, val_main_cst_3, val_main_cst_4]
  rw [bits_44715, bits_million, div_coe _ _ (by norm_num)]
omit H in
theorem r44 (i) : val_main_v44 (F := Ideal) i = ((44715 / 1000000 : ℝ) : EReal) := by
  pointwise [val_main_v44, val_main_cst_11, val_main_cst_12]
  rw [bits_44715, bits_million, div_coe _ _ (by norm_num)]
theorem r32 (s : Fin 8192) (c : Fin 512) : val_main_v32 (F := Ideal) x0 x1 x2 (ix2 s c) = ((geluT (a.uRaw s c) : ℝ) : EReal) := by
  pointwise [val_main_v32, val_main_v31, val_main_v30, val_main_v29, val_main_v28, val_main_v27, val_main_v23, val_main_v22, val_main_cst_6]
  simp only [r19 H, r21, bits_cC, mul_coe, add_coe, Ideal.tanh_coe]
  unfold geluT cub; norm_num
theorem r55 (s : Fin 8192) (c : Fin 512) : val_main_v55 (F := Ideal) x0 x1 x2 (ix2 s c) = ((geluT (a.zRaw s c) : ℝ) : EReal) := by
  pointwise [val_main_v55, val_main_v54, val_main_v53, val_main_v52, val_main_v51, val_main_v50, val_main_v46, val_main_v45, val_main_cst_14]
  simp only [r20 H, r44, bits_cC, mul_coe, add_coe, Ideal.tanh_coe]
  unfold geluT cub; norm_num
theorem r42 (s : Fin 8192) (c : Fin 512) : val_main_v42 (F := Ideal) x0 x1 x2 (ix2 s c) = ((gelu (a.uRaw s c) : ℝ) : EReal) := by
  pointwise [val_main_v42, val_main_v41, val_main_v40, val_main_v39, val_main_v38, val_main_cst_9, val_main_cst_10]
  simp only [r19 H, r32 H, bits_half, one_coe, bits_one, mul_coe, add_coe]; rfl
theorem r65 (s : Fin 8192) (c : Fin 512) : val_main_v65 (F := Ideal) x0 x1 x2 (ix2 s c) = ((gelu (a.zRaw s c) : ℝ) : EReal) := by
  pointwise [val_main_v65, val_main_v64, val_main_v63, val_main_v62, val_main_v61, val_main_cst_17, val_main_cst_18]
  simp only [r20 H, r55 H, bits_half, one_coe, bits_one, mul_coe, add_coe]; rfl
theorem r43 (s : Fin 8192) (g : Fin 4) (d : Fin 128) : val_main_v43 (F := Ideal) x0 x1 x2 (ix3 s g d) = ((a.u s g d : ℝ) : EReal) := by
  pointwise [val_main_v43]
  exact r42 H s (col g d)
theorem r66 (s : Fin 8192) (g : Fin 4) (d : Fin 128) : val_main_v66 (F := Ideal) x0 x1 x2 (ix3 s g d) = ((a.z s g d : ℝ) : EReal) := by
  pointwise [val_main_v66]
  exact r65 H s (col g d)
theorem r72 (s : Fin 8192) (g : Fin 4) (d : Fin 128) : val_main_v72 (F := Ideal) x0 x1 x2 (ix3 s g d) = ((cen (a.z s g) d : ℝ) : EReal) := by
  pointwise [val_main_v72, val_main_v71, val_main_v70, val_main_v69, val_main_v68, val_main_v67, val_main_cst_19, val_main_cst_20]
  simp only [r66 H, bits_128, coe_sum, div_128, sub_coe]; rfl
theorem r79 (s : Fin 8192) (g : Fin 4) (z : Fin 1) : val_main_v79 (F := Ideal) x0 x1 x2 (ix3 s g z) = ((msq (cen (a.z s g)) : ℝ) : EReal) := by
  pointwise [val_main_v79, val_main_v78, val_main_v77, val_main_v76, val_main_v75, val_main_v74, val_main_v73, val_main_cst_21, val_main_cst_22, val_main_cst_23]
  simp only [r72 H, bits_128, bits_eps, coe_sum, div_128, mul_coe, add_coe]; rfl
theorem r80 (s : Fin 8192) (g : Fin 4) (z : Fin 1) : val_main_v80 (F := Ideal) x0 x1 x2 (ix3 s g z) = ((rstd (cen (a.z s g)) : ℝ) : EReal) := by
  pointwise [val_main_v80]
  rw [r79 H, irsqrt_coe _ (msq_pos _)]; rfl
theorem r83 (s : Fin 8192) (g : Fin 4) (z : Fin 1) :
    val_main_v83 (F := Ideal) x0 x1 x2 (ix3 s g z) = ((-(1 / 2) * (rstd (cen (a.z s g)) / msq (cen (a.z s g))) : ℝ) : EReal) := by
  pointwise [val_main_v83, val_main_v82, val_main_v81, val_main_cst_24]
  rw [r79 H, r80 H, div_coe _ _ (msq_pos _).ne', bits_neghalf, mul_coe]
theorem r85 (s : Fin 8192) (g : Fin 4) (d : Fin 128) : val_main_v85 (F := Ideal) x0 x1 x2 (ix3 s g d) = ((hat (a.z s g) d : ℝ) : EReal) := by
  pointwise [val_main_v85, val_main_v84]
  rw [r72 H, r80 H, mul_coe]; rfl
theorem r91 (s : Fin 8192) (g : Fin 4) (d : Fin 128) : val_main_v91 (F := Ideal) x0 x1 x2 x3 x4 (ix3 s g d) = ((a.zn s g d : ℝ) : EReal) := by
  pointwise [val_main_v91, val_main_v90, val_main_v89, val_main_v88, val_main_v87, val_main_v86]
  rw [r85 H, H.h3, H.h4, mul_coe, add_coe]; rfl
theorem r92 (b : Fin 64) (r : Fin 128) (g : Fin 4) (d : Fin 128) :
    val_main_v92 (F := Ideal) x0 x1 x2 x3 x4 (ix4 b r g d) = ((a.zn (row b r) g d : ℝ) : EReal) := by
  pointwise [val_main_v92]
  exact r91 H (row b r) g d
omit H in
/-- A host sum over the first and last of four axes. -/
theorem sum4 {n0 n1 n2 n3 : ℕ} (h : (⟨4, ![n0, n1, n2, n3]⟩ : Shape).ReducesTo [0, 3] ⟨2, ![n1, n2]⟩)
    (x : (⟨4, ![n0, n1, n2, n3]⟩ : Shape).Idx → EReal) (e : EReal) (i : Fin n1) (g : Fin n2) :
    Ideal.hostReduceAdd h x e (ix2 i g) = e + ∑ b : Fin n0, ∑ d : Fin n3, x (ix4 b i g d) := by
  unfold Ideal.hostReduceAdd
  refine congrArg (e + ·) ?_
  rw [← Fintype.sum_prod_type' (f := fun (b : Fin n0) (d : Fin n3) => x (ix4 b i g d))]
  refine (Finset.sum_bij' (fun p _ => ix4 p.1 i g p.2) (fun j _ => (j 0, j 3)) ?_ ?_ ?_ ?_ ?_).symm
  · intro p _
    refine Finset.mem_filter.2 ⟨Finset.mem_univ _, funext fun b => ?_⟩
    match b with
    | ⟨0, _⟩ => rfl
    | ⟨1, _⟩ => rfl
  · intro j _; exact Finset.mem_univ _
  · intro p _; rfl
  · intro j hj
    have hd := (Finset.mem_filter.1 hj).2
    have h1 : j 1 = i := congrFun hd 0
    have h2 : j 2 = g := congrFun hd 1
    funext b
    match b with
    | ⟨0, _⟩ => rfl
    | ⟨1, _⟩ => exact h1.symm
    | ⟨2, _⟩ => exact h2.symm
    | ⟨3, _⟩ => rfl
  · intro p _; rfl
omit H in
/-- A host sum over the first two of three axes. -/
theorem sum3 {n0 n1 n2 : ℕ} (h : (⟨3, ![n0, n1, n2]⟩ : Shape).ReducesTo [0, 1] ⟨1, ![n2]⟩)
    (x : (⟨3, ![n0, n1, n2]⟩ : Shape).Idx → EReal) (e : EReal) (d : Fin n2) :
    Ideal.hostReduceAdd h x e (ix1 d) = e + ∑ s : Fin n0, ∑ g : Fin n1, x (ix3 s g d) := by
  unfold Ideal.hostReduceAdd
  refine congrArg (e + ·) ?_
  rw [← Fintype.sum_prod_type' (f := fun (s : Fin n0) (g : Fin n1) => x (ix3 s g d))]
  refine (Finset.sum_bij' (fun p _ => ix3 p.1 p.2 d) (fun j _ => (j 0, j 1)) ?_ ?_ ?_ ?_ ?_).symm
  · intro p _
    refine Finset.mem_filter.2 ⟨Finset.mem_univ _, funext fun b => ?_⟩
    match b with
    | ⟨0, _⟩ => rfl
  · intro j _; exact Finset.mem_univ _
  · intro p _; rfl
  · intro j hj
    have hd := (Finset.mem_filter.1 hj).2
    have h2 : j 2 = d := congrFun hd 0
    funext b
    match b with
    | ⟨0, _⟩ => rfl
    | ⟨1, _⟩ => rfl
    | ⟨2, _⟩ => exact h2.symm
  · intro p _; rfl
omit H in
/-- The triangle's comparison, on words below 2³¹, is the order of the numbers. -/
theorem sge_eq (i j : Fin 128) :
    IntOp.cmpi .sge (IntOp.addi (BitVec.ofNat 32 i.val) 0#32) (BitVec.ofNat 32 j.val) = if j ≤ i then 1#1 else 0#1 := by
  have hi : (BitVec.ofNat 32 i.val).toInt = i.val := by
    rw [BitVec.toInt_eq_toNat_of_lt] <;> simp only [BitVec.toNat_ofNat] <;> omega
  have hj : (BitVec.ofNat 32 j.val).toInt = j.val := by
    rw [BitVec.toInt_eq_toNat_of_lt] <;> simp only [BitVec.toNat_ofNat] <;> omega
  show BitVec.ofBool ((BitVec.ofNat 32 j.val).sle (BitVec.ofNat 32 i.val + 0#32)) = _
  rw [BitVec.add_zero, BitVec.sle, hi, hj]
  by_cases h : j ≤ i
  · rw [if_pos h, decide_eq_true (by exact_mod_cast h)]; rfl
  · rw [if_neg h, decide_eq_false (by exact_mod_cast h)]; rfl
theorem r97 (g : Fin 4) (i j : Fin 128) : val_main_v97 (F := Ideal) x5 (ix3 g i j) = ((a.wm g i j : ℝ) : EReal) := by
  pointwise [val_main_v97, val_main_v96, val_main_v95, val_main_v94, val_main_v93, val_main_cst_25, val_main_call0_v0, val_main_call0_v1, val_main_call0_v2, val_main_call0_v3, val_main_call0_v4, val_main_call0_v5, val_main_call0_c, val_main_call0_cst]
  rw [sge_eq, H.h5]
  unfold Args.wm
  split <;> rfl
theorem r104 (s : Fin 8192) (g : Fin 4) (d : Fin 128) :
    val_main_v104 (F := Ideal) x0 x1 x2 x3 x4 x5 x6 (ix3 s g d) = ((a.mix (blk s) g (pos s) d : ℝ) : EReal) := by
  have h (b : Fin 64) (i : Fin 128) : val_main_v103 (F := Ideal) x0 x1 x2 x3 x4 x5 x6 (ix4 b i g d) = ((a.mix b g i d : ℝ) : EReal) := by
    pointwise [val_main_v103, val_main_v102, val_main_v101, val_main_v100, val_main_v99, val_main_v98]
    simp only [r92 H, r97 H, H.h6, mul_coe, coe_sum, add_coe]
    unfold Args.mix
    simp only [mul_comm]
  pointwise [val_main_v104]
  exact h (blk s) (pos s)
theorem r111 (s : Fin 8192) (g : Fin 4) (d : Fin 128) : val_main_v111 (F := Ideal) x11 (ix3 s g d) = ((a.ds s g d : ℝ) : EReal) := by
  pointwise [val_main_v111]
  exact H.h11 s (col g d)
theorem r113 (s : Fin 8192) (g : Fin 4) (d : Fin 128) :
    val_main_v113 (F := Ideal) x0 x1 x2 x3 x4 x5 x6 x11 (ix3 s g d) = ((a.du s g d : ℝ) : EReal) := by
  pointwise [val_main_v113]
  rw [r111 H, r104 H, mul_coe]; rfl
theorem r114 (b : Fin 64) (r : Fin 128) (g : Fin 4) (d : Fin 128) :
    val_main_v114 (F := Ideal) x0 x1 x2 x11 (ix4 b r g d) = ((a.dm (row b r) g d : ℝ) : EReal) := by
  have h (s : Fin 8192) : val_main_v112 (F := Ideal) x0 x1 x2 x11 (ix3 s g d) = ((a.dm s g d : ℝ) : EReal) := by
    pointwise [val_main_v112]
    rw [r111 H, r43 H, mul_coe, mul_comm]; rfl
  pointwise [val_main_v114]
  exact h (row b r)
theorem r117 (i : Fin 128) (g : Fin 4) :
    val_main_v117 (F := Ideal) x0 x1 x2 x11 (ix2 i g) = ((∑ b, ∑ d, a.dm (row b i) g d : ℝ) : EReal) := by
  have h0 (j : S_.Idx) : val_main_cst_28 (F := Ideal) j = 0 := by pointwise [val_main_cst_28]
  have h1 (j : S_.Idx) : val_main_cst_29 (F := Ideal) j = 0 := by pointwise [val_main_cst_29]
  have h2 (w : Fin 1) (i : Fin 128) (g : Fin 4) (z : Fin 1) : val_main_v116 (F := Ideal) x0 x1 x2 x11 (ix4 w i g z)
      = ((∑ b, ∑ d, a.dm (row b i) g d : ℝ) : EReal) := by
    pointwise [val_main_v116]
    refine (sum4 _ _ _ i g).trans ?_
    simp only [h0, r114 H, coe_sum, zero_add]
  refine (sum4 _ _ _ i g).trans ?_
  simp only [h1, h2, Fin.sum_univ_one, zero_add]
theorem r208 (i c : Fin 128) :
    val_main_v208 (F := Ideal) x0 x1 x2 x11 (ix2 i c) = ((a.db i c : ℝ) : EReal) := by
  pointwise [val_main_v208, val_main_v207, val_main_v118, val_main_call1_v0]
  unfold Args.db
  split
  · exact r117 H i ⟨c.val, by assumption⟩
  · show (((0#32).toInt : ℝ) : EReal) = _
    simp
theorem r124 (g : Fin 4) (i j : Fin 128) :
    val_main_v124 (F := Ideal) x0 x1 x2 x3 x4 x11 (ix3 g i j) = ((a.dw g i j : ℝ) : EReal) := by
  pointwise [val_main_v124, val_main_v123, val_main_v120, val_main_v119]
  have h : val_main_v95 (F := Ideal) (ix3 0 i j) = ((if j ≤ i then 1 else 0 : ℝ) : EReal) := by
    pointwise [val_main_v95, val_main_v94, val_main_v93, val_main_cst_25, val_main_call0_v0, val_main_call0_v1, val_main_call0_v2, val_main_call0_v3, val_main_call0_v4, val_main_call0_v5, val_main_call0_c, val_main_call0_cst]
    rw [sge_eq]
    split <;> rfl
  simp only [r114 H, r92 H, h, mul_coe, coe_sum]
  unfold Args.dw
  split <;> simp
theorem r125 (s : Fin 8192) (g : Fin 4) (d : Fin 128) :
    val_main_v125 (F := Ideal) x0 x1 x2 x5 x11 (ix3 s g d) = ((a.dzn s g d : ℝ) : EReal) := by
  have h (b : Fin 64) (i : Fin 128) : val_main_v122 (F := Ideal) x0 x1 x2 x5 x11 (ix4 b i g d)
      = ((∑ k, a.wm g k i * a.dm (row b k) g d : ℝ) : EReal) := by
    pointwise [val_main_v122, val_main_v121, val_main_v119]
    simp only [r114 H, r97 H, mul_coe, coe_sum, mul_comm]
  pointwise [val_main_v125]
  exact h (blk s) (pos s)
theorem r129 (z : Fin 1) (d : Fin 128) :
    val_main_v129 (F := Ideal) x0 x1 x2 x5 x11 (ix2 z d) = ((a.dlb d : ℝ) : EReal) := by
  have h0 (j : S_.Idx) : val_main_cst_30 (F := Ideal) j = 0 := by pointwise [val_main_cst_30]
  have h1 (j : S_.Idx) : val_main_cst_31 (F := Ideal) j = 0 := by pointwise [val_main_cst_31]
  have h2 (w z : Fin 1) (d : Fin 128) : val_main_v127 (F := Ideal) x0 x1 x2 x5 x11 (ix3 w z d)
      = ((∑ s, ∑ g, a.dzn s g d : ℝ) : EReal) := by
    pointwise [val_main_v127, val_main_v126]
    refine (sum3 _ _ _ d).trans ?_
    simp only [h0, r125 H, coe_sum, zero_add]
  pointwise [val_main_v129, val_main_v128]
  refine (sum3 _ _ _ d).trans ?_
  simp only [h1, h2, Fin.sum_univ_one, zero_add]; rfl
theorem r136 (z : Fin 1) (d : Fin 128) :
    val_main_v136 (F := Ideal) x0 x1 x2 x5 x11 (ix2 z d) = ((a.dlg d : ℝ) : EReal) := by
  have h0 (j : S_.Idx) : val_main_cst_32 (F := Ideal) j = 0 := by pointwise [val_main_cst_32]
  have h1 (j : S_.Idx) : val_main_cst_33 (F := Ideal) j = 0 := by pointwise [val_main_cst_33]
  have hp (s : Fin 8192) (g : Fin 4) (d : Fin 128) : val_main_v130 (F := Ideal) x0 x1 x2 x5 x11 (ix3 s g d)
      = ((a.dzn s g d * hat (a.z s g) d : ℝ) : EReal) := by
    pointwise [val_main_v130]
    rw [r85 H, r125 H, mul_coe, mul_comm]
  have h2 (w z : Fin 1) (d : Fin 128) : val_main_v132 (F := Ideal) x0 x1 x2 x5 x11 (ix3 w z d)
      = ((∑ s, ∑ g, a.dzn s g d * hat (a.z s g) d : ℝ) : EReal) := by
    pointwise [val_main_v132, val_main_v131]
    refine (sum3 _ _ _ d).trans ?_
    simp only [h0, hp, coe_sum, zero_add]
  pointwise [val_main_v136, val_main_v135]
  refine (sum3 _ _ _ d).trans ?_
  simp only [h1, h2, Fin.sum_univ_one, zero_add]; rfl
theorem r134 (s : Fin 8192) (g : Fin 4) (d : Fin 128) :
    val_main_v134 (F := Ideal) x0 x1 x2 x3 x5 x11 (ix3 s g d) = ((a.dzn s g d * a.LG d : ℝ) : EReal) := by
  pointwise [val_main_v134, val_main_v133, val_main_v86]
  rw [r125 H, H.h3, mul_coe]
/-- The factor of a group's row in the gradient of its normalisation. -/
def q (a : Args) (s : Fin 8192) (g : Fin 4) : ℝ :=
  (∑ k, cen (a.z s g) k * (a.dzn s g k * a.LG k)) * (-(1 / 2) * (rstd (cen (a.z s g)) / msq (cen (a.z s g)))) / 128
theorem r146 (s : Fin 8192) (g : Fin 4) (d : Fin 128) :
    val_main_v146 (F := Ideal) x0 x1 x2 x3 x5 x11 (ix3 s g d) = ((q a s g : ℝ) : EReal) := by
  pointwise [val_main_v146, val_main_v145, val_main_v144, val_main_v143, val_main_v142, val_main_v139, val_main_v138, val_main_v137, val_main_cst_34, val_main_cst_35, val_main_cst_36]
  simp only [r72 H, r83 H, r134 H, bits_128, mul_coe, coe_sum, div_128, Fin.sum_univ_one]
  rfl
theorem r150 (s : Fin 8192) (g : Fin 4) (d : Fin 128) :
    val_main_v150 (F := Ideal) x0 x1 x2 x3 x5 x11 (ix3 s g d)
      = ((a.dzn s g d * a.LG d * rstd (cen (a.z s g)) + cen (a.z s g) d * q a s g + q a s g * cen (a.z s g) d : ℝ) : EReal) := by
  pointwise [val_main_v150, val_main_v149, val_main_v148, val_main_v147, val_main_v141, val_main_v140]
  simp only [r72 H, r80 H, r134 H, r146 H, mul_coe, add_coe]
theorem r158 (s : Fin 8192) (g : Fin 4) (d : Fin 128) :
    val_main_v158 (F := Ideal) x0 x1 x2 x3 x5 x11 (ix3 s g d) = ((a.dz s g d : ℝ) : EReal) := by
  pointwise [val_main_v158, val_main_v157, val_main_v156, val_main_v155, val_main_v154, val_main_v153, val_main_v152, val_main_v151, val_main_cst_37, val_main_cst_38, val_main_cst_39]
  simp only [r150 H, bits_128, neg_coe, coe_sum, div_128, add_coe, Fin.sum_univ_one]
  exact congrArg _ (lnBack_eq (a.z s g) (fun k => a.dzn s g k * a.LG k) d (q a s g) rfl)
theorem r159 (s : Fin 8192) (c : Fin 512) :
    val_main_v159 (F := Ideal) x0 x1 x2 x3 x5 x11 (ix2 s c) = ((a.dz s (grp c) (sub c) : ℝ) : EReal) := by
  pointwise [val_main_v159]
  exact r158 H s (grp c) (sub c)
theorem r172 (s : Fin 8192) (c : Fin 512) :
    val_main_v172 (F := Ideal) x0 x1 x2 x3 x4 x5 x6 x11 (ix2 s c) = ((a.du s (grp c) (sub c) : ℝ) : EReal) := by
  pointwise [val_main_v172]
  exact r113 H s (grp c) (sub c)
theorem r171 (s : Fin 8192) (c : Fin 512) : val_main_v171 (F := Ideal) x0 x1 x2 x3 x5 x11 (ix2 s c)
    = ((a.dz s (grp c) (sub c) * dgelu (a.zRaw s c) : ℝ) : EReal) := by
  pointwise [val_main_v171, val_main_v170, val_main_v169, val_main_v168, val_main_v167, val_main_v166, val_main_v165, val_main_v164, val_main_v163, val_main_v162, val_main_v161, val_main_v160, val_main_v64, val_main_v63, val_main_v62, val_main_v61, val_main_v60, val_main_v59, val_main_v58, val_main_v57, val_main_v56, val_main_v49, val_main_v48, val_main_v47, val_main_cst_13, val_main_cst_15, val_main_cst_16, val_main_cst_17, val_main_cst_18, val_main_cst_40, val_main_cst_41]
  simp only [r159 H, r20 H, r55 H, r44, bits_half, bits_cC, bits_three, one_coe, bits_one, mul_coe, add_coe, sub_coe]
  exact congrArg _ (dgelu_eq _ _ _ rfl)
theorem r184 (s : Fin 8192) (c : Fin 512) : val_main_v184 (F := Ideal) x0 x1 x2 x3 x4 x5 x6 x11 (ix2 s c)
    = ((a.du s (grp c) (sub c) * dgelu (a.uRaw s c) : ℝ) : EReal) := by
  pointwise [val_main_v184, val_main_v183, val_main_v182, val_main_v181, val_main_v180, val_main_v179, val_main_v178, val_main_v177, val_main_v176, val_main_v175, val_main_v174, val_main_v173, val_main_v41, val_main_v40, val_main_v39, val_main_v38, val_main_v37, val_main_v36, val_main_v35, val_main_v34, val_main_v33, val_main_v26, val_main_v25, val_main_v24, val_main_cst_5, val_main_cst_7, val_main_cst_8, val_main_cst_9, val_main_cst_10, val_main_cst_42, val_main_cst_43]
  simp only [r172 H, r19 H, r32 H, r21, bits_half, bits_cC, bits_three, one_coe, bits_one, mul_coe, add_coe, sub_coe]
  exact congrArg _ (dgelu_eq _ _ _ rfl)
theorem r185 (s : Fin 8192) (c : Fin 2560) : val_main_v185 (F := Ideal) x0 x1 x2 x3 x4 x5 x6 x8 x9 x10 x11 (ix2 s c)
    = ((a.dproj s c : ℝ) : EReal) := by
  pointwise [val_main_v185, val_main_v110, val_main_v109, val_main_cst_27]
  simp only [H.h8, H.h9, H.h10, r184 H, r171 H, bits_eighth, mul_coe]
  unfold Args.dproj
  by_cases h₁ : c.val < 512
  · rw [dif_pos h₁, dif_pos h₁]
  rw [dif_neg h₁, dif_neg h₁]
  by_cases h₂ : c.val < 1024
  · rw [dif_pos h₂, dif_pos (by omega)]
  rw [dif_neg h₂, dif_neg (by omega)]
  by_cases h₃ : c.val < 1536
  · rw [dif_pos h₃, dif_pos (by omega)]
    simp only [show c.val - 512 - 512 = c.val - 1024 by omega]
  rw [dif_neg h₃, dif_neg (by omega)]
  by_cases h₄ : c.val < 2048
  · rw [dif_pos h₄, dif_pos (by omega)]
    simp only [show c.val - 512 - 512 - 512 = c.val - 1536 by omega]
  · rw [dif_neg h₄, dif_neg (by omega)]
    simp only [show c.val - 512 - 512 - 512 - 512 = c.val - 2048 by omega]
theorem r209 (s : Fin 8192) (c : Fin 2560) : val_main_v209 (F := Ideal) x0 x1 x2 x3 x4 x5 x6 x8 x9 x10 x11 (ix2 s c)
    = ((a.dproj s c : ℝ) : EReal) := r185 H s c
theorem r186 (s : Fin 8192) (k : Fin 1024) : val_main_v186 (F := Ideal) x0 x1 x2 x3 x4 x5 x6 x8 x9 x10 x11 (ix2 s k)
    = ((a.da s k : ℝ) : EReal) := by
  pointwise [val_main_v186]
  simp only [r185 H, H.h2, mul_coe, coe_sum]; rfl
theorem r189 (z : Fin 1) (k : Fin 1024) : val_main_v189 (F := Ideal) x0 x1 x2 x3 x4 x5 x6 x8 x9 x10 x11 (ix2 z k)
    = ((a.dg k : ℝ) : EReal) := by
  pointwise [val_main_v189, val_main_v188, val_main_v187, val_main_cst_44]
  simp only [r12 H, r186 H, mul_coe, coe_sum]
  unfold Args.dg; simp only [mul_comm]
theorem r206 (s : Fin 8192) (k : Fin 1024) : val_main_v206 (F := Ideal) x0 x1 x2 x3 x4 x5 x6 x7 x8 x9 x10 x11 (ix2 s k)
    = ((a.dx s k : ℝ) : EReal) := by
  pointwise [val_main_v206, val_main_v205, val_main_v204, val_main_v203, val_main_v202, val_main_v201, val_main_v200, val_main_v199, val_main_v198, val_main_v197, val_main_v196, val_main_v195, val_main_v194, val_main_v193, val_main_v192, val_main_v191, val_main_v190, val_main_cst_45, val_main_cst_46, val_main_cst_47]
  simp only [H.h0, H.h1, H.h7, r186 H, r7 H, r10 H, bits_1024, div_1024, mul_coe, coe_sum, add_coe, Fin.sum_univ_one]
  exact congrArg _ (rmsBack_eq (a.X s) (fun k => a.da s k * a.G k) k (a.DH s k))

end Cert.RefValue
-- ==== Proof.KernelHost.lean ====
/- What the host code before the kernel leaves in the arrays that the kernel's windows read, and the blocks a grid point
   sees of them, at real arguments. -/
module

public import proofs.«01_k».proof.Proof.KernelTile
public import proofs.«01_k».proof.Proof.RefValue
public import proofs.«01_k».proof.Proof.Gen.KernelIdeal.Value
public import Idealize.ShloMosaic.Lib.StableHlo.ReadAt

@[expose] public section

noncomputable section

namespace Cert.KernelHost

open Cert.KernelOps Cert.KernelTile Cert.KernelIdeal Cert.KernelIdeal.Gen Idealize.ShloMosaic Idealize.ShloMosaic.TcCoe Idealize.SL.Sem
open Idealize.ShloMosaic.StableHlo
open Cert.Spec

variable (m : (ℓ : Loc nD τ sig) → Buf (Elt Ideal) ℓ) (c : Dev nD) (a : Args)

/-- Core `c`'s argument arrays hold the real numbers `a`. -/
abbrev Holds : Prop :=
  Cert.RefValue.Agree a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

variable {m c a} (H : Holds m c a)
include H

theorem v32 (k : Fin 1024) (i : Fin 2560) : @Eq EReal (V m c main_v32 (ix2 k i)) ((a.W k i : ℝ) : EReal) := by
  unfold V; after_reads_at
  exact H.h2 k i
theorem v29 (p : Fin 4) (r : Fin 8192) (l : Fin 128) : @Eq EReal (V m c main_v29 (ix3 p r l)) ((a.DK r (col p l) : ℝ) : EReal) := by
  unfold V; after_reads_at
  exact H.h9 r (col p l)
theorem v31 (p : Fin 4) (r : Fin 8192) (l : Fin 128) : @Eq EReal (V m c main_v31 (ix3 p r l)) ((a.DV r (col p l) : ℝ) : EReal) := by
  unfold V; after_reads_at
  exact H.h10 r (col p l)
theorem v27 (p : Fin 4) (r : Fin 8704) (h : r.val < 8192) (l : Fin 128) :
    @Eq EReal (V m c main_v27 (ix3 p r l)) ((a.DQ ⟨r.val, h⟩ (col p l) : ℝ) : EReal) := by
  unfold V; after_reads_at
  exact (dif_pos h).trans (H.h8 ⟨r.val, h⟩ (col p l))
theorem v24 (i : Fin 128) (k : Fin 512) : @Eq EReal (V m c main_v24 (ix2 i k)) ((a.BS (grp k) i : ℝ) : EReal) := by
  unfold V; after_reads_at
  exact H.h6 (grp k) i
theorem v19 (g : Fin 4) (i j : Fin 128) : @Eq EReal (V m c main_v19 (ix3 g i j)) ((a.wm g i j : ℝ) : EReal) := by
  unfold V; after_reads_at
  have e : IntOp.addi (BitVec.ofNat 32 i.val) 0#32 = BitVec.ofNat 32 i.val := BitVec.add_zero _
  rw [e, sge_eq]
  unfold Args.wm
  by_cases h : j ≤ i
  · rw [if_pos h, if_pos h]; exact H.h5 g i j
  · rw [if_neg h, if_neg h]; rfl
theorem v21 (g : Fin 4) (i j : Fin 128) : @Eq EReal (V m c main_v21 (ix3 g i j)) ((a.wm g j i : ℝ) : EReal) := by
  unfold V; after_reads_at
  have e : IntOp.addi (BitVec.ofNat 32 j.val) 0#32 = BitVec.ofNat 32 j.val := BitVec.add_zero _
  rw [e, sge_eq]
  unfold Args.wm
  by_cases h : i ≤ j
  · rw [if_pos h, if_pos h]; exact H.h5 g j i
  · rw [if_neg h, if_neg h]; rfl
omit H in
theorem proj_eq (x0 : FVec Ideal S8192x1024 .f32) (x1 : FVec Ideal S1x1024 .f32) (x2 : FVec Ideal S1024x2560 .f32)
    (h0 : ∀ s k, x0 (ix2 s k) = ((a.X s k : ℝ) : EReal)) (h1 : ∀ z k, x1 (ix2 z k) = ((a.G k : ℝ) : EReal))
    (h2 : ∀ k i, x2 (ix2 k i) = ((a.W k i : ℝ) : EReal)) (s : Fin 8192) (i : Fin 2560) :
    @Eq EReal (∑ x, x0 (ix2 s x) * Ideal.rsqrt (Ideal.div (∑ x, x0 (ix2 s x) * x0 (ix2 s x)) (Ideal.ofBits FTy.f32 1149239296#32)
      + Ideal.ofBits FTy.f32 897988541#32) * x1 (ix2 0 x) * x2 (ix2 x i)) ((a.proj s i : ℝ) : EReal) := by
  have e : Ideal.rsqrt (Ideal.div (∑ x, x0 (ix2 s x) * x0 (ix2 s x)) (Ideal.ofBits FTy.f32 1149239296#32)
      + Ideal.ofBits FTy.f32 897988541#32) = ((rstd (a.X s) : ℝ) : EReal) := by
    simp only [h0, bits_1024, bits_eps, mul_coe, coe_sum, div_1024, add_coe]
    exact irsqrt_coe _ (msq_pos (a.X s))
  rw [e]
  simp only [h0, h1, h2, mul_coe, coe_sum]
  rfl
theorem v13 (s : Fin 8192) (k : Fin 1024) :
    @Eq EReal (V m c main_v13 (ix2 s k)) ((a.proj s ⟨1536 + k.val, by omega⟩ : ℝ) : EReal) := by
  unfold V; after_reads_at
  exact proj_eq _ _ _ H.h0 H.h1 H.h2 s _

omit H
theorem idx0 : ∀ t, win0_0.index t = ![0, t.val, 0] := by decide +kernel
theorem idx1 : ∀ t, win0_1.index t = ![0, t.val, 0] := by decide +kernel
theorem idx2 : ∀ t, win0_2.index t = ![0, t.val, 0] := by decide +kernel
theorem idx3 : ∀ t, win0_3.index t = ![t.val, 0] := by decide +kernel
theorem idx4 : ∀ t, win0_4.index t = ![t.val, 0] := by decide +kernel
theorem idx5 : ∀ t, win0_5.index t = ![t.val, 0] := by decide +kernel
theorem idx6 : ∀ t, win0_6.index t = ![t.val, 0] := by decide +kernel
theorem idx7 : ∀ t, win0_7.index t = ![0, 0] := by decide +kernel
theorem idx8 : ∀ t, win0_8.index t = ![0, 0] := by decide +kernel
theorem idx9 : ∀ t, win0_9.index t = ![0, 0] := by decide +kernel
theorem idx10 : ∀ t, win0_10.index t = ![0, 0, 0] := by decide +kernel
theorem idx11 : ∀ t, win0_11.index t = ![0, 0, 0] := by decide +kernel
theorem idx12 : ∀ t, win0_12.index t = ![0, 0] := by decide +kernel
theorem idx13 : ∀ t, win0_13.index t = ![0, 0] := by decide +kernel

/-- The point of the grid as a tile number. -/
abbrev tn (t : Fin cfg0.N) : Fin 16 := t
/-- A tile's row in the array that the host pads by 512 rows. -/
def qrow (t : Fin 16) (r : Fin 512) : Fin 8704 := ⟨t.val * 512 + r.val, by omega⟩

theorem emb0 (t : Fin cfg0.N) (p : Fin 4) (q : Fin 512) (l : Fin 128) : (win0_0.blk t).view.emb (ix3 p q l) = ix3 p (qrow (tn t) q) l := by
  blk_ext [idx0 t, qrow]
theorem emb1 (t : Fin cfg0.N) (p : Fin 4) (q : Fin 512) (l : Fin 128) : (win0_1.blk t).view.emb (ix3 p q l) = ix3 p (srow (tn t) q) l := by
  blk_ext [idx1 t, srow]
theorem emb2 (t : Fin cfg0.N) (p : Fin 4) (q : Fin 512) (l : Fin 128) : (win0_2.blk t).view.emb (ix3 p q l) = ix3 p (srow (tn t) q) l := by
  blk_ext [idx2 t, srow]
theorem emb3 (t : Fin cfg0.N) (p : Fin 512) (q : Fin 1024) : (win0_3.blk t).view.emb (ix2 p q) = ix2 (srow (tn t) p) q := by
  blk_ext [idx3 t, srow]
theorem emb4 (t : Fin cfg0.N) (p : Fin 512) (q : Fin 512) : (win0_4.blk t).view.emb (ix2 p q) = ix2 (srow (tn t) p) q := by
  blk_ext [idx4 t, srow]
theorem emb5 (t : Fin cfg0.N) (p : Fin 512) (q : Fin 1024) : (win0_5.blk t).view.emb (ix2 p q) = ix2 (srow (tn t) p) q := by
  blk_ext [idx5 t, srow]
theorem emb6 (t : Fin cfg0.N) (p : Fin 512) (q : Fin 1024) : (win0_6.blk t).view.emb (ix2 p q) = ix2 (srow (tn t) p) q := by
  blk_ext [idx6 t, srow]
theorem emb7 (t : Fin cfg0.N) (p : Fin 1) (q : Fin 1024) : (win0_7.blk t).view.emb (ix2 p q) = ix2 p q := by
  blk_ext [idx7 t, srow]
theorem emb8 (t : Fin cfg0.N) (p : Fin 1) (q : Fin 128) : (win0_8.blk t).view.emb (ix2 p q) = ix2 p q := by
  blk_ext [idx8 t, srow]
theorem emb9 (t : Fin cfg0.N) (p : Fin 1) (q : Fin 128) : (win0_9.blk t).view.emb (ix2 p q) = ix2 p q := by
  blk_ext [idx9 t, srow]
theorem emb10 (t : Fin cfg0.N) (p : Fin 4) (q : Fin 128) (l : Fin 128) : (win0_10.blk t).view.emb (ix3 p q l) = ix3 p q l := by
  blk_ext [idx10 t, srow]
theorem emb11 (t : Fin cfg0.N) (p : Fin 4) (q : Fin 128) (l : Fin 128) : (win0_11.blk t).view.emb (ix3 p q l) = ix3 p q l := by
  blk_ext [idx11 t, srow]
theorem emb12 (t : Fin cfg0.N) (p : Fin 128) (q : Fin 512) : (win0_12.blk t).view.emb (ix2 p q) = ix2 p q := by
  blk_ext [idx12 t, srow]
theorem emb13 (t : Fin cfg0.N) (p : Fin 1024) (q : Fin 2560) : (win0_13.blk t).view.emb (ix2 p q) = ix2 p q := by
  blk_ext [idx13 t, srow]

set_option maxHeartbeats 2000000 in
theorem tile (H : Holds m c a) (t : Fin cfg0.N) : Tile a (tn t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) where
  h0 p q l := by
    blk_simp [iblk]
    rw [emb0]
    exact v27 H p (qrow (tn t) q) (srow (tn t) q).isLt l
  h1 p q l := by
    blk_simp [iblk]
    rw [emb1]
    exact v29 H p _ l
  h2 p q l := by
    blk_simp [iblk]
    rw [emb2]
    exact v31 H p _ l
  h3 p q := by
    blk_simp [iblk]
    rw [emb3]
    exact v13 H _ q
  h4 p q := by
    blk_simp [iblk]
    rw [emb4]
    exact (congrFun (V_main_arg11 m c) _).trans (H.h11 _ q)
  h5 p q := by
    blk_simp [iblk]
    rw [emb5]
    exact (congrFun (V_main_arg0 m c) _).trans (H.h0 _ q)
  h6 p q := by
    blk_simp [iblk]
    rw [emb6]
    exact (congrFun (V_main_arg7 m c) _).trans (H.h7 _ q)
  h7 p q := by
    blk_simp [iblk]
    rw [emb7]
    exact (congrFun (V_main_arg1 m c) _).trans (H.h1 p q)
  h8 p q := by
    blk_simp [iblk]
    rw [emb8]
    exact (congrFun (V_main_arg3 m c) _).trans (H.h3 p q)
  h9 p q := by
    blk_simp [iblk]
    rw [emb9]
    exact (congrFun (V_main_arg4 m c) _).trans (H.h4 p q)
  h10 p q l := by
    blk_simp [iblk]
    rw [emb10]
    exact v19 H p q l
  h11 p q l := by
    blk_simp [iblk]
    rw [emb11]
    exact v21 H p q l
  h12 p q := by
    blk_simp [iblk]
    rw [emb12]
    exact v24 H p q
  h13 p q := by
    blk_simp [iblk]
    rw [emb13]
    exact v32 H p q

end Cert.KernelHost

end
-- ==== Proof.KernelOpenA.lean ====
/- What the kernel writes at the first of the 16 points, in the terms of KernelOps. -/
module

public import proofs.«01_k».proof.Proof.Gen.KernelIdeal.Value
public import proofs.«01_k».proof.Proof.KernelOps
public import proofs.«01_k».proof.Proof.Spec
public import Idealize.ShloMosaic.Lib.Pointwise
public import Idealize.ShloMosaic.Lib.Pipeline.ValueKit
public import Idealize.ShloMosaic.Lib.Pipeline.ReadBack

@[expose] public section

noncomputable section

namespace Cert.KernelValue

open Cert.KernelOps Cert.KernelIdeal Cert.KernelIdeal.Gen Cert.KernelIdeal.Value Idealize.ShloMosaic Idealize.ShloMosaic.TcCoe Idealize.SL.Sem

variable {F : FTy → Type} [FloatOps F] [Named F]

set_option maxHeartbeats 4000000

theorem open_A_14 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = k0_pay2 (k0_pay220 (k0_pay217 x5) (k0_pay218 x5) (View.canon (stripes x0 x1 x2 x3 x4 x8 x9 x10 x11 x12)) x13 x7) x6 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rw [View.readCov_eq_canon']
  refine Eq.trans ?_ (congrArg (fun z => k0_pay2 (k0_pay220 (k0_pay217 x5) (k0_pay218 x5) z x13 x7) x6) (canon_whole (View.canon (stripes x0 x1 x2 x3 x4 x8 x9 x10 x11 x12))))
  rfl

theorem open_A_15 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = View.canon (stripes x0 x1 x2 x3 x4 x8 x9 x10 x11 x12) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

theorem open_A_16 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = k0_pay1 (k0_pay221 (k0_pay218 x5) (View.canon (stripes x0 x1 x2 x3 x4 x8 x9 x10 x11 x12)) x13) (broadcast S1x1024 (Scalar.ofBits .f32 0x00000000#32)) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rw [View.readCov_eq_canon']
  refine Eq.trans ?_ (congrArg (fun z => k0_pay1 (k0_pay221 (k0_pay218 x5) z x13) (broadcast S1x1024 (Scalar.ofBits .f32 0x00000000#32))) (canon_whole (View.canon (stripes x0 x1 x2 x3 x4 x8 x9 x10 x11 x12))))
  rfl

theorem open_A_17 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = (csV (csV (csV (csV (broadcast S1x128 (Scalar.ofBits .f32 0x00000000#32)) (mulf (dznG 0 x3 x4 x11) (hG 0 x3))) (mulf (dznG 1 x3 x4 x11) (hG 1 x3))) (mulf (dznG 2 x3 x4 x11) (hG 2 x3))) (mulf (dznG 3 x3 x4 x11) (hG 3 x3))) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

theorem open_A_18 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = (csV (csV (csV (csV (broadcast S1x128 (Scalar.ofBits .f32 0x00000000#32)) (dznG 0 x3 x4 x11)) (dznG 1 x3 x4 x11)) (dznG 2 x3 x4 x11)) (dznG 3 x3 x4 x11)) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

theorem open_A_19_0 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    slab32 0 (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) = dwV (slab32 0 (broadcast S4x128x128 (Scalar.ofBits .f32 0x00000000#32))) (uG 0 x3) (dsS 0 x4) (znG 0 x3 x8 x9) := by
  show View.ld (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) (Rect.unit ![0, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

theorem open_A_19_1 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    slab32 1 (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) = dwV (slab32 1 (broadcast S4x128x128 (Scalar.ofBits .f32 0x00000000#32))) (uG 1 x3) (dsS 1 x4) (znG 1 x3 x8 x9) := by
  show View.ld (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) (Rect.unit ![1, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

theorem open_A_19_2 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    slab32 2 (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) = dwV (slab32 2 (broadcast S4x128x128 (Scalar.ofBits .f32 0x00000000#32))) (uG 2 x3) (dsS 2 x4) (znG 2 x3 x8 x9) := by
  show View.ld (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) (Rect.unit ![2, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

theorem open_A_19_3 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    slab32 3 (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) = dwV (slab32 3 (broadcast S4x128x128 (Scalar.ofBits .f32 0x00000000#32))) (uG 3 x3) (dsS 3 x4) (znG 3 x3 x8 x9) := by
  show View.ld (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13) (Rect.unit ![3, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

theorem open_A_20 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = (dbV (BitVec.ofNat 32 (3 : Fin 4).val) (dbV (BitVec.ofNat 32 (2 : Fin 4).val) (dbV (BitVec.ofNat 32 (1 : Fin 4).val) (dbV (BitVec.ofNat 32 (0 : Fin 4).val) (broadcast S128x128 (Scalar.ofBits .f32 0x00000000#32)) (uG 0 x3) (dsS 0 x4)) (uG 1 x3) (dsS 1 x4)) (uG 2 x3) (dsS 2 x4)) (uG 3 x3) (dsS 3 x4)) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  rfl

end Cert.KernelValue
-- ==== Proof.KernelOpenB.lean ====
/- What the kernel writes at a later point, in the terms of KernelOps. -/
module

public import proofs.«01_k».proof.Proof.Gen.KernelIdeal.Value
public import proofs.«01_k».proof.Proof.KernelOps
public import proofs.«01_k».proof.Proof.Spec
public import Idealize.ShloMosaic.Lib.Pointwise
public import Idealize.ShloMosaic.Lib.Pipeline.ValueKit
public import Idealize.ShloMosaic.Lib.Pipeline.ReadBack

@[expose] public section

noncomputable section

namespace Cert.KernelValue

open Cert.KernelOps Cert.KernelIdeal Cert.KernelIdeal.Gen Cert.KernelIdeal.Value Idealize.ShloMosaic Idealize.ShloMosaic.TcCoe Idealize.SL.Sem

variable {F : FTy → Type} [FloatOps F] [Named F]

set_option maxHeartbeats 4000000

theorem open_B_14 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20 = k0_pay2 (k0_pay220 (k0_pay217 x5) (k0_pay218 x5) (View.canon (stripes x0 x1 x2 x3 x4 x8 x9 x10 x11 x12)) x13 x7) x6 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rw [View.readCov_eq_canon']
  refine Eq.trans ?_ (congrArg (fun z => k0_pay2 (k0_pay220 (k0_pay217 x5) (k0_pay218 x5) z x13 x7) x6) (canon_whole (View.canon (stripes x0 x1 x2 x3 x4 x8 x9 x10 x11 x12))))
  rfl

theorem open_B_15 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20 = View.canon (stripes x0 x1 x2 x3 x4 x8 x9 x10 x11 x12) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

theorem open_B_16 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20 = k0_pay1 (k0_pay221 (k0_pay218 x5) (View.canon (stripes x0 x1 x2 x3 x4 x8 x9 x10 x11 x12)) x13) xo16 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rw [View.readCov_eq_canon']
  refine Eq.trans ?_ (congrArg (fun z => k0_pay1 (k0_pay221 (k0_pay218 x5) z x13) xo16) (canon_whole (View.canon (stripes x0 x1 x2 x3 x4 x8 x9 x10 x11 x12))))
  rfl

theorem open_B_17 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20 = (csV (csV (csV (csV xo17 (mulf (dznG 0 x3 x4 x11) (hG 0 x3))) (mulf (dznG 1 x3 x4 x11) (hG 1 x3))) (mulf (dznG 2 x3 x4 x11) (hG 2 x3))) (mulf (dznG 3 x3 x4 x11) (hG 3 x3))) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

theorem open_B_18 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20 = (csV (csV (csV (csV xo18 (dznG 0 x3 x4 x11)) (dznG 1 x3 x4 x11)) (dznG 2 x3 x4 x11)) (dznG 3 x3 x4 x11)) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

theorem open_B_19_0 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    slab32 0 (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) = dwV (slab32 0 xo19) (uG 0 x3) (dsS 0 x4) (znG 0 x3 x8 x9) := by
  show View.ld (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) (Rect.unit ![0, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

theorem open_B_19_1 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    slab32 1 (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) = dwV (slab32 1 xo19) (uG 1 x3) (dsS 1 x4) (znG 1 x3 x8 x9) := by
  show View.ld (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) (Rect.unit ![1, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

theorem open_B_19_2 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    slab32 2 (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) = dwV (slab32 2 xo19) (uG 2 x3) (dsS 2 x4) (znG 2 x3 x8 x9) := by
  show View.ld (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) (Rect.unit ![2, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

theorem open_B_19_3 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    slab32 3 (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) = dwV (slab32 3 xo19) (uG 3 x3) (dsS 3 x4) (znG 3 x3 x8 x9) := by
  show View.ld (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20) (Rect.unit ![3, 0, 0] ![1, 128, 128] (by decide)) = _
  frame_open
  simp (disch := decide) only [↓ View.readCov_skip, ↓ View.readCov_cons_toLoadRect, ↓ View.readCov_fill]
  frame_out
  rw [ld_canon arg20.view]
  simp (disch := decide) only [↓ View.readCov_skip, ↓ View.readCov_cons_toLoadRect, ↓ View.readCov_fill]
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

theorem open_B_20 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S4x512x128 .f32) (harg3 : arg3.IsWhole) (arg4 : Memref sig .tc .vmem S512x1024 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4x128x128 .bf16) (harg11 : arg11.IsWhole) (arg12 : Memref sig .tc .vmem S4x128x128 .bf16) (harg12 : arg12.IsWhole) (arg13 : Memref sig .tc .vmem S128x512 .f32) (harg13 : arg13.IsWhole) (arg14 : Memref sig .tc .vmem S1024x2560 .bf16) (harg14 : arg14.IsWhole) (arg15 : Memref sig .tc .vmem S512x1024 .f32) (harg15 : arg15.IsWhole) (arg16 : Memref sig .tc .vmem S512x2560 .bf16) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S4x128x128 .f32) (harg20 : arg20.IsWhole) (arg21 : Memref sig .tc .vmem S128x128 .f32) (harg21 : arg21.IsWhole) (hc0 : ¬cond0_0 i)
    (x0 : Vec F S4x512x128 .f32) (x1 : Vec F S4x512x128 .f32) (x2 : Vec F S4x512x128 .f32) (x3 : Vec F S512x1024 .f32) (x4 : Vec F S512x512 .f32) (x5 : Vec F S512x1024 .f32) (x6 : Vec F S512x1024 .f32) (x7 : Vec F S1x1024 .f32) (x8 : Vec F S1x128 .f32) (x9 : Vec F S1x128 .f32) (x10 : Vec F S4x128x128 .bf16) (x11 : Vec F S4x128x128 .bf16) (x12 : Vec F S128x512 .f32) (x13 : Vec F S1024x2560 .bf16) (xo16 : Vec F S1x1024 .f32) (xo17 : Vec F S1x128 .f32) (xo18 : Vec F S1x128 .f32) (xo19 : Vec F S4x128x128 .f32) (xo20 : Vec F S128x128 .f32) :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xo16 xo17 xo18 xo19 xo20 = (dbV (BitVec.ofNat 32 (3 : Fin 4).val) (dbV (BitVec.ofNat 32 (2 : Fin 4).val) (dbV (BitVec.ofNat 32 (1 : Fin 4).val) (dbV (BitVec.ofNat 32 (0 : Fin 4).val) xo20 (uG 0 x3) (dsS 0 x4)) (uG 1 x3) (dsS 1 x4)) (uG 2 x3) (dsS 2 x4)) (uG 3 x3) (dsS 3 x4)) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg17.read_unread]
  try rw [harg18.read_unread]
  try rw [harg19.read_unread]
  try rw [harg20.read_unread]
  try rw [harg21.read_unread]
  try rw [show View.ld x3 (Rect.unit ![0, 0] ![512, 1024] (by decide)) = x3 from View.ld_unit_lit _ _ (by decide)]
  try rw [show View.ld x5 (Rect.unit ![0, 0] ![512, 1024] (by decide)) = x5 from View.ld_unit_lit _ _ (by decide)]
  try rw [show View.ld x6 (Rect.unit ![0, 0] ![512, 1024] (by decide)) = x6 from View.ld_unit_lit _ _ (by decide)]
  try rw [show View.ld x7 (Rect.unit ![0, 0] ![1, 1024] (by decide)) = x7 from View.ld_unit_lit _ _ (by decide)]
  try rw [show View.ld x8 (Rect.unit ![0, 0] ![1, 128] (by decide)) = x8 from View.ld_unit_lit _ _ (by decide)]
  try rw [show View.ld x9 (Rect.unit ![0, 0] ![1, 128] (by decide)) = x9 from View.ld_unit_lit _ _ (by decide)]
  try rw [show View.ld x13 (Rect.unit ![0, 0] ![1024, 2560] (by decide)) = x13 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 128] (by decide)) = xo17 from View.ld_unit_lit _ _ (by decide)]
  try rw [show View.ld xo18 (Rect.unit ![0, 0] ![1, 128] (by decide)) = xo18 from View.ld_unit_lit _ _ (by decide)]
  try rw [show View.ld xo20 (Rect.unit ![0, 0] ![128, 128] (by decide)) = xo20 from View.ld_unit_lit _ _ (by decide)]
  rfl

end Cert.KernelValue
-- ==== Proof.KernelFinal.lean ====
/- What the kernel's output buffers hold after each grid point: the tile's rows, and the sums over the tiles so far. -/
module

public import proofs.«01_k».proof.Proof.KernelHost
public import proofs.«01_k».proof.Proof.KernelOpenA
public import proofs.«01_k».proof.Proof.KernelOpenB

@[expose] public section

noncomputable section

namespace Cert.KernelFinal

open Cert.KernelHost Cert.KernelOps Cert.KernelTile Cert.KernelValue Cert.KernelIdeal Cert.KernelIdeal.Gen Idealize.ShloMosaic Idealize.ShloMosaic.TcCoe
open Idealize.SL.Sem Cert.Spec

/-- The sum of `f` over the tiles up to number `n`. -/
def upto (f : Fin 16 → ℝ) (n : ℕ) : ℝ := ∑ u, if u.val ≤ n then f u else 0
theorem upto_zero (f : Fin 16 → ℝ) (t : Fin 16) (h : t.val % 16 = 0) : upto f t.val = 0 + f t := by
  have e : t = 0 := Fin.ext (by have := t.isLt; simp; omega)
  subst e
  have e : ∀ u : Fin 16, (if u.val ≤ (0 : Fin 16).val then f u else 0) = if u = 0 then f u else 0 := fun u => by
    congr 1; rw [eq_iff_iff]; constructor
    · intro h; exact Fin.ext (by simpa using h)
    · rintro rfl; exact le_refl _
  unfold upto
  simp only [e, Finset.sum_ite_eq', Finset.mem_univ, if_true, zero_add]
theorem upto_step (f : Fin 16 → ℝ) (t : Fin 16) (h : ¬t.val % 16 = 0) : upto f t.val = upto f (t.val - 1) + f t := by
  have e : ∀ u : Fin 16, (if u.val ≤ t.val then f u else 0) = (if u.val ≤ t.val - 1 then f u else 0) + if u = t then f u else 0 := fun u => by
    by_cases h1 : u = t
    · subst h1; rw [if_pos le_rfl, if_neg (by omega), if_pos rfl, zero_add]
    · have h2 : u.val ≠ t.val := fun h => h1 (Fin.ext h)
      rw [if_neg h1, add_zero]
      congr 1; rw [eq_iff_iff]; omega
  unfold upto
  simp only [e, Finset.sum_add_distrib, Finset.sum_ite_eq', Finset.mem_univ, if_true]
theorem upto_last (f : Fin 16 → ℝ) : upto f 15 = ∑ u, f u := by
  unfold upto
  exact Finset.sum_congr rfl fun u _ => if_pos (by omega)

theorem Is.as {n k : ℕ} {φ : FTy} {v : FVec Ideal ⟨2, ![n, k]⟩ φ} {f g : Fin n → Fin k → ℝ} (hv : Is v f) (h : ∀ r d, g r d = f r d) : Is v g :=
  fun r d => (hv r d).trans (by rw [h])
theorem Is1.as {n k : ℕ} {φ : FTy} {v : FVec Ideal ⟨3, ![1, n, k]⟩ φ} {f g : Fin n → Fin k → ℝ} (hv : Is1 v f) (h : ∀ r d, g r d = f r d) : Is1 v g :=
  fun r d => (hv r d).trans (by rw [h])
theorem zero_is (n k : ℕ) : Is (φ := .f32) (broadcast (⟨2, ![n, k]⟩ : Shape) (Scalar.ofBits (F := Ideal) .f32 0x00000000#32)) fun _ _ => 0 :=
  fun _ _ => bits_zero
theorem zero1_is (g : Fin 4) : Is1 (φ := .f32) (slab32 (F := Ideal) g (broadcast S4x128x128 (Scalar.ofBits (F := Ideal) .f32 0x00000000#32))) fun _ _ => 0 := by
  intro i j
  fin_cases g <;> exact bits_zero

/-- A tile's part of the gradient of the first gain. -/
def pG (a : Args) (k : Fin 1024) (u : Fin 16) : ℝ := ∑ r, a.da (srow u r) k * (a.X (srow u r) k * rstd (a.X (srow u r)))
/-- A tile's part of the gradient of the second gain. -/
def pLG (a : Args) (d : Fin 128) (u : Fin 16) : ℝ := ∑ r, ∑ g, a.dzn (srow u r) g d * hat (a.z (srow u r) g) d
/-- A tile's part of the gradient of the second offset. -/
def pLB (a : Args) (d : Fin 128) (u : Fin 16) : ℝ := ∑ r, ∑ g, a.dzn (srow u r) g d
/-- A tile's part of the gradient of the mixing weights. -/
def pW (a : Args) (g : Fin 4) (i j : Fin 128) (u : Fin 16) : ℝ :=
  if j ≤ i then ∑ c, ∑ d, a.dm (row (tb u c) i) g d * a.zn (row (tb u c) j) g d else 0
/-- A tile's part of the gradient of the mixing offsets. -/
def pB (a : Args) (i k : Fin 128) (u : Fin 16) : ℝ := if h : k.val < 4 then ∑ c, ∑ d, a.dm (row (tb u c) i) ⟨k.val, h⟩ d else 0

/-- The sums that the last five output buffers hold after tile `n`. -/
structure Sums (a : Args) (n : ℕ) (o : Vec Ideal S512x1024 .f32 × Vec Ideal S512x2560 .bf16 × Vec Ideal S1x1024 .f32 × Vec Ideal S1x128 .f32
    × Vec Ideal S1x128 .f32 × Vec Ideal S4x128x128 .f32 × Vec Ideal S128x128 .f32) : Prop where
  g : Is (φ := .f32) o.2.2.1 fun _ k => upto (pG a k) n
  lg : Is (φ := .f32) o.2.2.2.1 fun _ d => upto (pLG a d) n
  lb : Is (φ := .f32) o.2.2.2.2.1 fun _ d => upto (pLB a d) n
  w : ∀ g, Is1 (φ := .f32) (slab32 (F := Ideal) g o.2.2.2.2.2.1) fun i j => upto (pW a g i j) n
  b : Is (φ := .f32) o.2.2.2.2.2.2 fun i k => upto (pB a i k) n

/-- The seven output buffers after tile `t`. -/
structure Held (a : Args) (t : Fin 16) (o : Vec Ideal S512x1024 .f32 × Vec Ideal S512x2560 .bf16 × Vec Ideal S1x1024 .f32 × Vec Ideal S1x128 .f32
    × Vec Ideal S1x128 .f32 × Vec Ideal S4x128x128 .f32 × Vec Ideal S128x128 .f32) : Prop where
  x : Is (φ := .f32) o.1 fun r k => a.dx (srow t r) k
  p : Is (φ := .bf16) o.2.1 fun r k => a.dproj (srow t r) k
  s : Sums a t.val o

variable {m : (ℓ : Loc nD τ sig) → Buf (Elt Ideal) ℓ} {c : Dev nD} {a : Args} (H : Holds m c a)
include H

set_option maxHeartbeats 4000000 in
theorem held_A (t : Fin cfg0.N) (h0 : t.val % 16 = 0) : Held a (tn t) (outsAt0 m c t.val t.isLt) := by
  have T := tile H t
  rw [outsAt0_A m c t h0]
  refine ⟨?_, ?_, ⟨?_, ?_, ?_, ?_, ?_⟩⟩ <;> dsimp only
  · rw [open_A_14]; exact dx_is T (stripes_is T)
  · rw [open_A_15]; exact stripes_is T
  · rw [open_A_16]; exact Is.as (dg_is T (stripes_is T) (A := fun _ _ => 0) (zero_is _ _)) fun _ k => upto_zero (pG a k) (tn t) h0
  · rw [open_A_17]; exact Is.as (dlg_is T (A := fun _ _ => 0) (zero_is _ _)) fun _ k => upto_zero (pLG a k) (tn t) h0
  · rw [open_A_18]; exact Is.as (dlb_is T (A := fun _ _ => 0) (zero_is _ _)) fun _ k => upto_zero (pLB a k) (tn t) h0
  · intro g
    fin_cases g
    · refine Is1.as (v := _) (f := _) ?_ fun i j => upto_zero (pW a 0 i j) (tn t) h0
      show Is1 (φ := .f32) (slab32 (F := Ideal) 0 _) _
      rw [open_A_19_0]; exact dw_is T 0 (A := fun _ _ => 0) (zero1_is 0)
    · refine Is1.as (v := _) (f := _) ?_ fun i j => upto_zero (pW a 1 i j) (tn t) h0
      show Is1 (φ := .f32) (slab32 (F := Ideal) 1 _) _
      rw [open_A_19_1]; exact dw_is T 1 (A := fun _ _ => 0) (zero1_is 1)
    · refine Is1.as (v := _) (f := _) ?_ fun i j => upto_zero (pW a 2 i j) (tn t) h0
      show Is1 (φ := .f32) (slab32 (F := Ideal) 2 _) _
      rw [open_A_19_2]; exact dw_is T 2 (A := fun _ _ => 0) (zero1_is 2)
    · refine Is1.as (v := _) (f := _) ?_ fun i j => upto_zero (pW a 3 i j) (tn t) h0
      show Is1 (φ := .f32) (slab32 (F := Ideal) 3 _) _
      rw [open_A_19_3]; exact dw_is T 3 (A := fun _ _ => 0) (zero1_is 3)
  · rw [open_A_20]; exact Is.as (db_is T (A := fun _ _ => 0) (zero_is _ _)) fun i k => upto_zero (pB a i k) (tn t) h0

set_option maxHeartbeats 4000000 in
theorem held_B (t : Fin cfg0.N) (h0 : ¬t.val % 16 = 0)
    (P : Sums a (t.val - 1) (outsAt0 m c (t.val - 1) (Nat.lt_of_le_of_lt (Nat.sub_le _ _) t.isLt))) : Held a (tn t) (outsAt0 m c t.val t.isLt) := by
  have T := tile H t
  rw [outsAt0_B m c t h0]
  refine ⟨?_, ?_, ⟨?_, ?_, ?_, ?_, ?_⟩⟩ <;> dsimp only
  · rw [open_B_14]; exact dx_is T (stripes_is T)
  · rw [open_B_15]; exact stripes_is T
  · rw [open_B_16]; exact Is.as (dg_is T (stripes_is T) (P.g)) fun _ k => upto_step (pG a k) (tn t) h0
  · rw [open_B_17]; exact Is.as (dlg_is T (P.lg)) fun _ k => upto_step (pLG a k) (tn t) h0
  · rw [open_B_18]; exact Is.as (dlb_is T (P.lb)) fun _ k => upto_step (pLB a k) (tn t) h0
  · intro g
    fin_cases g
    · refine Is1.as (v := _) (f := _) ?_ fun i j => upto_step (pW a 0 i j) (tn t) h0
      show Is1 (φ := .f32) (slab32 (F := Ideal) 0 _) _
      rw [open_B_19_0]; exact dw_is T 0 (P.w 0)
    · refine Is1.as (v := _) (f := _) ?_ fun i j => upto_step (pW a 1 i j) (tn t) h0
      show Is1 (φ := .f32) (slab32 (F := Ideal) 1 _) _
      rw [open_B_19_1]; exact dw_is T 1 (P.w 1)
    · refine Is1.as (v := _) (f := _) ?_ fun i j => upto_step (pW a 2 i j) (tn t) h0
      show Is1 (φ := .f32) (slab32 (F := Ideal) 2 _) _
      rw [open_B_19_2]; exact dw_is T 2 (P.w 2)
    · refine Is1.as (v := _) (f := _) ?_ fun i j => upto_step (pW a 3 i j) (tn t) h0
      show Is1 (φ := .f32) (slab32 (F := Ideal) 3 _) _
      rw [open_B_19_3]; exact dw_is T 3 (P.w 3)
  · rw [open_B_20]; exact Is.as (db_is T (P.b)) fun i k => upto_step (pB a i k) (tn t) h0

theorem held : ∀ (n : ℕ) (hn : n < cfg0.N), Held a (tn ⟨n, hn⟩) (outsAt0 m c n hn)
  | 0, hn => held_A H ⟨0, hn⟩ rfl
  | n + 1, hn => by
    by_cases h0 : (n + 1) % 16 = 0
    · exact held_A H ⟨n + 1, hn⟩ h0
    · exact held_B H ⟨n + 1, hn⟩ h0 (held n (Nat.lt_of_succ_lt hn)).s

end Cert.KernelFinal

end
-- ==== Proof.KernelArrays.lean ====
/- The kernel's seven result arrays, at real arguments. -/
module

public import proofs.«01_k».proof.Proof.KernelFinal

@[expose] public section

noncomputable section

namespace Cert.KernelArrays

open Cert.KernelFinal Cert.KernelHost Cert.KernelOps Cert.KernelTile Cert.KernelValue Cert.KernelIdeal Cert.KernelIdeal.Gen
open Idealize.ShloMosaic Idealize.ShloMosaic.TcCoe Idealize.SL.Sem Cert.Spec

theorem idx14 : ∀ t, win0_14.index t = ![t.val, 0] := by decide +kernel
theorem idx15 : ∀ t, win0_15.index t = ![t.val, 0] := by decide +kernel

theorem emb14 (t : Fin cfg0.N) (p : Fin 512) (q : Fin 1024) : (win0_14.blk t).view.emb (ix2 p q) = ix2 (srow (tn t) p) q := by
  blk_ext [idx14 t, srow]
theorem emb15 (t : Fin cfg0.N) (p : Fin 512) (q : Fin 2560) : (win0_15.blk t).view.emb (ix2 p q) = ix2 (srow (tn t) p) q := by
  blk_ext [idx15 t, srow]
theorem eta2 {n k : ℕ} (j : (⟨2, ![n, k]⟩ : Shape).Idx) : j = ix2 (j 0) (j 1) := by
  funext i; fin_cases i <;> rfl
theorem eta3 {l n k : ℕ} (j : (⟨3, ![l, n, k]⟩ : Shape).Idx) : j = ix3 (j 0) (j 1) (j 2) := by
  funext i; fin_cases i <;> rfl
theorem slab32_apply (g : Fin 4) (v : Vec Ideal S4x128x128 .f32) (i j : Fin 128) :
    slab32 (F := Ideal) g v (ix3 0 i j) = v (ix3 g i j) := by
  fin_cases g <;> pointwise [slab32] <;> rfl

theorem sum_rows (f : Fin 8192 → ℝ) : ∑ u, ∑ r, f (srow u r) = ∑ s, f s := by
  rw [← Fintype.sum_prod_type' (fun u r => f (srow u r))]
  exact Fintype.sum_equiv (finProdFinEquiv : Fin 16 × Fin 512 ≃ Fin (16 * 512)) _ (fun s : Fin (16 * 512) => f s)
    (fun p => congrArg f (Fin.ext (by simp only [srow, finProdFinEquiv_apply_val]; omega)))
theorem sum_blocks (f : Fin 64 → ℝ) : ∑ u, ∑ r, f (tb u r) = ∑ s, f s := by
  rw [← Fintype.sum_prod_type' (fun u r => f (tb u r))]
  exact Fintype.sum_equiv (finProdFinEquiv : Fin 16 × Fin 4 ≃ Fin (16 * 4)) _ (fun s : Fin (16 * 4) => f s)
    (fun p => congrArg f (Fin.ext (by simp only [tb, finProdFinEquiv_apply_val]; omega)))

variable (a : Args)
theorem all_g (k) : upto (pG a k) 15 = a.dg k := by
  rw [upto_last]; exact sum_rows fun s => a.da s k * (a.X s k * rstd (a.X s))
theorem all_lg (d) : upto (pLG a d) 15 = a.dlg d := by
  rw [upto_last]; exact sum_rows fun s => ∑ g, a.dzn s g d * hat (a.z s g) d
theorem all_lb (d) : upto (pLB a d) 15 = a.dlb d := by
  rw [upto_last]; exact sum_rows fun s => ∑ g, a.dzn s g d
theorem all_w (g i j) : upto (pW a g i j) 15 = a.dw g i j := by
  rw [upto_last]
  unfold pW Args.dw
  by_cases h : j ≤ i
  · simp only [if_pos h]; exact sum_blocks fun b => ∑ d, a.dm (row b i) g d * a.zn (row b j) g d
  · simp only [if_neg h, Finset.sum_const_zero]
theorem all_b (i k) : upto (pB a i k) 15 = a.db i k := by
  rw [upto_last]
  unfold pB Args.db
  by_cases h : k.val < 4
  · simp only [dif_pos h]; exact sum_blocks fun b => ∑ d, a.dm (row b i) ⟨k.val, h⟩ d
  · simp only [dif_neg h, Finset.sum_const_zero]

variable {m : (ℓ : Loc nD τ sig) → Buf (Elt Ideal) ℓ} {c : Dev nD} {a} (H : Holds m c a)
include H

/-- The last point's buffers. -/
theorem last : Held a 15 (outsAt0 m c t0_15.val t0_15.isLt) := held H t0_15.val t0_15.isLt

theorem a14 : (dats m 0 c).arrAt 14 cfg0.N = fun i => (((a.dx (i 0) (i 1) : ℝ) : EReal) : Ideal .f32) := by
  refine (dats m 0 c).arrAt_eq_of_covers 14 _ (by decide +kernel) fun t hf y => ?_
  blk_simp
  rw [after0_14]
  obtain ⟨p, q, rfl⟩ : ∃ (p : Fin 512) (q : Fin 1024), y = ix2 p q := ⟨_, _, eta2 y⟩
  rw [emb14]
  exact (held H t.val t.isLt).x p q
theorem a15 : (dats m 0 c).arrAt 15 cfg0.N = fun i => (((a.dproj (i 0) (i 1) : ℝ) : EReal) : Ideal .bf16) := by
  refine (dats m 0 c).arrAt_eq_of_covers 15 _ (by decide +kernel) fun t hf y => ?_
  blk_simp
  rw [after0_15]
  obtain ⟨p, q, rfl⟩ : ∃ (p : Fin 512) (q : Fin 2560), y = ix2 p q := ⟨_, _, eta2 y⟩
  rw [emb15]
  exact (held H t.val t.isLt).p p q
theorem a16 : (dats m 0 c).arrAt 16 cfg0.N = fun i => (((a.dg (i 1) : ℝ) : EReal) : Ideal .f32) := by
  refine (dats m 0 c).arrAt_eq_of_after_last 16 t0_15 (by decide +kernel) _ fun j => ?_
  blk_simp
  rw [after0_16]
  obtain ⟨p, q, rfl⟩ : ∃ (p : Fin 1) (q : Fin 1024), j = ix2 p q := ⟨_, _, eta2 j⟩
  exact ((last H).s.g p q).trans (congrArg Real.toEReal (all_g a q))
theorem a17 : (dats m 0 c).arrAt 17 cfg0.N = fun i => (((a.dlg (i 1) : ℝ) : EReal) : Ideal .f32) := by
  refine (dats m 0 c).arrAt_eq_of_after_last 17 t0_15 (by decide +kernel) _ fun j => ?_
  blk_simp
  rw [after0_17]
  obtain ⟨p, q, rfl⟩ : ∃ (p : Fin 1) (q : Fin 128), j = ix2 p q := ⟨_, _, eta2 j⟩
  exact ((last H).s.lg p q).trans (congrArg Real.toEReal (all_lg a q))
theorem a18 : (dats m 0 c).arrAt 18 cfg0.N = fun i => (((a.dlb (i 1) : ℝ) : EReal) : Ideal .f32) := by
  refine (dats m 0 c).arrAt_eq_of_after_last 18 t0_15 (by decide +kernel) _ fun j => ?_
  blk_simp
  rw [after0_18]
  obtain ⟨p, q, rfl⟩ : ∃ (p : Fin 1) (q : Fin 128), j = ix2 p q := ⟨_, _, eta2 j⟩
  exact ((last H).s.lb p q).trans (congrArg Real.toEReal (all_lb a q))
theorem a19 : (dats m 0 c).arrAt 19 cfg0.N = fun i => (((a.dw (i 0) (i 1) (i 2) : ℝ) : EReal) : Ideal .f32) := by
  refine (dats m 0 c).arrAt_eq_of_after_last 19 t0_15 (by decide +kernel) _ fun j => ?_
  blk_simp
  rw [after0_19]
  obtain ⟨g, p, q, rfl⟩ : ∃ (g : Fin 4) (p q : Fin 128), j = ix3 g p q := ⟨_, _, _, eta3 j⟩
  exact (slab32_apply g _ p q).symm.trans (((last H).s.w g p q).trans (congrArg Real.toEReal (all_w a g p q)))
theorem a20 : (dats m 0 c).arrAt 20 cfg0.N = fun i => (((a.db (i 0) (i 1) : ℝ) : EReal) : Ideal .f32) := by
  refine (dats m 0 c).arrAt_eq_of_after_last 20 t0_15 (by decide +kernel) _ fun j => ?_
  blk_simp
  rw [after0_20]
  obtain ⟨p, q, rfl⟩ : ∃ (p q : Fin 128), j = ix2 p q := ⟨_, _, eta2 j⟩
  exact ((last H).s.b p q).trans (congrArg Real.toEReal (all_b a p q))
end Cert.KernelArrays

end
-- ==== Proof.Finite.lean ====
/- The precondition read: argument arrays whose every element is finite hold real numbers. -/
module

public import proofs.«01_k».proof.Proof.RefValue
public import proofs.«01_k».proof.Pre_finite
public import Idealize.ShloMosaic.Lib.ReduceAll
public import Idealize.ShloMosaic.Lib.Affine

@[expose] public section

noncomputable section

namespace Cert.Finite

open Idealize.ShloMosaic Cert.Pre_finite Cert.Spec

theorem bits_inf : Ideal.ofBits .f32 0x7F800000#32 = ⊤ := by simp [Ideal.ofBits, Ideal.ieee]

theorem real_of (x : EReal) (h : max x (-x) < ⊤) : ∃ r : ℝ, x = (r : EReal) := by
  have h1 := lt_of_le_of_lt (le_max_left _ _) h
  have h2 := lt_of_le_of_lt (le_max_right _ _) h
  induction x using EReal.rec with
  | bot => exact absurd h2 (by simp)
  | coe r => exact ⟨r, rfl⟩
  | top => exact absurd h1 (by simp)

/-- An array whose every absolute value is below infinity is an array of real numbers. -/
theorem finite_of {s : Shape} (x : FVec Ideal s .f32) {axes : List (Fin s.rank)} (hb : S_.BroadcastsInDim s (![] : Fin 0 → Fin s.rank))
    (hr : s.ReducesTo axes S_) (hs : 0 < S_.numel) (j : S_.Idx)
    (h : Host.reduce IntOp.andi (cmpf .olt (Host.absf x) (broadcastInDim s ![] hb (constant (F := Ideal) S_ .f32 0x7F800000#32))) (constantI S_ 1 1#1) hr hs j = 1#1)
    (i : s.Idx) : ∃ r : ℝ, x i = (r : EReal) := by
  have : Subsingleton S_.Idx := inferInstance
  have e := Host.reduce_andi_all _ _ hr hs j h i
  have e' : BitVec.ofBool (decide (max (x i) (-(x i)) < Ideal.ofBits .f32 0x7F800000#32)) = 1#1 := e
  rw [bits_inf] at e'
  exact real_of _ (of_decide_eq_true (by revert e'; cases decide (max (x i) (-(x i)) < ⊤) <;> decide))

theorem andi_one {x y : IVec S_ 1} {j : S_.Idx} (h : andi x y j = 1#1) : x j = 1#1 ∧ y j = 1#1 := IntOp.andi_eq_one.1 h

variable [Facts] (x0 : FVec Ideal S8192x1024 .f32) (x1 : FVec Ideal S1x1024 .f32) (x2 : FVec Ideal S1024x2560 .f32) (x3 x4 : FVec Ideal S1x128 .f32)
    (x5 : FVec Ideal S4x128x128 .f32) (x6 : FVec Ideal S4x128 .f32) (x7 : FVec Ideal S8192x1024 .f32) (x8 x9 x10 x11 : FVec Ideal S8192x512 .f32)

/-- Twelve finite arrays hold the real numbers of some arguments. -/
theorem holds (h : fn (F := Ideal) x0 x1 x2 x3 x4 x5 x6 x7 x8 x9 x10 x11 = fun _ => 1#1) :
    ∃ a : Args, Cert.RefValue.Agree a x0 x1 x2 x3 x4 x5 x6 x7 x8 x9 x10 x11 := by
  have j : S_.Idx := fun i => i.elim0
  have e := congrFun h j
  unfold fn fn_part1 fn_part2 fn_part3 at e
  dsimp only at e
  obtain ⟨e, e11⟩ := andi_one e
  obtain ⟨e, e10⟩ := andi_one e
  obtain ⟨e, e9⟩ := andi_one e
  obtain ⟨e, e8⟩ := andi_one e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e, e1⟩ := andi_one e
  obtain ⟨-, e0⟩ := andi_one e
  choose f0 h0 using finite_of x0 _ _ _ j e0
  choose f1 h1 using finite_of x1 _ _ _ j e1
  choose f2 h2 using finite_of x2 _ _ _ j e2
  choose f3 h3 using finite_of x3 _ _ _ j e3
  choose f4 h4 using finite_of x4 _ _ _ j e4
  choose f5 h5 using finite_of x5 _ _ _ j e5
  choose f6 h6 using finite_of x6 _ _ _ j e6
  choose f7 h7 using finite_of x7 _ _ _ j e7
  choose f8 h8 using finite_of x8 _ _ _ j e8
  choose f9 h9 using finite_of x9 _ _ _ j e9
  choose f10 h10 using finite_of x10 _ _ _ j e10
  choose f11 h11 using finite_of x11 _ _ _ j e11
  refine ⟨⟨fun s k => f0 (ix2 s k), fun k => f1 (ix2 0 k), fun k c => f2 (ix2 k c), fun d => f3 (ix2 0 d), fun d => f4 (ix2 0 d), fun g i j => f5 (ix3 g i j),
    fun g i => f6 (ix2 g i), fun s k => f7 (ix2 s k), fun s c => f8 (ix2 s c), fun s c => f9 (ix2 s c), fun s c => f10 (ix2 s c), fun s c => f11 (ix2 s c)⟩,
    fun s k => h0 _, fun z k => ?_, fun k c => h2 _, fun z d => ?_, fun z d => ?_, fun g i j => h5 _, fun g i => h6 _, fun s k => h7 _, fun s c => h8 _,
    fun s c => h9 _, fun s c => h10 _, fun s c => h11 _⟩
  · rw [Subsingleton.elim z 0]; exact h1 _
  · rw [Subsingleton.elim z 0]; exact h3 _
  · rw [Subsingleton.elim z 0]; exact h4 _

end Cert.Finite

end
-- ==== Proof.Algebraic.lean ====
/- The kernel's seven results are the reference program's, over finite arguments. -/
module

public import proofs.«01_k».proof.Defs
public import proofs.«01_k».proof.Proof.KernelArrays
public import proofs.«01_k».proof.Proof.Finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite

@[expose] public section

noncomputable section

namespace Cert.Algebraic

open Idealize.ShloMosaic Idealize.ShloMosaic.TcCoe Idealize.SL.Sem Cert.Spec Cert.KernelArrays

set_option maxHeartbeats 4000000 in
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hargs
  choose a ha using fun c => Cert.Finite.holds _ _ _ _ _ _ _ _ _ _ _ _ (hpre c)
  have H : ∀ c, Cert.RefValue.Agree (a c) (StableHlo.launchContents m' c (Proc.devRef .tc Cert.ReferenceIdeal.main_arg0))
      (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) := fun c => by
    obtain ⟨e0, e1, e2, e3, e4, e5, e6, e7, e8, e9, e10, e11⟩ := hargs c
    exact ⟨fun s k => (congrFun e0 _).trans ((ha c).h0 s k), fun z k => (congrFun e1 _).trans ((ha c).h1 z k), fun k i => (congrFun e2 _).trans ((ha c).h2 k i), fun z d => (congrFun e3 _).trans ((ha c).h3 z d), fun z d => (congrFun e4 _).trans ((ha c).h4 z d), fun g i j => (congrFun e5 _).trans ((ha c).h5 g i j), fun g i => (congrFun e6 _).trans ((ha c).h6 g i), fun s k => (congrFun e7 _).trans ((ha c).h7 s k), fun s i => (congrFun e8 _).trans ((ha c).h8 s i), fun s i => (congrFun e9 _).trans ((ha c).h9 s i), fun s i => (congrFun e10 _).trans ((ha c).h10 s i), fun s i => (congrFun e11 _).trans ((ha c).h11 s i)⟩
  refine ⟨fun c => fun i => ((((a c).dx (i 0) (i 1) : ℝ) : EReal) : Ideal .f32),
    fun c => fun i => ((((a c).dproj (i 0) (i 1) : ℝ) : EReal) : Ideal .bf16),
    fun c => fun i => ((((a c).dg (i 1) : ℝ) : EReal) : Ideal .f32),
    fun c => fun i => ((((a c).dlg (i 1) : ℝ) : EReal) : Ideal .f32),
    fun c => fun i => ((((a c).dlb (i 1) : ℝ) : EReal) : Ideal .f32),
    fun c => fun i => ((((a c).dw (i 0) (i 1) (i 2) : ℝ) : EReal) : Ideal .f32),
    fun c => fun i => ((((a c).db (i 0) (i 1) : ℝ) : EReal) : Ideal .f32), ?_, ?_⟩
  · refine (θ_run _ _ _).mono (fun r h c => ⟨(h c).1.trans (a14 (ha c)),
      (h c).2.1.trans (a15 (ha c)),
      (h c).2.2.1.trans (a16 (ha c)),
      (h c).2.2.2.1.trans (a17 (ha c)),
      (h c).2.2.2.2.1.trans (a18 (ha c)),
      (h c).2.2.2.2.2.1.trans (a19 (ha c)),
      (h c).2.2.2.2.2.2.1.trans (a20 (ha c)), (h c).2.2.2.2.2.2.2⟩) (Cert.KernelIdeal.Value.run_blocks (F := Ideal) m g)
  · refine (θ_run _ _ _).mono (fun r h c => ⟨(h c).1.trans ((Cert.ReferenceIdeal.Read.val_main_v206_eq _).trans (by
          funext i
          obtain ⟨p, q, rfl⟩ : ∃ (p : Fin 8192) (q : Fin 1024), i = ix2 p q := ⟨_, _, eta2 i⟩
          exact Cert.RefValue.r206 (H c) p q)),
      (h c).2.1.trans ((Cert.ReferenceIdeal.Read.val_main_v209_eq _).trans (by
          funext i
          obtain ⟨p, q, rfl⟩ : ∃ (p : Fin 8192) (q : Fin 2560), i = ix2 p q := ⟨_, _, eta2 i⟩
          exact Cert.RefValue.r209 (H c) p q)),
      (h c).2.2.1.trans ((Cert.ReferenceIdeal.Read.val_main_v189_eq _).trans (by
          funext i
          obtain ⟨p, q, rfl⟩ : ∃ (p : Fin 1) (q : Fin 1024), i = ix2 p q := ⟨_, _, eta2 i⟩
          exact Cert.RefValue.r189 (H c) p q)),
      (h c).2.2.2.1.trans ((Cert.ReferenceIdeal.Read.val_main_v136_eq _).trans (by
          funext i
          obtain ⟨p, q, rfl⟩ : ∃ (p : Fin 1) (q : Fin 128), i = ix2 p q := ⟨_, _, eta2 i⟩
          exact Cert.RefValue.r136 (H c) p q)),
      (h c).2.2.2.2.1.trans ((Cert.ReferenceIdeal.Read.val_main_v129_eq _).trans (by
          funext i
          obtain ⟨p, q, rfl⟩ : ∃ (p : Fin 1) (q : Fin 128), i = ix2 p q := ⟨_, _, eta2 i⟩
          exact Cert.RefValue.r129 (H c) p q)),
      (h c).2.2.2.2.2.1.trans ((Cert.ReferenceIdeal.Read.val_main_v124_eq _).trans (by
          funext i
          obtain ⟨p, q, l, rfl⟩ : ∃ (p : Fin 4) (q : Fin 128) (l : Fin 128), i = ix3 p q l := ⟨_, _, _, eta3 i⟩
          exact Cert.RefValue.r124 (H c) p q l)),
      (h c).2.2.2.2.2.2.1.trans ((Cert.ReferenceIdeal.Read.val_main_v208_eq _).trans (by
          funext i
          obtain ⟨p, q, rfl⟩ : ∃ (p : Fin 128) (q : Fin 128), i = ix2 p q := ⟨_, _, eta2 i⟩
          exact Cert.RefValue.r208 (H c) p q)), (h c).2.2.2.2.2.2.2⟩) (Cert.ReferenceIdeal.Value.run (F := Ideal) m' g')

end Cert.Algebraic

end
-- ==== Proof.FfnOps.lean ====
/- What the second call's kernel writes from one tile of 256 rows, as terms over the tile's blocks and the four weights. -/
module

public import proofs.«01_k».proof.Proof.Gen.Kernel2Ideal.Skeleton
public import Idealize.ShloMosaic.Lib.Pipeline.ValueKit
public import Idealize.ShloMosaic.Lib.Pipeline.ReadBack

@[expose] public section

noncomputable section

namespace Cert.FfnOps

open Cert.Kernel2Ideal Cert.Kernel2Ideal.Gen Idealize.ShloMosaic Idealize.ShloMosaic.TcCoe Idealize.SL.Sem

/-- The blocks of one tile and the weights. -/
structure In (F : FTy → Type) where
  x0 : Vec F S256x1024 .f32
  x1 : Vec F S256x256 .f32
  x2 : Vec F S256x1024 .f32
  x3 : Vec F S1x1024 .f32
  x4 : Vec F S1x1024 .f32
  x5 : Vec F S1x1024 .f32
  wu : Vec F S1024x5632 .bf16
  wd : Vec F S2816x1024 .bf16
  wg : Vec F S1024x1024 .bf16
  wp : Vec F S256x1024 .bf16

variable {F : FTy → Type} [FloatOps F] (b : In F)

/-- The gate columns of the first weight, and the others. -/
def In.lo : Vec F S1024x2816 .bf16 := View.ld b.wu (Rect.unit ![0, 0] ![1024, 2816] (by decide))
def In.hi : Vec F S1024x2816 .bf16 := View.ld b.wu (Rect.unit ![0, 2816] ![1024, 2816] (by decide))
def cF : FVec F S256x1024 .bf16 := k0_pay9 b.x0 b.x3
def cUp : FVec F S256x2816 .f32 := k0_pay11 b.x0 b.x3 b.hi
def cSilu : FVec F S256x2816 .f32 := k0_pay13 b.x0 b.x3 b.lo
/-- The factors of the two halves of the gradient at the first product. -/
def cL : FVec F S256x2816 .f32 := k0_pay16 (cUp b) (k0_pay12 b.x0 b.x3 b.lo) (k0_pay14 b.x0 b.x3 b.lo) k0_pay15
def cR : FVec F S256x2816 .f32 := k0_pay17 (cSilu b)
def cAct : FVec F S256x2816 .bf16 := k0_pay18 (cUp b) (cSilu b)
def cRy : FVec F S256x1 .f32 := k0_pay20 (cUp b) (cSilu b) b.wd
def cYh : FVec F S256x1024 .f32 := k0_pay21 (cUp b) (cSilu b) b.wd
def cH2 : FVec F S256x1024 .f32 := k0_pay22 b.x0 (cUp b) (cSilu b) b.wd b.x4
def cH2b : FVec F S256x1024 .bf16 := k0_pay23 b.x0 (cUp b) (cSilu b) b.wd b.x4
def cGz : FVec F S256x1024 .f32 := k0_pay24 b.x0 (cUp b) (cSilu b) b.wd b.x4 b.wg b.x5
def cGate : FVec F S256x1024 .f32 := k0_pay25 (cGz b)
def cP16 : FVec F S256x256 .bf16 := k0_pay26 b.x1
def cPp : FVec F S256x1024 .f32 := k0_pay27 b.x1 b.wp
def cDh3 : FVec F S256x1024 .f32 := k0_pay30 (cH2 b) (cGz b) b.x1 b.wp b.x2
def cDpp : FVec F S256x1024 .bf16 := k0_pay31 (cH2 b) (cGz b) b.x1 b.wp b.x2
def cDgp : FVec F S256x1024 .bf16 := k0_pay34 (cGate b) (cPp b) (cDh3 b)
def cDh2 : FVec F S256x1024 .f32 := k0_pay35 (cGate b) (cPp b) (cDh3 b) b.wg
def cDy : FVec F S256x1024 .bf16 := k0_pay37 (cRy b) (cYh b) (cGate b) (cPp b) (cDh3 b) b.wg b.x4
def cDg : FVec F S256x2816 .bf16 := k0_pay39 (cDy b) b.wd (cL b)
def cDup : FVec F S256x2816 .bf16 := k0_pay40 (cDy b) b.wd (cR b)
def cDh1 : FVec F S256x1024 .f32 := k0_pay2 (cDh2 b) (k0_pay42 (k0_pay7 b.x0) (k0_pay8 b.x0) (cDy b) b.wd (cL b) (cR b) b.lo b.hi b.x3)
def cDgu : Vec F S256x5632 .bf16 :=
  View.canon [⟨Rect.unit ![0, 2816] ![256, 2816] (by decide), cDup b⟩, ⟨Rect.unit ![0, 0] ![256, 2816] (by decide), cDg b⟩]
def cLoss (z : Vec F S1x1 .f32) : FVec F S1x1 .f32 := k0_pay29 (cH2 b) (cGz b) b.x1 b.wp b.x2 z
def cBp (z : Vec F S1x1024 .f32) : FVec F S1x1024 .f32 := k0_pay33 (cGate b) (cPp b) (cDh3 b) z
def cGp (z : Vec F S1x1024 .f32) : FVec F S1x1024 .f32 := k0_pay36 (cYh b) (cGate b) (cPp b) (cDh3 b) b.wg z
def cGf (z : Vec F S1x1024 .f32) : FVec F S1x1024 .f32 := k0_pay1 (k0_pay43 (k0_pay8 b.x0) (cDy b) b.wd (cL b) (cR b) b.lo b.hi) z

end Cert.FfnOps
-- ==== Proof.FfnSpec.lean ====
/- The second half of the layer and its gradient as plain real mathematics, one row at a time, and the lemmas that carry
   the exponential and the constants of these programs to the real numbers. Neither program is named here. -/
module

public import proofs.«01_k».proof.Proof.Spec

@[expose] public section

noncomputable section

namespace Cert.FfnSpec

open Idealize.ShloMosaic Finset Cert.Spec

/-! ## Operations at real numbers -/

/-- The sigmoid. -/
def sg (v : ℝ) : ℝ := 1 / (1 + Real.exp (-v))

theorem exp_ne (v : ℝ) : 1 + Real.exp v ≠ 0 := by positivity

theorem exp_coe (a : ℝ) : Ideal.exp (a : EReal) = ((Real.exp a : ℝ) : EReal) := rfl
/-- A quotient by one more than an exponential is one of real numbers. -/
theorem div_exp (v : ℝ) : Ideal.div ((1 : ℝ) : EReal) ((1 + Real.exp v : ℝ) : EReal) = ((1 / (1 + Real.exp v) : ℝ) : EReal) := div_coe _ _ (exp_ne v)

theorem bits_inv1024 : Ideal.ofBits .f32 0x3A800000#32 = ((1 / 1024 : ℝ) : EReal) := by
  simp [Ideal.ofBits, Ideal.ieee, -EReal.coe_mul]; norm_num

/-! ## A row -/

/-- The gate columns of the first product and its other columns. -/
def lo (j : Fin 2816) : Fin 5632 := ⟨j.val, by omega⟩
def hi (j : Fin 2816) : Fin 5632 := ⟨2816 + j.val, by omega⟩

/-- What every row is computed with. -/
structure Wts where
  GF : Fin 1024 → ℝ
  GP : Fin 1024 → ℝ
  BP : Fin 1024 → ℝ
  WU : Fin 1024 → Fin 5632 → ℝ
  WD : Fin 2816 → Fin 1024 → ℝ
  WG : Fin 1024 → Fin 1024 → ℝ
  WP : Fin 256 → Fin 1024 → ℝ

/-- One row of the three arrays. -/
structure Row where
  h : Fin 1024 → ℝ
  p : Fin 256 → ℝ
  t : Fin 1024 → ℝ

variable (w : Wts) (x : Row)

def Row.hh : Fin 1024 → ℝ := fun k => x.h k * rstd x.h
def f : Fin 1024 → ℝ := fun k => x.hh k * w.GF k
def g : Fin 2816 → ℝ := fun j => ∑ k, f w x k * w.WU k (lo j)
def up : Fin 2816 → ℝ := fun j => ∑ k, f w x k * w.WU k (hi j)
def act : Fin 2816 → ℝ := fun j => g w x j * sg (g w x j) * up w x j
def y : Fin 1024 → ℝ := fun k => ∑ j, act w x j * w.WD j k
def yh : Fin 1024 → ℝ := fun k => y w x k * rstd (y w x)
def h2 : Fin 1024 → ℝ := fun k => x.h k + yh w x k * w.GP k
def gz : Fin 1024 → ℝ := fun k => (∑ j, h2 w x j * w.WG j k) + w.BP k
def gate : Fin 1024 → ℝ := fun k => sg (gz w x k)
def pp : Fin 1024 → ℝ := fun k => ∑ j, x.p j * w.WP j k
def diff : Fin 1024 → ℝ := fun k => h2 w x k + gate w x k * pp w x k - x.t k
def mse : ℝ := (∑ k, diff w x k * diff w x k) / 1024
def dh3 : Fin 1024 → ℝ := fun k => diff w x k * (1 / 1024)
def dpp : Fin 1024 → ℝ := fun k => dh3 w x k * gate w x k
def dgp : Fin 1024 → ℝ := fun k => dh3 w x k * pp w x k * gate w x k * (1 - gate w x k)
def dh2 : Fin 1024 → ℝ := fun k => dh3 w x k + ∑ j, dgp w x j * w.WG k j
def dy : Fin 1024 → ℝ := rmsBack (y w x) fun k => dh2 w x k * w.GP k
def dact : Fin 2816 → ℝ := fun j => ∑ k, dy w x k * w.WD j k
def dg : Fin 2816 → ℝ := fun j => dact w x j * (up w x j * (sg (g w x j) * (1 + g w x j * (1 - sg (g w x j)))))
def dup : Fin 2816 → ℝ := fun j => dact w x j * (g w x j * sg (g w x j))
def df : Fin 1024 → ℝ := fun k => (∑ j, dg w x j * w.WU k (lo j)) + ∑ j, dup w x j * w.WU k (hi j)
def dh1 : Fin 1024 → ℝ := fun k => dh2 w x k + rmsBack x.h (fun d => df w x d * w.GF d) k
/-- The gradient at the first product's columns, side by side. -/
def dgu : Fin 5632 → ℝ := fun c => if h : c.val < 2816 then dg w x ⟨c.val, h⟩ else dup w x ⟨c.val - 2816, by omega⟩

theorem sum_two {n N : ℕ} (h : N = n + n) (F : Fin N → ℝ) :
    ∑ c, F c = (∑ j : Fin n, F ⟨j.val, by omega⟩) + ∑ j : Fin n, F ⟨n + j.val, by omega⟩ := by
  subst h
  rw [Fin.sum_univ_add]
  rfl
/-- A sum over the columns in two halves. -/
theorem sum_halves (F : Fin 5632 → ℝ) : ∑ c, F c = (∑ j, F (lo j)) + ∑ j, F (hi j) := by
  unfold lo hi
  exact sum_two (n := 2816) (by norm_num) F

theorem dgu_lo (j : Fin 2816) : dgu w x (lo j) = dg w x j := dif_pos j.isLt
theorem dgu_hi (j : Fin 2816) : dgu w x (hi j) = dup w x j := by
  have h : ¬ (hi j).val < 2816 := by simp only [hi]; omega
  refine (dif_neg h).trans (congrArg (dup w x) (Fin.ext ?_))
  simp only [hi]; omega
theorem df_eq (k : Fin 1024) : ∑ c, dgu w x c * w.WU k c = df w x k := by
  rw [sum_halves]
  simp only [dgu_lo, dgu_hi]
  unfold df
  rfl

/-! ## All rows -/

/-- The arguments. -/
structure Args extends Wts where
  H : Fin 8192 → Fin 1024 → ℝ
  P : Fin 8192 → Fin 256 → ℝ
  T : Fin 8192 → Fin 1024 → ℝ

def Args.row (a : Args) (s : Fin 8192) : Row := ⟨a.H s, a.P s, a.T s⟩
def Args.loss (a : Args) : ℝ := 1 / 2 * ∑ s, mse a.toWts (a.row s)
def Args.dGF (a : Args) (k : Fin 1024) : ℝ := ∑ s, df a.toWts (a.row s) k * (a.row s).hh k
def Args.dGP (a : Args) (k : Fin 1024) : ℝ := ∑ s, dh2 a.toWts (a.row s) k * yh a.toWts (a.row s) k
def Args.dBP (a : Args) (k : Fin 1024) : ℝ := ∑ s, dgp a.toWts (a.row s) k

end Cert.FfnSpec
-- ==== Proof.FfnTile.lean ====
/- What the second call's kernel computes from one tile of 256 rows, at real numbers. -/
module

public import proofs.«01_k».proof.Proof.FfnOps
public import proofs.«01_k».proof.Proof.FfnSpec
public import Idealize.ShloMosaic.Lib.Pointwise
public import Idealize.ShloMosaic.Lib.TwoAxisContraction
public import Idealize.ShloMosaic.Lib.KernelVsHost

@[expose] public section

noncomputable section

namespace Cert.FfnTile

open Cert.FfnOps Cert.Kernel2Ideal Cert.Kernel2Ideal.Gen Idealize.ShloMosaic Idealize.ShloMosaic.TcCoe Idealize.SL.Sem
open Cert.FfnSpec
open Cert.Spec hiding Args

/-- `v` holds the real numbers `f`. -/
def Is {n m : ℕ} {φ : FTy} (v : FVec Ideal ⟨2, ![n, m]⟩ φ) (f : Fin n → Fin m → ℝ) : Prop := ∀ r d, v (ix2 r d) = ((f r d : ℝ) : EReal)

/-- Row `r` of tile `t`. -/
def srow (t : Fin 32) (r : Fin 256) : Fin 8192 := ⟨t.val * 256 + r.val, by omega⟩

/-- The blocks of one tile hold the arguments' real numbers. -/
structure Tile (a : Args) (t : Fin 32) (b : In Ideal) : Prop where
  h0 : Is (φ := .f32) b.x0 fun r k => a.H (srow t r) k
  h1 : Is (φ := .f32) b.x1 fun r k => a.P (srow t r) k
  h2 : Is (φ := .f32) b.x2 fun r k => a.T (srow t r) k
  h3 : Is (φ := .f32) b.x3 fun _ k => a.GF k
  h4 : Is (φ := .f32) b.x4 fun _ k => a.GP k
  h5 : Is (φ := .f32) b.x5 fun _ k => a.BP k
  wu : Is (φ := .bf16) b.wu a.WU
  wd : Is (φ := .bf16) b.wd a.WD
  wg : Is (φ := .bf16) b.wg a.WG
  wp : Is (φ := .bf16) b.wp a.WP

variable {a : Args} {t : Fin 32} {b : In Ideal} (H : Tile a t b)
include H

theorem lo_is : Is (φ := .bf16) b.lo fun k j => a.WU k (lo j) := by
  intro k j
  show In.lo (F := Ideal) b _ = _
  pointwise [In.lo]
  exact (H.wu k _).trans (congrArg (fun c => ((a.WU k c : ℝ) : EReal)) (Fin.ext (by simp [lo])))
theorem hi_is : Is (φ := .bf16) b.hi fun k j => a.WU k (hi j) := by
  intro k j
  show In.hi (F := Ideal) b _ = _
  pointwise [In.hi]
  exact (H.wu k _).trans (congrArg (fun c => ((a.WU k c : ℝ) : EReal)) (Fin.ext (by simp [hi])))

theorem r_is : Is (k0_pay7 (F := Ideal) b.x0) fun r _ => rstd (a.H (srow t r)) := by
  intro r z
  pointwise [k0_pay7]
  simp only [H.h0 _ _, bits_1024, bits_eps, mul_coe, coe_sum, div_1024, add_coe]
  exact irsqrt_coe _ (msq_pos (a.H (srow t r)))
theorem hh_is : Is (k0_pay8 (F := Ideal) b.x0) fun r k => (a.row (srow t r)).hh k := by
  intro r k
  pointwise [k0_pay8]
  simp only [H.h0 _ _, r_is H _ _, mul_coe]
  rfl
theorem f_is : Is (cF b) fun r k => f a.toWts (a.row (srow t r)) k := by
  intro r k
  pointwise [cF, k0_pay9]
  simp only [hh_is H _ _, H.h3 _ _, mul_coe]
  rfl
theorem g_is : Is (k0_pay10 (F := Ideal) b.x0 b.x3 b.lo) fun r j => g a.toWts (a.row (srow t r)) j := by
  intro r j
  have e := f_is H
  unfold cF at e
  pointwise [k0_pay10]
  simp only [e _ _, lo_is H _ _, mul_coe, coe_sum]
  rfl
theorem up_is : Is (cUp b) fun r j => up a.toWts (a.row (srow t r)) j := by
  intro r j
  have e := f_is H
  unfold cF at e
  pointwise [cUp, k0_pay11]
  simp only [e _ _, hi_is H _ _, mul_coe, coe_sum]
  rfl
theorem sig_is : Is (k0_pay12 (F := Ideal) b.x0 b.x3 b.lo) fun r j => sg (g a.toWts (a.row (srow t r)) j) := by
  intro r j
  pointwise [k0_pay12]
  simp only [g_is H _ _, bits_one, bits_zero, one_coe, zero_coe, sub_coe, zero_sub, exp_coe, add_coe, div_exp]
  rfl
theorem silu_is : Is (cSilu b) fun r j => g a.toWts (a.row (srow t r)) j * sg (g a.toWts (a.row (srow t r)) j) := by
  intro r j
  pointwise [cSilu, k0_pay13]
  simp only [g_is H _ _, sig_is H _ _, mul_coe]
theorem L_is : Is (cL b) fun r j => up a.toWts (a.row (srow t r)) j
    * (sg (g a.toWts (a.row (srow t r)) j) * (1 + g a.toWts (a.row (srow t r)) j * (1 - sg (g a.toWts (a.row (srow t r)) j)))) := by
  intro r j
  pointwise [cL, k0_pay14, k0_pay15, k0_pay16]
  simp only [up_is H _ _, g_is H _ _, sig_is H _ _, bits_one, one_coe, sub_coe, add_coe, mul_coe]
theorem R_is : Is (cR b) fun r j => g a.toWts (a.row (srow t r)) j * sg (g a.toWts (a.row (srow t r)) j) := by
  intro r j
  pointwise [cR, k0_pay17]
  exact silu_is H r j
theorem act_is : Is (cAct b) fun r j => act a.toWts (a.row (srow t r)) j := by
  intro r j
  pointwise [cAct, k0_pay18]
  simp only [up_is H _ _, silu_is H _ _, mul_coe]
  rfl
theorem y_is : Is (k0_pay19 (F := Ideal) (cUp b) (cSilu b) b.wd) fun r k => y a.toWts (a.row (srow t r)) k := by
  intro r k
  have e := act_is H
  unfold cAct at e
  pointwise [k0_pay19]
  simp only [e _ _, H.wd _ _, mul_coe, coe_sum]
  rfl
theorem ry_is : Is (cRy b) fun r _ => rstd (y a.toWts (a.row (srow t r))) := by
  intro r z
  pointwise [cRy, k0_pay20]
  simp only [y_is H _ _, bits_1024, bits_eps, mul_coe, coe_sum, div_1024, add_coe]
  exact irsqrt_coe _ (msq_pos (y a.toWts (a.row (srow t r))))
theorem yh_is : Is (cYh b) fun r k => yh a.toWts (a.row (srow t r)) k := by
  intro r k
  have e := ry_is H
  unfold cRy at e
  pointwise [cYh, k0_pay21]
  simp only [y_is H _ _, e _ _, mul_coe]
  rfl
theorem h2_is : Is (cH2 b) fun r k => h2 a.toWts (a.row (srow t r)) k := by
  intro r k
  have e := yh_is H
  unfold cYh at e
  pointwise [cH2, k0_pay22]
  simp only [H.h0 _ _, H.h4 _ _, e _ _, mul_coe, add_coe]
  rfl
theorem h2b_is : Is (cH2b b) fun r k => h2 a.toWts (a.row (srow t r)) k := by
  intro r k
  pointwise [cH2b, k0_pay23]
  exact h2_is H r k
theorem gz_is : Is (cGz b) fun r k => gz a.toWts (a.row (srow t r)) k := by
  intro r k
  have e := h2b_is H
  unfold cH2b at e
  pointwise [cGz, k0_pay24]
  simp only [e _ _, H.wg _ _, H.h5 _ _, mul_coe, coe_sum, add_coe]
  rfl
theorem gate_is : Is (cGate b) fun r k => gate a.toWts (a.row (srow t r)) k := by
  intro r k
  pointwise [cGate, k0_pay25]
  simp only [gz_is H _ _, bits_one, bits_zero, one_coe, zero_coe, sub_coe, zero_sub, exp_coe, add_coe, div_exp]
  rfl
theorem p16_is : Is (cP16 b) fun r k => a.P (srow t r) k := by
  intro r k
  pointwise [cP16, k0_pay26]
  exact H.h1 r k
theorem pp_is : Is (cPp b) fun r k => pp a.toWts (a.row (srow t r)) k := by
  intro r k
  have e := p16_is H
  unfold cP16 at e
  pointwise [cPp, k0_pay27]
  simp only [e _ _, H.wp _ _, mul_coe, coe_sum]
  rfl
theorem diff_is : Is (k0_pay28 (F := Ideal) (cH2 b) (cGz b) b.x1 b.wp b.x2) fun r k => diff a.toWts (a.row (srow t r)) k := by
  intro r k
  have e := gate_is H
  have e' := pp_is H
  unfold cGate at e
  unfold cPp at e'
  pointwise [k0_pay28]
  simp only [e _ _, e' _ _, h2_is H _ _, H.h2 _ _, mul_coe, add_coe, sub_coe]
  rfl
theorem loss_is {z : FVec Ideal S1x1 .f32} {v : ℝ} (hz : Is z fun _ _ => v) :
    Is (cLoss b z) fun _ _ => v + 1 / 2 * ∑ r, mse a.toWts (a.row (srow t r)) := by
  intro i j
  pointwise [cLoss, k0_pay29]
  simp only [diff_is H _ _, hz _ _, bits_1024, bits_half, mul_coe, coe_sum, div_1024, add_coe]
  rfl
theorem dh3_is : Is (cDh3 b) fun r k => dh3 a.toWts (a.row (srow t r)) k := by
  intro r k
  pointwise [cDh3, k0_pay30]
  simp only [diff_is H _ _, bits_inv1024, mul_coe]
  rfl
theorem dpp_is : Is (cDpp b) fun r k => dpp a.toWts (a.row (srow t r)) k := by
  intro r k
  have e := gate_is H
  have e' := dh3_is H
  unfold cGate at e
  unfold cDh3 at e'
  pointwise [cDpp, k0_pay31]
  simp only [e _ _, e' _ _, mul_coe]
  rfl
theorem dgp32_is : Is (k0_pay32 (F := Ideal) (cGate b) (cPp b) (cDh3 b)) fun r k => dgp a.toWts (a.row (srow t r)) k := by
  intro r k
  pointwise [k0_pay32]
  simp only [gate_is H _ _, pp_is H _ _, dh3_is H _ _, bits_one, one_coe, mul_coe, sub_coe]
  rfl
theorem bp_is {z : FVec Ideal S1x1024 .f32} {v : Fin 1024 → ℝ} (hz : Is z fun _ k => v k) :
    Is (cBp b z) fun _ k => v k + ∑ r, dgp a.toWts (a.row (srow t r)) k := by
  intro i k
  pointwise [cBp, k0_pay33]
  simp only [dgp32_is H _ _, hz _ _, coe_sum, add_coe]
theorem dgp_is : Is (cDgp b) fun r k => dgp a.toWts (a.row (srow t r)) k := by
  intro r k
  pointwise [cDgp, k0_pay34]
  exact dgp32_is H r k
theorem dh2_is : Is (cDh2 b) fun r k => dh2 a.toWts (a.row (srow t r)) k := by
  intro r k
  have e := dgp_is H
  unfold cDgp at e
  pointwise [cDh2, k0_pay35]
  simp only [e _ _, dh3_is H _ _, H.wg _ _, mul_coe, coe_sum, add_coe]
  rfl
theorem gp_is {z : FVec Ideal S1x1024 .f32} {v : Fin 1024 → ℝ} (hz : Is z fun _ k => v k) :
    Is (cGp b z) fun _ k => v k + ∑ r, dh2 a.toWts (a.row (srow t r)) k * yh a.toWts (a.row (srow t r)) k := by
  intro i k
  have e := dh2_is H
  unfold cDh2 at e
  pointwise [cGp, k0_pay36]
  simp only [e _ _, yh_is H _ _, hz _ _, mul_coe, coe_sum, add_coe]
theorem dy_is : Is (cDy b) fun r k => dy a.toWts (a.row (srow t r)) k := by
  intro r k
  have e := dh2_is H
  unfold cDh2 at e
  pointwise [cDy, k0_pay37]
  simp only [e _ _, yh_is H _ _, ry_is H _ _, H.h4 _ _, bits_1024, mul_coe, coe_sum, div_1024, sub_coe]
  rfl
theorem dact_is : Is (k0_pay38 (F := Ideal) (cDy b) b.wd) fun r j => dact a.toWts (a.row (srow t r)) j := by
  intro r j
  pointwise [k0_pay38]
  simp only [dy_is H _ _, H.wd _ _, mul_coe, coe_sum]
  rfl
theorem dg_is : Is (cDg b) fun r j => dg a.toWts (a.row (srow t r)) j := by
  intro r j
  pointwise [cDg, k0_pay39]
  simp only [dact_is H _ _, L_is H _ _, mul_coe]
  rfl
theorem dup_is : Is (cDup b) fun r j => dup a.toWts (a.row (srow t r)) j := by
  intro r j
  pointwise [cDup, k0_pay40]
  simp only [dact_is H _ _, R_is H _ _, mul_coe]
  rfl
theorem df_is : Is (k0_pay41 (F := Ideal) (cDy b) b.wd (cL b) (cR b) b.lo b.hi) fun r k => df a.toWts (a.row (srow t r)) k := by
  intro r k
  have e := dg_is H
  have e' := dup_is H
  unfold cDg at e
  unfold cDup at e'
  pointwise [k0_pay41]
  simp only [e _ _, e' _ _, lo_is H _ _, hi_is H _ _, mul_coe, coe_sum, add_coe]
  rfl
theorem gf_is {z : FVec Ideal S1x1024 .f32} {v : Fin 1024 → ℝ} (hz : Is z fun _ k => v k) :
    Is (cGf b z) fun _ k => v k + ∑ r, df a.toWts (a.row (srow t r)) k * (a.row (srow t r)).hh k := by
  intro i k
  pointwise [cGf, k0_pay43, k0_pay1]
  simp only [df_is H _ _, hh_is H _ _, hz _ _, mul_coe, coe_sum, add_coe]
theorem rms_is : Is (k0_pay42 (F := Ideal) (k0_pay7 b.x0) (k0_pay8 b.x0) (cDy b) b.wd (cL b) (cR b) b.lo b.hi b.x3)
    fun r k => rmsBack (a.H (srow t r)) (fun d => df a.toWts (a.row (srow t r)) d * a.GF d) k := by
  intro r k
  pointwise [k0_pay42]
  simp only [df_is H _ _, hh_is H _ _, r_is H _ _, H.h3 _ _, bits_1024, mul_coe, coe_sum, div_1024, sub_coe]
  rfl
theorem dh1_is : Is (cDh1 b) fun r k => dh1 a.toWts (a.row (srow t r)) k := by
  intro r k
  pointwise [cDh1, k0_pay2]
  simp only [rms_is H _ _, dh2_is H _ _, add_coe]
  rfl

end Cert.FfnTile
-- ==== Proof.FfnRef.lean ====
/- The second reference's results as the real gradient (`FfnSpec`): each operation read at an index over arguments that are
   real numbers. -/
module

public import proofs.«01_k».proof.Proof.Gen.Reference2Ideal.Read
public import proofs.«01_k».proof.Proof.FfnSpec
public import Idealize.ShloMosaic.Lib.Pointwise
public import Idealize.ShloMosaic.Lib.TwoAxisContraction
public import Idealize.ShloMosaic.Lib.KernelVsHost

@[expose] public section

noncomputable section

namespace Cert.FfnRef

open Cert.Reference2Ideal Cert.Reference2Ideal.Read Idealize.ShloMosaic Cert.FfnSpec
open Cert.Spec hiding Args

/-- An f32 array of the ideal model. -/
abbrev Arr (s : Shape) := (⟨s, .f32⟩ : BufTy).Contents (Elt Ideal)

/-- The ten argument arrays hold the real numbers `a`. -/
structure Agree (a : Args) (x0 : Arr S8192x1024) (x1 : Arr S8192x256) (x2 : Arr S8192x1024) (x3 x4 x5 : Arr S1x1024)
    (x6 : Arr S1024x5632) (x7 : Arr S2816x1024) (x8 : Arr S1024x1024) (x9 : Arr S256x1024) : Prop where
  h0 : ∀ s k, x0 (ix2 s k) = ((a.H s k : ℝ) : EReal)
  h1 : ∀ s k, x1 (ix2 s k) = ((a.P s k : ℝ) : EReal)
  h2 : ∀ s k, x2 (ix2 s k) = ((a.T s k : ℝ) : EReal)
  h3 : ∀ z k, x3 (ix2 z k) = ((a.GF k : ℝ) : EReal)
  h4 : ∀ z k, x4 (ix2 z k) = ((a.GP k : ℝ) : EReal)
  h5 : ∀ z k, x5 (ix2 z k) = ((a.BP k : ℝ) : EReal)
  h6 : ∀ k c, x6 (ix2 k c) = ((a.WU k c : ℝ) : EReal)
  h7 : ∀ k c, x7 (ix2 k c) = ((a.WD k c : ℝ) : EReal)
  h8 : ∀ k c, x8 (ix2 k c) = ((a.WG k c : ℝ) : EReal)
  h9 : ∀ k c, x9 (ix2 k c) = ((a.WP k c : ℝ) : EReal)

variable {a : Args} {x0 : Arr S8192x1024} {x1 : Arr S8192x256} {x2 : Arr S8192x1024} {x3 x4 x5 : Arr S1x1024}
  {x6 : Arr S1024x5632} {x7 : Arr S2816x1024} {x8 : Arr S1024x1024} {x9 : Arr S256x1024}
  (H : Agree a x0 x1 x2 x3 x4 x5 x6 x7 x8 x9)
include H

theorem r_v10 (s : Fin 8192) (z : Fin 1) : val_main_v10 (F := Ideal) x0 (ix2 s z) = ((msq (a.H s) : ℝ) : EReal) := by
  pointwise [val_main_v10, val_main_v9, val_main_v8, val_main_v7, val_main_v6, val_main_v5, val_main_v4, val_main_cst_3, val_main_cst_4, val_main_cst_5]
  simp only [H.h0, bits_1024, bits_eps, mul_coe, coe_sum, div_1024, add_coe]
  rfl
theorem r_v11 (s : Fin 8192) (z : Fin 1) : val_main_v11 (F := Ideal) x0 (ix2 s z) = ((rstd (a.H s) : ℝ) : EReal) := by
  pointwise [val_main_v11]
  rw [r_v10 H, irsqrt_coe _ (msq_pos _)]; rfl
theorem r_v14 (s : Fin 8192) (z : Fin 1) : val_main_v14 (F := Ideal) x0 (ix2 s z) = ((-(1 / 2) * (rstd (a.H s) / msq (a.H s)) : ℝ) : EReal) := by
  pointwise [val_main_v14, val_main_v13, val_main_v12, val_main_cst_6]
  rw [r_v10 H, r_v11 H, div_coe _ _ (msq_pos _).ne', bits_neghalf, mul_coe]
theorem r_v16 (s : Fin 8192) (k : Fin 1024) : val_main_v16 (F := Ideal) x0 (ix2 s k) = (((a.row s).hh k : ℝ) : EReal) := by
  pointwise [val_main_v16, val_main_v15]
  rw [r_v11 H, H.h0, mul_coe]; rfl
theorem r_v18 (s : Fin 8192) (k : Fin 1024) : val_main_v18 (F := Ideal) x0 x3 (ix2 s k) = ((f a.toWts (a.row s) k : ℝ) : EReal) := by
  pointwise [val_main_v18, val_main_v17]
  rw [r_v16 H, H.h3, mul_coe]; rfl
theorem r_v20 (s : Fin 8192) (k : Fin 5632) : val_main_v20 (F := Ideal) x0 x3 x6 (ix2 s k) = ((∑ i, f a.toWts (a.row s) i * a.WU i k : ℝ) : EReal) := by
  pointwise [val_main_v20, val_main_v19, val_main_v0, val_main_cst]
  simp only [r_v18 H, H.h6, mul_coe, coe_sum, add_zero, bits_zero, add_coe]
theorem r_v21 (s : Fin 8192) (k : Fin 2816) : val_main_v21 (F := Ideal) x0 x3 x6 (ix2 s k) = ((g a.toWts (a.row s) k : ℝ) : EReal) := by
  pointwise [val_main_v21]
  exact r_v20 H s _
theorem r_v22 (s : Fin 8192) (k : Fin 2816) : val_main_v22 (F := Ideal) x0 x3 x6 (ix2 s k) = ((up a.toWts (a.row s) k : ℝ) : EReal) := by
  pointwise [val_main_v22]
  exact r_v20 H s _
theorem r_v23_2 (s : Fin 8192) (k : Fin 2816) : val_main_v23_2 (F := Ideal) x0 x3 x6 (ix2 s k) = ((sg (g a.toWts (a.row s) k) : ℝ) : EReal) := by
  pointwise [val_main_v23_2, val_main_call0_v4, val_main_call0_cst_0, val_main_call0_v3, val_main_call0_v2, val_main_call0_cst, val_main_call0_v1, val_main_call0_v0]
  simp only [r_v21 H, bits_one, one_coe, neg_coe, exp_coe, add_coe, div_exp]; rfl
theorem r_v23_1 (s : Fin 8192) (k : Fin 2816) : val_main_v23_1 (F := Ideal) x0 x3 x6 (ix2 s k) = ((sg (g a.toWts (a.row s) k) * (1 - sg (g a.toWts (a.row s) k)) : ℝ) : EReal) := by
  pointwise [val_main_v23_1, val_main_call0_v7, val_main_call0_v6, val_main_call0_cst_1]
  simp only [r_v23_2 H, bits_one, one_coe, sub_coe, mul_coe]
theorem r_v23_0 (s : Fin 8192) (k : Fin 2816) : val_main_v23_0 (F := Ideal) x0 x3 x6 (ix2 s k) = ((g a.toWts (a.row s) k * sg (g a.toWts (a.row s) k) : ℝ) : EReal) := by
  pointwise [val_main_v23_0]
  rw [r_v21 H, r_v23_2 H, mul_coe]
theorem r_v24 (s : Fin 8192) (k : Fin 2816) : val_main_v24 (F := Ideal) x0 x3 x6 (ix2 s k) = ((act a.toWts (a.row s) k : ℝ) : EReal) := by
  pointwise [val_main_v24]
  rw [r_v23_0 H, r_v22 H, mul_coe]; rfl
theorem r_v26 (s : Fin 8192) (k : Fin 1024) : val_main_v26 (F := Ideal) x0 x3 x6 x7 (ix2 s k) = ((y a.toWts (a.row s) k : ℝ) : EReal) := by
  pointwise [val_main_v26, val_main_v25, val_main_v1, val_main_cst_0]
  simp only [r_v24 H, H.h7, mul_coe, coe_sum, add_zero, bits_zero, add_coe]; rfl
theorem r_v33 (s : Fin 8192) (z : Fin 1) : val_main_v33 (F := Ideal) x0 x3 x6 x7 (ix2 s z) = ((msq (y a.toWts (a.row s)) : ℝ) : EReal) := by
  pointwise [val_main_v33, val_main_v32, val_main_v31, val_main_v30, val_main_v29, val_main_v28, val_main_v27, val_main_cst_7, val_main_cst_8, val_main_cst_9]
  simp only [r_v26 H, bits_1024, bits_eps, mul_coe, coe_sum, div_1024, add_coe]
  rfl
theorem r_v34 (s : Fin 8192) (z : Fin 1) : val_main_v34 (F := Ideal) x0 x3 x6 x7 (ix2 s z) = ((rstd (y a.toWts (a.row s)) : ℝ) : EReal) := by
  pointwise [val_main_v34]
  rw [r_v33 H, irsqrt_coe _ (msq_pos _)]; rfl
theorem r_v37 (s : Fin 8192) (z : Fin 1) : val_main_v37 (F := Ideal) x0 x3 x6 x7 (ix2 s z) = ((-(1 / 2) * (rstd (y a.toWts (a.row s)) / msq (y a.toWts (a.row s))) : ℝ) : EReal) := by
  pointwise [val_main_v37, val_main_v36, val_main_v35, val_main_cst_10]
  rw [r_v33 H, r_v34 H, div_coe _ _ (msq_pos _).ne', bits_neghalf, mul_coe]
theorem r_v39 (s : Fin 8192) (k : Fin 1024) : val_main_v39 (F := Ideal) x0 x3 x6 x7 (ix2 s k) = ((yh a.toWts (a.row s) k : ℝ) : EReal) := by
  pointwise [val_main_v39, val_main_v38]
  rw [r_v34 H, r_v26 H, mul_coe]; rfl
theorem r_v42 (s : Fin 8192) (k : Fin 1024) : val_main_v42 (F := Ideal) x0 x3 x4 x6 x7 (ix2 s k) = ((h2 a.toWts (a.row s) k : ℝ) : EReal) := by
  pointwise [val_main_v42, val_main_v41, val_main_v40]
  rw [r_v39 H, H.h4, H.h0, mul_coe, add_coe]; rfl
theorem r_v46 (s : Fin 8192) (k : Fin 1024) : val_main_v46 (F := Ideal) x0 x3 x4 x5 x6 x7 x8 (ix2 s k) = ((gz a.toWts (a.row s) k : ℝ) : EReal) := by
  pointwise [val_main_v46, val_main_v45, val_main_v44, val_main_v43, val_main_v2, val_main_cst_1]
  simp only [r_v42 H, H.h5, H.h8, mul_coe, coe_sum, add_coe, bits_zero, add_zero]; rfl
theorem r_v52 (s : Fin 8192) (k : Fin 1024) : val_main_v52 (F := Ideal) x0 x3 x4 x5 x6 x7 x8 (ix2 s k) = ((gate a.toWts (a.row s) k : ℝ) : EReal) := by
  pointwise [val_main_v52, val_main_v51, val_main_cst_12, val_main_v50, val_main_v49, val_main_cst_11, val_main_v48, val_main_v47]
  simp only [r_v46 H, bits_one, one_coe, neg_coe, exp_coe, add_coe, div_exp]; rfl
theorem r_v55 (s : Fin 8192) (k : Fin 1024) : val_main_v55 (F := Ideal) x0 x3 x4 x5 x6 x7 x8 (ix2 s k) = ((gate a.toWts (a.row s) k * (1 - gate a.toWts (a.row s) k) : ℝ) : EReal) := by
  pointwise [val_main_v55, val_main_v54, val_main_v53, val_main_cst_13]
  simp only [r_v52 H, bits_one, one_coe, sub_coe, mul_coe]
theorem r_v57 (s : Fin 8192) (k : Fin 1024) : val_main_v57 (F := Ideal) x1 x9 (ix2 s k) = ((pp a.toWts (a.row s) k : ℝ) : EReal) := by
  pointwise [val_main_v57, val_main_v56, val_main_v3, val_main_cst_2]
  simp only [H.h1, H.h9, mul_coe, coe_sum, add_coe, bits_zero, add_zero]; rfl
theorem r_v60 (s : Fin 8192) (k : Fin 1024) : val_main_v60 (F := Ideal) x0 x1 x2 x3 x4 x5 x6 x7 x8 x9 (ix2 s k) = ((diff a.toWts (a.row s) k : ℝ) : EReal) := by
  pointwise [val_main_v60, val_main_v59, val_main_v58]
  rw [r_v42 H, r_v52 H, r_v57 H, H.h2, mul_coe, add_coe, sub_coe]; rfl
theorem r_v66 (s : Fin 8192) : val_main_v66 (F := Ideal) x0 x1 x2 x3 x4 x5 x6 x7 x8 x9 (ix1 s) = ((mse a.toWts (a.row s) : ℝ) : EReal) := by
  pointwise [val_main_v66, val_main_v65, val_main_v64, val_main_v61, val_main_cst_15, val_main_cst_16]
  simp only [r_v60 H, bits_1024, mul_coe, coe_sum, div_1024]; rfl
theorem r_v74 (s : Fin 8192) (k : Fin 1024) : val_main_v74 (F := Ideal) x0 x1 x2 x3 x4 x5 x6 x7 x8 x9 (ix2 s k) = ((dh3 a.toWts (a.row s) k : ℝ) : EReal) := by
  pointwise [val_main_v74, val_main_v73, val_main_v72, val_main_v71, val_main_v70, val_main_v69, val_main_v63, val_main_v62, val_main_cst_14, val_main_cst_19, val_main_cst_20, val_main_cst_21]
  simp only [r_v60 H, bits_1024, bits_two, bits_half, bits_one, one_coe, mul_coe, div_1024]
  exact congrArg _ (by unfold dh3; ring)
theorem r_v75 (s : Fin 8192) (k : Fin 1024) : val_main_v75 (F := Ideal) x0 x1 x2 x3 x4 x5 x6 x7 x8 x9 (ix2 s k) = ((dpp a.toWts (a.row s) k : ℝ) : EReal) := by
  pointwise [val_main_v75]
  rw [r_v74 H, r_v52 H, mul_coe]
  exact congrArg _ (mul_comm _ _)
theorem r_v77 (s : Fin 8192) (k : Fin 1024) : val_main_v77 (F := Ideal) x0 x1 x2 x3 x4 x5 x6 x7 x8 x9 (ix2 s k) = ((dgp a.toWts (a.row s) k : ℝ) : EReal) := by
  pointwise [val_main_v77, val_main_v76]
  rw [r_v74 H, r_v57 H, r_v55 H, mul_coe, mul_coe]
  exact congrArg _ (by unfold dgp; ring)
theorem r_v79 (z : Fin 1) (k : Fin 1024) : val_main_v79 (F := Ideal) x0 x1 x2 x3 x4 x5 x6 x7 x8 x9 (ix2 z k) = ((a.dBP k : ℝ) : EReal) := by
  pointwise [val_main_v79, val_main_v78, val_main_cst_22]
  simp only [r_v77 H, coe_sum]
  rfl
theorem r_v81 (s : Fin 8192) (k : Fin 1024) : val_main_v81 (F := Ideal) x0 x1 x2 x3 x4 x5 x6 x7 x8 x9 (ix2 s k) = ((dh2 a.toWts (a.row s) k : ℝ) : EReal) := by
  pointwise [val_main_v81, val_main_v80]
  simp only [r_v77 H, r_v74 H, H.h8, mul_coe, coe_sum, add_coe]; rfl
theorem r_v84 (z : Fin 1) (k : Fin 1024) : val_main_v84 (F := Ideal) x0 x1 x2 x3 x4 x5 x6 x7 x8 x9 (ix2 z k) = ((a.dGP k : ℝ) : EReal) := by
  pointwise [val_main_v84, val_main_v83, val_main_v82, val_main_cst_23]
  simp only [r_v39 H, r_v81 H, mul_coe, coe_sum]
  unfold Args.dGP; simp only [mul_comm]
theorem r_v100 (s : Fin 8192) (k : Fin 1024) : val_main_v100 (F := Ideal) x0 x1 x2 x3 x4 x5 x6 x7 x8 x9 (ix2 s k) = ((dy a.toWts (a.row s) k : ℝ) : EReal) := by
  pointwise [val_main_v100, val_main_v99, val_main_v98, val_main_v97, val_main_v96, val_main_v95, val_main_v94, val_main_v93, val_main_v92, val_main_v91, val_main_v90, val_main_v89, val_main_v88, val_main_v87, val_main_v86, val_main_v85, val_main_cst_24, val_main_cst_25, val_main_cst_26]
  simp only [r_v26 H, H.h4, r_v81 H, r_v34 H, r_v37 H, bits_1024, div_1024, mul_coe, coe_sum, add_coe, Fin.sum_univ_one]
  refine congrArg _ (Eq.trans ?_ ((rmsBack_eq _ (fun i => dh2 a.toWts (a.row s) i * a.GP i) k 0).trans (zero_add _)))
  ring
theorem r_v101 (s : Fin 8192) (k : Fin 2816) : val_main_v101 (F := Ideal) x0 x1 x2 x3 x4 x5 x6 x7 x8 x9 (ix2 s k) = ((dact a.toWts (a.row s) k : ℝ) : EReal) := by
  pointwise [val_main_v101]
  simp only [r_v100 H, H.h7, mul_coe, coe_sum]; rfl
theorem r_v102 (s : Fin 8192) (k : Fin 2816) : val_main_v102 (F := Ideal) x0 x1 x2 x3 x4 x5 x6 x7 x8 x9 (ix2 s k) = ((dup a.toWts (a.row s) k : ℝ) : EReal) := by
  pointwise [val_main_v102]
  rw [r_v101 H, r_v23_0 H, mul_coe]
  exact congrArg _ (mul_comm _ _)
theorem r_v104 (s : Fin 8192) (k : Fin 2816) : val_main_v104 (F := Ideal) x0 x1 x2 x3 x4 x5 x6 x7 x8 x9 (ix2 s k) = ((dg a.toWts (a.row s) k : ℝ) : EReal) := by
  pointwise [val_main_v104, val_main_call1_v2, val_main_call1_v1, val_main_call1_v0, val_main_v103]
  simp only [r_v101 H, r_v22 H, r_v21 H, r_v23_2 H, r_v23_1 H, mul_coe, add_coe]
  exact congrArg _ (by unfold dg; ring)
theorem r_v105 (s : Fin 8192) (k : Fin 5632) : val_main_v105 (F := Ideal) x0 x1 x2 x3 x4 x5 x6 x7 x8 x9 (ix2 s k) = ((dgu a.toWts (a.row s) k : ℝ) : EReal) := by
  pointwise [val_main_v105]
  simp only [r_v104 H, r_v102 H]
  unfold dgu
  split <;> rfl
theorem r_v106 (s : Fin 8192) (k : Fin 1024) : val_main_v106 (F := Ideal) x0 x1 x2 x3 x4 x5 x6 x7 x8 x9 (ix2 s k) = ((df a.toWts (a.row s) k : ℝ) : EReal) := by
  pointwise [val_main_v106]
  simp only [r_v105 H, H.h6, mul_coe, coe_sum]
  exact congrArg _ (df_eq a.toWts (a.row s) k)
theorem r_v109 (z : Fin 1) (k : Fin 1024) : val_main_v109 (F := Ideal) x0 x1 x2 x3 x4 x5 x6 x7 x8 x9 (ix2 z k) = ((a.dGF k : ℝ) : EReal) := by
  pointwise [val_main_v109, val_main_v108, val_main_v107, val_main_cst_27]
  simp only [r_v16 H, r_v106 H, mul_coe, coe_sum]
  unfold Args.dGF; simp only [mul_comm]
theorem r_v126 (s : Fin 8192) (k : Fin 1024) : val_main_v126 (F := Ideal) x0 x1 x2 x3 x4 x5 x6 x7 x8 x9 (ix2 s k) = ((dh1 a.toWts (a.row s) k : ℝ) : EReal) := by
  pointwise [val_main_v126, val_main_v125, val_main_v124, val_main_v123, val_main_v122, val_main_v121, val_main_v120, val_main_v119, val_main_v118, val_main_v117, val_main_v116, val_main_v115, val_main_v114, val_main_v113, val_main_v112, val_main_v111, val_main_v110, val_main_cst_28, val_main_cst_29, val_main_cst_30]
  simp only [H.h0, H.h3, r_v106 H, r_v81 H, r_v11 H, r_v14 H, bits_1024, div_1024, mul_coe, coe_sum, add_coe, Fin.sum_univ_one]
  exact congrArg _ (rmsBack_eq (a.H s) (fun i => df a.toWts (a.row s) i * a.GF i) k _)
theorem r_v135 (z z' : Fin 1) : val_main_v135 (F := Ideal) x0 x1 x2 x3 x4 x5 x6 x7 x8 x9 (ix2 z z') = ((a.loss : ℝ) : EReal) := by
  pointwise [val_main_v135, val_main_v68, val_main_v67, val_main_cst_17, val_main_cst_18]
  simp only [r_v66 H, bits_half, coe_sum, mul_coe]; rfl
theorem r_v127 (s : Fin 8192) (k : Fin 1024) : val_main_v127 (F := Ideal) x0 x3 (ix2 s k) = ((f a.toWts (a.row s) k : ℝ) : EReal) := by
  pointwise [val_main_v127]
  exact r_v18 H s k
theorem r_v128 (s : Fin 8192) (k : Fin 2816) : val_main_v128 (F := Ideal) x0 x3 x6 (ix2 s k) = ((act a.toWts (a.row s) k : ℝ) : EReal) := by
  pointwise [val_main_v128]
  exact r_v24 H s k
theorem r_v129 (s : Fin 8192) (k : Fin 1024) : val_main_v129 (F := Ideal) x0 x1 x2 x3 x4 x5 x6 x7 x8 x9 (ix2 s k) = ((dy a.toWts (a.row s) k : ℝ) : EReal) := by
  pointwise [val_main_v129]
  exact r_v100 H s k
theorem r_v130 (s : Fin 8192) (k : Fin 1024) : val_main_v130 (F := Ideal) x0 x3 x4 x6 x7 (ix2 s k) = ((h2 a.toWts (a.row s) k : ℝ) : EReal) := by
  pointwise [val_main_v130]
  exact r_v42 H s k
theorem r_v131 (s : Fin 8192) (k : Fin 1024) : val_main_v131 (F := Ideal) x0 x1 x2 x3 x4 x5 x6 x7 x8 x9 (ix2 s k) = ((dgp a.toWts (a.row s) k : ℝ) : EReal) := by
  pointwise [val_main_v131]
  exact r_v77 H s k
theorem r_v132 (s : Fin 8192) (k : Fin 1024) : val_main_v132 (F := Ideal) x0 x1 x2 x3 x4 x5 x6 x7 x8 x9 (ix2 s k) = ((dpp a.toWts (a.row s) k : ℝ) : EReal) := by
  pointwise [val_main_v132]
  exact r_v75 H s k
theorem r_v133 (s : Fin 8192) (k : Fin 5632) : val_main_v133 (F := Ideal) x0 x1 x2 x3 x4 x5 x6 x7 x8 x9 (ix2 s k) = ((dgu a.toWts (a.row s) k : ℝ) : EReal) := by
  pointwise [val_main_v133]
  exact r_v105 H s k
theorem r_v134 (s : Fin 8192) (k : Fin 256) : val_main_v134 (F := Ideal) x1 (ix2 s k) = ((a.P s k : ℝ) : EReal) := by
  pointwise [val_main_v134]
  exact H.h1 s k

end Cert.FfnRef
-- ==== Proof.FfnHost.lean ====
/- What the host code before the second call's kernel leaves in the weights' arrays, and the blocks that a grid point sees of
   the arguments, at real arguments. -/
module

public import proofs.«01_k».proof.Proof.FfnTile
public import proofs.«01_k».proof.Proof.FfnRef
public import proofs.«01_k».proof.Proof.Gen.Kernel2Ideal.Frame.Runs
public import Idealize.ShloMosaic.Lib.StableHlo.ReadAt

@[expose] public section

noncomputable section

namespace Cert.FfnHost

open Cert.FfnOps Cert.FfnTile Cert.Kernel2Ideal Cert.Kernel2Ideal.Gen Idealize.ShloMosaic Idealize.ShloMosaic.TcCoe Idealize.SL.Sem
open Idealize.ShloMosaic.StableHlo
open Cert.FfnSpec
open Cert.Spec hiding Args

variable (m : (ℓ : Loc nD τ sig) → Buf (Elt Ideal) ℓ) (c : Dev nD) (a : Args)

/-- Core `c`'s argument arrays hold the real numbers `a`. -/
abbrev Holds : Prop :=
  Cert.FfnRef.Agree a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

variable {m c a} (H : Holds m c a)
include H

theorem v0 (k : Fin 1024) (i : Fin 5632) : @Eq EReal (V m c main_v0 (ix2 k i)) ((a.WU k i : ℝ) : EReal) := by
  unfold V; after_reads_at
  exact H.h6 k i
theorem v1 (k : Fin 2816) (i : Fin 1024) : @Eq EReal (V m c main_v1 (ix2 k i)) ((a.WD k i : ℝ) : EReal) := by
  unfold V; after_reads_at
  exact H.h7 k i
theorem v2 (k : Fin 1024) (i : Fin 1024) : @Eq EReal (V m c main_v2 (ix2 k i)) ((a.WG k i : ℝ) : EReal) := by
  unfold V; after_reads_at
  exact H.h8 k i
theorem v3 (k : Fin 256) (i : Fin 1024) : @Eq EReal (V m c main_v3 (ix2 k i)) ((a.WP k i : ℝ) : EReal) := by
  unfold V; after_reads_at
  exact H.h9 k i
theorem read_v0 : Is (φ := .bf16) (View.read (Elt Ideal) (View.whole main_v0) (V m c main_v0) : Vec Ideal S1024x5632 .bf16) a.WU := by
  rw [View.read_whole]
  exact v0 H
theorem read_v1 : Is (φ := .bf16) (View.read (Elt Ideal) (View.whole main_v1) (V m c main_v1) : Vec Ideal S2816x1024 .bf16) a.WD := by
  rw [View.read_whole]
  exact v1 H
theorem read_v2 : Is (φ := .bf16) (View.read (Elt Ideal) (View.whole main_v2) (V m c main_v2) : Vec Ideal S1024x1024 .bf16) a.WG := by
  rw [View.read_whole]
  exact v2 H
theorem read_v3 : Is (φ := .bf16) (View.read (Elt Ideal) (View.whole main_v3) (V m c main_v3) : Vec Ideal S256x1024 .bf16) a.WP := by
  rw [View.read_whole]
  exact v3 H
omit H
theorem idx0 : ∀ t, win0_0.index t = ![t.val, 0] := by decide +kernel
theorem idx1 : ∀ t, win0_1.index t = ![t.val, 0] := by decide +kernel
theorem idx2 : ∀ t, win0_2.index t = ![t.val, 0] := by decide +kernel
theorem idx3 : ∀ t, win0_3.index t = ![0, 0] := by decide +kernel
theorem idx4 : ∀ t, win0_4.index t = ![0, 0] := by decide +kernel
theorem idx5 : ∀ t, win0_5.index t = ![0, 0] := by decide +kernel

/-- The point of the grid as a tile number. -/
abbrev tn (t : Fin cfg0.N) : Fin 32 := t

theorem emb0 (t : Fin cfg0.N) (p : Fin 256) (q : Fin 1024) : (win0_0.blk t).view.emb (ix2 p q) = ix2 (srow (tn t) p) q := by
  blk_ext [idx0 t, srow]
theorem emb1 (t : Fin cfg0.N) (p : Fin 256) (q : Fin 256) : (win0_1.blk t).view.emb (ix2 p q) = ix2 (srow (tn t) p) q := by
  blk_ext [idx1 t, srow]
theorem emb2 (t : Fin cfg0.N) (p : Fin 256) (q : Fin 1024) : (win0_2.blk t).view.emb (ix2 p q) = ix2 (srow (tn t) p) q := by
  blk_ext [idx2 t, srow]
theorem emb3 (t : Fin cfg0.N) (p : Fin 1) (q : Fin 1024) : (win0_3.blk t).view.emb (ix2 p q) = ix2 p q := by
  blk_ext [idx3 t, srow]
theorem emb4 (t : Fin cfg0.N) (p : Fin 1) (q : Fin 1024) : (win0_4.blk t).view.emb (ix2 p q) = ix2 p q := by
  blk_ext [idx4 t, srow]
theorem emb5 (t : Fin cfg0.N) (p : Fin 1) (q : Fin 1024) : (win0_5.blk t).view.emb (ix2 p q) = ix2 p q := by
  blk_ext [idx5 t, srow]

set_option maxHeartbeats 2000000 in
theorem blk0 (H : Holds m c a) (t : Fin cfg0.N) : Is (φ := .f32) (iblk m c 0 t : Vec Ideal S256x1024 .f32) (fun r k => a.H (srow (tn t) r) k) := by
  intro p q
  blk_simp [iblk]
  rw [emb0]
  exact (congrFun (V_main_arg0 m c) _).trans (H.h0 _ q)
set_option maxHeartbeats 2000000 in
theorem blk1 (H : Holds m c a) (t : Fin cfg0.N) : Is (φ := .f32) (iblk m c 1 t : Vec Ideal S256x256 .f32) (fun r k => a.P (srow (tn t) r) k) := by
  intro p q
  blk_simp [iblk]
  rw [emb1]
  exact (congrFun (V_main_arg1 m c) _).trans (H.h1 _ q)
set_option maxHeartbeats 2000000 in
theorem blk2 (H : Holds m c a) (t : Fin cfg0.N) : Is (φ := .f32) (iblk m c 2 t : Vec Ideal S256x1024 .f32) (fun r k => a.T (srow (tn t) r) k) := by
  intro p q
  blk_simp [iblk]
  rw [emb2]
  exact (congrFun (V_main_arg2 m c) _).trans (H.h2 _ q)
set_option maxHeartbeats 2000000 in
theorem blk3 (H : Holds m c a) (t : Fin cfg0.N) : Is (φ := .f32) (iblk m c 3 t : Vec Ideal S1x1024 .f32) (fun _ k => a.GF k) := by
  intro p q
  blk_simp [iblk]
  rw [emb3]
  exact (congrFun (V_main_arg3 m c) _).trans (H.h3 _ q)
set_option maxHeartbeats 2000000 in
theorem blk4 (H : Holds m c a) (t : Fin cfg0.N) : Is (φ := .f32) (iblk m c 4 t : Vec Ideal S1x1024 .f32) (fun _ k => a.GP k) := by
  intro p q
  blk_simp [iblk]
  rw [emb4]
  exact (congrFun (V_main_arg4 m c) _).trans (H.h4 _ q)
set_option maxHeartbeats 2000000 in
theorem blk5 (H : Holds m c a) (t : Fin cfg0.N) : Is (φ := .f32) (iblk m c 5 t : Vec Ideal S1x1024 .f32) (fun _ k => a.BP k) := by
  intro p q
  blk_simp [iblk]
  rw [emb5]
  exact (congrFun (V_main_arg5 m c) _).trans (H.h5 _ q)

/-- A point's blocks with weights that hold the arguments' numbers. -/
theorem tile (H : Holds m c a) (t : Fin cfg0.N) (wu : Vec Ideal S1024x5632 .bf16) (wd : Vec Ideal S2816x1024 .bf16)
    (wg : Vec Ideal S1024x1024 .bf16) (wp : Vec Ideal S256x1024 .bf16) (hu : Is (φ := .bf16) wu a.WU) (hd : Is (φ := .bf16) wd a.WD)
    (hg : Is (φ := .bf16) wg a.WG) (hp : Is (φ := .bf16) wp a.WP) :
    Tile a (tn t) ⟨iblk m c 0 t, iblk m c 1 t, iblk m c 2 t, iblk m c 3 t, iblk m c 4 t, iblk m c 5 t, wu, wd, wg, wp⟩ :=
  ⟨blk0 H t, blk1 H t, blk2 H t, blk3 H t, blk4 H t, blk5 H t, hu, hd, hg, hp⟩

/-- A half of the gradient at the first product agrees with the whole where it is stored. -/
theorem piece {t : Fin 32} {off : ℕ} {inb} {v : FVec Ideal S256x2816 .bf16} {f : Fin 256 → Fin 2816 → ℝ} (hv : Is v f)
    (hf : ∀ r d (h : off + d.val < 5632), f r d = dgu a.toWts (a.row (srow t r)) ⟨off + d.val, h⟩) (x : (Rect.unit (s := S256x5632) ![0, off] ![256, 2816] inb).shape.Idx) :
    v x = ((dgu a.toWts (a.row (srow t ((Rect.unit (s := S256x5632) ![0, off] ![256, 2816] inb).emb x 0))) ((Rect.unit (s := S256x5632) ![0, off] ![256, 2816] inb).emb x 1) : ℝ) : EReal) := by
  have e0 : ((Rect.unit (s := S256x5632) ![0, off] ![256, 2816] inb).emb x 0 : ℕ) = x 0 := (Rect.idx_unit_val _ _ inb x 0).trans (Nat.zero_add _)
  have e1 : ((Rect.unit (s := S256x5632) ![0, off] ![256, 2816] inb).emb x 1 : ℕ) = off + x 1 := Rect.idx_unit_val _ _ inb x 1
  have hlt : off + (x 1 : ℕ) < 5632 := e1 ▸ ((Rect.unit (s := S256x5632) ![0, off] ![256, 2816] inb).emb x 1).isLt
  have hx : x = ix2 (n0 := 256) (n1 := 2816) (x 0) (x 1) := by
    funext k; match k with | ⟨0, _⟩ => rfl | ⟨1, _⟩ => rfl
  have := hv (x 0) (x 1)
  rw [hf (x 0) (x 1) hlt] at this
  refine (congrArg v hx).trans (this.trans ?_)
  have h0 : srow t (x 0) = srow t ((Rect.unit (s := S256x5632) ![0, off] ![256, 2816] inb).emb x 0) := congrArg (srow t) (Fin.ext e0.symm)
  have h1 : (⟨off + (x 1 : ℕ), hlt⟩ : Fin 5632) = (Rect.unit (s := S256x5632) ![0, off] ![256, 2816] inb).emb x 1 := Fin.ext e1.symm
  exact congrArg Real.toEReal (congr (congrArg (fun s => dgu a.toWts (a.row s)) h0) h1)

/-- The two halves side by side. -/
theorem dgu_is {t : Fin 32} {b : In Ideal} (T : Tile a t b) : Is (φ := .bf16) (cDgu b) fun r k => dgu a.toWts (a.row (srow t r)) k := by
  intro r k
  refine View.canon_apply_of_pieces (Val := Elt Ideal) (e := .bf16) (S := S256x5632) (fun i => (((dgu a.toWts (a.row (srow t (i 0))) (i 1) : ℝ) : EReal) : Ideal .bf16)) _ ?_ _ ?_
  · simp only [List.forall_mem_cons]
    exact ⟨piece (dup_is T) fun r d h => (dgu_hi a.toWts _ d).symm.trans (congrArg _ (Fin.ext rfl)),
      piece (dg_is T) fun r d h => (dgu_lo a.toWts _ d).symm.trans (congrArg _ (Fin.ext (Nat.zero_add _).symm)),
      fun p hp => absurd hp List.not_mem_nil⟩
  · simp only [List.exists_mem_cons_iff, Rect.mem_set_unit, Fin.forall_fin_two]
    simp
    omega

end Cert.FfnHost

end
-- ==== Proof.FfnData.lean ====
/- What the second call's buffers hold between the grid's points.

   The call has two kinds of points: the first copies the four weights into its scratch and clears the four sums, the others
   add to the sums. `held` is what the sums are after a point, `wgu` … `wpep` what the scratch keeps from the first point on. -/
module

public import proofs.«01_k».proof.Proof.FfnOps
public import proofs.«01_k».proof.Proof.Gen.Kernel2Ideal.Frame.Runs
public import Idealize.ShloMosaic.Lib.Claim

@[expose] public section

set_option maxRecDepth 16384

noncomputable section

namespace Cert.Kernel2Ideal.Gen

open Cert.FfnOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The four sums the call keeps in its last results' blocks from one point to the next. -/
structure Sum4 (F : FTy → Type) where
  loss : Vec F S1x1 .f32
  dgpf : Vec F S1x1024 .f32
  dgpff : Vec F S1x1024 .f32
  dbpe : Vec F S1x1024 .f32

/-- What scratch 0 holds from the first point on. -/
abbrev wgu (c : Dev nD) : Vec F S1024x5632 .bf16 := View.read (Elt F) (View.whole main_v0) (V m c main_v0)
/-- What scratch 1 holds from the first point on. -/
abbrev wdn (c : Dev nD) : Vec F S2816x1024 .bf16 := View.read (Elt F) (View.whole main_v1) (V m c main_v1)
/-- What scratch 2 holds from the first point on. -/
abbrev wpeg (c : Dev nD) : Vec F S1024x1024 .bf16 := View.read (Elt F) (View.whole main_v2) (V m c main_v2)
/-- What scratch 3 holds from the first point on. -/
abbrev wpep (c : Dev nD) : Vec F S256x1024 .bf16 := View.read (Elt F) (View.whole main_v3) (V m c main_v3)

/-- The blocks and weights of point `t`. -/
abbrev tin (c : Dev nD) (t : Fin cfg0.N) : In F :=
  ⟨iblk m c 0 t, iblk m c 1 t, iblk m c 2 t, iblk m c 3 t, iblk m c 4 t, iblk m c 5 t, wgu m c, wdn m c, wpeg m c, wpep m c⟩

/-- The first point of the grid. -/
abbrev t0 : Fin cfg0.N := ⟨0, by rw [show cfg0.N = 32 from N_0]; omega⟩

/-- The sums after point `n`. -/
def held (c : Dev nD) : (n : ℕ) → n < cfg0.N → Sum4 F
  | 0, hn => ⟨cLoss (tin m c ⟨0, hn⟩) k0_pay3, cGf (tin m c ⟨0, hn⟩) k0_pay4, cGp (tin m c ⟨0, hn⟩) k0_pay5, cBp (tin m c ⟨0, hn⟩) k0_pay6⟩
  | n + 1, hn => ⟨cLoss (tin m c ⟨n + 1, hn⟩) (held c n (Nat.lt_of_succ_lt hn)).loss, cGf (tin m c ⟨n + 1, hn⟩) (held c n (Nat.lt_of_succ_lt hn)).dgpf, cGp (tin m c ⟨n + 1, hn⟩) (held c n (Nat.lt_of_succ_lt hn)).dgpff, cBp (tin m c ⟨n + 1, hn⟩) (held c n (Nat.lt_of_succ_lt hn)).dbpe⟩

/-- The sums before point `t`, which is not the first. -/
abbrev prior (c : Dev nD) (t : Fin cfg0.N) : Sum4 F := held m c (t.val - 1) (Nat.lt_of_le_of_lt (Nat.sub_le _ _) t.isLt)

theorem held_A_15 (c : Dev nD) (t : Fin cfg0.N) (hz : t.val = 0) : (held m c t.val t.isLt).loss = cLoss (tin m c t) k0_pay3 := by
  obtain ⟨n, hn⟩ := t
  cases n with
  | zero => rfl
  | succ n => exact absurd hz (Nat.succ_ne_zero n)
theorem held_B_15 (c : Dev nD) (t : Fin cfg0.N) (hz : t.val ≠ 0) : (held m c t.val t.isLt).loss = cLoss (tin m c t) (prior m c t).loss := by
  obtain ⟨n, hn⟩ := t
  cases n with
  | zero => exact absurd rfl hz
  | succ n => rfl
theorem held_A_16 (c : Dev nD) (t : Fin cfg0.N) (hz : t.val = 0) : (held m c t.val t.isLt).dgpf = cGf (tin m c t) k0_pay4 := by
  obtain ⟨n, hn⟩ := t
  cases n with
  | zero => rfl
  | succ n => exact absurd hz (Nat.succ_ne_zero n)
theorem held_B_16 (c : Dev nD) (t : Fin cfg0.N) (hz : t.val ≠ 0) : (held m c t.val t.isLt).dgpf = cGf (tin m c t) (prior m c t).dgpf := by
  obtain ⟨n, hn⟩ := t
  cases n with
  | zero => exact absurd rfl hz
  | succ n => rfl
theorem held_A_17 (c : Dev nD) (t : Fin cfg0.N) (hz : t.val = 0) : (held m c t.val t.isLt).dgpff = cGp (tin m c t) k0_pay5 := by
  obtain ⟨n, hn⟩ := t
  cases n with
  | zero => rfl
  | succ n => exact absurd hz (Nat.succ_ne_zero n)
theorem held_B_17 (c : Dev nD) (t : Fin cfg0.N) (hz : t.val ≠ 0) : (held m c t.val t.isLt).dgpff = cGp (tin m c t) (prior m c t).dgpff := by
  obtain ⟨n, hn⟩ := t
  cases n with
  | zero => exact absurd rfl hz
  | succ n => rfl
theorem held_A_18 (c : Dev nD) (t : Fin cfg0.N) (hz : t.val = 0) : (held m c t.val t.isLt).dbpe = cBp (tin m c t) k0_pay6 := by
  obtain ⟨n, hn⟩ := t
  cases n with
  | zero => rfl
  | succ n => exact absurd hz (Nat.succ_ne_zero n)
theorem held_B_18 (c : Dev nD) (t : Fin cfg0.N) (hz : t.val ≠ 0) : (held m c t.val t.isLt).dbpe = cBp (tin m c t) (prior m c t).dbpe := by
  obtain ⟨n, hn⟩ := t
  cases n with
  | zero => exact absurd rfl hz
  | succ n => rfl

/-- What holds between the points: before the first the scratch is at anything, afterwards it keeps the weights. -/
def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare (wgu m c) ∗ owns (c : Thread nD τ) scM0_1 fullShare (wdn m c) ∗ owns (c : Thread nD τ) scM0_2 fullShare (wpeg m c) ∗ owns (c : Thread nD τ) scM0_3 fullShare (wpep m c) ∗ (∃ d, owns (c : Thread nD τ) scM0_4 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0) ∗ iprop(hbPt0 c hbM0_0 (V m c main_v0) ∗ hbPt0 c hbM0_1 (V m c main_v1) ∗ hbPt0 c hbM0_2 (V m c main_v2) ∗ hbPt0 c hbM0_3 (V m c main_v3)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare (wgu m c) ∗ owns (c : Thread nD τ) scM0_1 fullShare (wdn m c) ∗ owns (c : Thread nD τ) scM0_2 fullShare (wpeg m c) ∗ owns (c : Thread nD τ) scM0_3 fullShare (wpep m c) ∗ (∃ d, owns (c : Thread nD τ) scM0_4 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0) ∗ iprop(hbPt0 c hbM0_0 (V m c main_v0) ∗ hbPt0 c hbM0_1 (V m c main_v1) ∗ hbPt0 c hbM0_2 (V m c main_v2) ∗ hbPt0 c hbM0_3 (V m c main_v3))) := rfl

theorem PhiS_pos (c : Dev nD) (n : ℕ) (h : n ≤ cfg0.N) (hz : n ≠ 0) :
    PhiS m c n h = iprop(iprop(owns (c : Thread nD τ) scM0_0 fullShare (wgu m c) ∗ owns (c : Thread nD τ) scM0_1 fullShare (wdn m c) ∗ owns (c : Thread nD τ) scM0_2 fullShare (wpeg m c) ∗ owns (c : Thread nD τ) scM0_3 fullShare (wpep m c) ∗ (∃ d, owns (c : Thread nD τ) scM0_4 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0) ∗ iprop(hbPt0 c hbM0_0 (V m c main_v0) ∗ hbPt0 c hbM0_1 (V m c main_v1) ∗ hbPt0 c hbM0_2 (V m c main_v2) ∗ hbPt0 c hbM0_3 (V m c main_v3))) := by
  cases n with
  | zero => exact absurd rfl hz
  | succ n => rfl

/-! ## The pipeline's proof data -/

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cDh1 (tin m c t)
    | ⟨7, _⟩ => cF (tin m c t)
    | ⟨8, _⟩ => cAct (tin m c t)
    | ⟨9, _⟩ => cDy (tin m c t)
    | ⟨10, _⟩ => cH2b (tin m c t)
    | ⟨11, _⟩ => cDgp (tin m c t)
    | ⟨12, _⟩ => cDpp (tin m c t)
    | ⟨13, _⟩ => cDgu (tin m c t)
    | ⟨14, _⟩ => cP16 (tin m c t)
    | ⟨15, _⟩ => (held m c t.val t.isLt).loss
    | ⟨16, _⟩ => (held m c t.val t.isLt).dgpf
    | ⟨17, _⟩ => (held m c t.val t.isLt).dgpff
    | ⟨18, _⟩ => (held m c t.val t.isLt).dbpe
    | ⟨_ + 19, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = cDh1 (tin m c t) := by dsimp only [dats]
theorem after0_7 (c : Dev nD) (t : Fin cfg0.N) : (dats m 0 c).after 7 t = cF (tin m c t) := by dsimp only [dats]
theorem after0_8 (c : Dev nD) (t : Fin cfg0.N) : (dats m 0 c).after 8 t = cAct (tin m c t) := by dsimp only [dats]
theorem after0_9 (c : Dev nD) (t : Fin cfg0.N) : (dats m 0 c).after 9 t = cDy (tin m c t) := by dsimp only [dats]
theorem after0_10 (c : Dev nD) (t : Fin cfg0.N) : (dats m 0 c).after 10 t = cH2b (tin m c t) := by dsimp only [dats]
theorem after0_11 (c : Dev nD) (t : Fin cfg0.N) : (dats m 0 c).after 11 t = cDgp (tin m c t) := by dsimp only [dats]
theorem after0_12 (c : Dev nD) (t : Fin cfg0.N) : (dats m 0 c).after 12 t = cDpp (tin m c t) := by dsimp only [dats]
theorem after0_13 (c : Dev nD) (t : Fin cfg0.N) : (dats m 0 c).after 13 t = cDgu (tin m c t) := by dsimp only [dats]
theorem after0_14 (c : Dev nD) (t : Fin cfg0.N) : (dats m 0 c).after 14 t = cP16 (tin m c t) := by dsimp only [dats]
theorem after0_15 (c : Dev nD) (t : Fin cfg0.N) : (dats m 0 c).after 15 t = (held m c t.val t.isLt).loss := by dsimp only [dats]
theorem after0_16 (c : Dev nD) (t : Fin cfg0.N) : (dats m 0 c).after 16 t = (held m c t.val t.isLt).dgpf := by dsimp only [dats]
theorem after0_17 (c : Dev nD) (t : Fin cfg0.N) : (dats m 0 c).after 17 t = (held m c t.val t.isLt).dgpff := by dsimp only [dats]
theorem after0_18 (c : Dev nD) (t : Fin cfg0.N) : (dats m 0 c).after 18 t = (held m c t.val t.isLt).dbpe := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_15_B (c : Dev nD) (t : Fin cfg0.N) (h0 : ¬t.val % 32 = 0) (d) :
    (dats m 0 c).before 15 t d = (prior m c t).loss := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 32 = 0) (d) :
    (dats m 0 c).before 16 t d = (prior m c t).dgpf := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 32 = 0) (d) :
    (dats m 0 c).before 17 t d = (prior m c t).dgpff := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 32 = 0) (d) :
    (dats m 0 c).before 18 t d = (prior m c t).dbpe := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]

end Cert.Kernel2Ideal.Gen

end
-- ==== Proof.FfnFinal.lean ====
/- What the second call's result buffers hold after each grid point: the tile's rows, and the sums over the tiles so far. -/
module

public import proofs.«01_k».proof.Proof.FfnHost
public import proofs.«01_k».proof.Proof.FfnData

@[expose] public section

noncomputable section

namespace Cert.FfnFinal

open Cert.FfnHost Cert.FfnOps Cert.FfnTile Cert.Kernel2Ideal Cert.Kernel2Ideal.Gen Idealize.ShloMosaic Idealize.ShloMosaic.TcCoe
open Idealize.SL.Sem Cert.FfnSpec
open Cert.Spec hiding Args

/-- The sum of `f` over the tiles up to number `n`. -/
def upto (f : Fin 32 → ℝ) (n : ℕ) : ℝ := ∑ u, if u.val ≤ n then f u else 0
theorem upto_zero (f : Fin 32 → ℝ) (t : Fin 32) (h : t.val % 32 = 0) : upto f t.val = 0 + f t := by
  have e : t = 0 := Fin.ext (by have := t.isLt; simp; omega)
  subst e
  have e : ∀ u : Fin 32, (if u.val ≤ (0 : Fin 32).val then f u else 0) = if u = 0 then f u else 0 := fun u => by
    congr 1; rw [eq_iff_iff]; constructor
    · intro h; exact Fin.ext (by simpa using h)
    · rintro rfl; exact le_refl _
  unfold upto
  simp only [e, Finset.sum_ite_eq', Finset.mem_univ, if_true, zero_add]
theorem upto_step (f : Fin 32 → ℝ) (t : Fin 32) (h : ¬t.val % 32 = 0) : upto f t.val = upto f (t.val - 1) + f t := by
  have e : ∀ u : Fin 32, (if u.val ≤ t.val then f u else 0) = (if u.val ≤ t.val - 1 then f u else 0) + if u = t then f u else 0 := fun u => by
    by_cases h1 : u = t
    · subst h1; rw [if_pos le_rfl, if_neg (by omega), if_pos rfl, zero_add]
    · have h2 : u.val ≠ t.val := fun h => h1 (Fin.ext h)
      rw [if_neg h1, add_zero]
      congr 1; rw [eq_iff_iff]; omega
  unfold upto
  simp only [e, Finset.sum_add_distrib, Finset.sum_ite_eq', Finset.mem_univ, if_true]
theorem upto_last (f : Fin 32 → ℝ) : upto f 31 = ∑ u, f u := by
  unfold upto
  exact Finset.sum_congr rfl fun u _ => if_pos (by omega)

theorem Is.as {n k : ℕ} {φ : FTy} {v : FVec Ideal ⟨2, ![n, k]⟩ φ} {f g : Fin n → Fin k → ℝ} (hv : Is v f) (h : ∀ r d, g r d = f r d) : Is v g :=
  fun r d => (hv r d).trans (by rw [h])
theorem zero3 : Is (k0_pay3 (F := Ideal)) fun _ _ => 0 := fun _ _ => bits_zero
theorem zero4 : Is (k0_pay4 (F := Ideal)) fun _ _ => 0 := fun _ _ => bits_zero
theorem zero5 : Is (k0_pay5 (F := Ideal)) fun _ _ => 0 := fun _ _ => bits_zero
theorem zero6 : Is (k0_pay6 (F := Ideal)) fun _ _ => 0 := fun _ _ => bits_zero

/-- A tile's part of the loss. -/
def pL (a : Args) (u : Fin 32) : ℝ := 1 / 2 * ∑ r, mse a.toWts (a.row (srow u r))
/-- A tile's part of the gradient of the first gain. -/
def pF (a : Args) (k : Fin 1024) (u : Fin 32) : ℝ := ∑ r, df a.toWts (a.row (srow u r)) k * (a.row (srow u r)).hh k
/-- A tile's part of the gradient of the second gain. -/
def pP (a : Args) (k : Fin 1024) (u : Fin 32) : ℝ := ∑ r, dh2 a.toWts (a.row (srow u r)) k * yh a.toWts (a.row (srow u r)) k
/-- A tile's part of the gradient of the gate's offset. -/
def pB (a : Args) (k : Fin 1024) (u : Fin 32) : ℝ := ∑ r, dgp a.toWts (a.row (srow u r)) k

/-- The sums that the last four result buffers hold after tile `n`. -/
structure Sums (a : Args) (n : ℕ) (o : Sum4 Ideal) : Prop where
  l : Is (φ := .f32) o.loss fun _ _ => upto (pL a) n
  f : Is (φ := .f32) o.dgpf fun _ k => upto (pF a k) n
  p : Is (φ := .f32) o.dgpff fun _ k => upto (pP a k) n
  b : Is (φ := .f32) o.dbpe fun _ k => upto (pB a k) n

variable {m : (ℓ : Loc nD τ sig) → Buf (Elt Ideal) ℓ} {c : Dev nD} {a : Args} (H : Holds m c a)
include H

/-- A point's blocks with the weights. -/
theorem tile_at (t : Fin cfg0.N) : Tile a (tn t) (tin m c t) :=
  tile H t _ _ _ _ (read_v0 H) (read_v1 H) (read_v2 H) (read_v3 H)

theorem held_A (t : Fin cfg0.N) (h0 : t.val % 32 = 0) (hz : t.val = 0) : Sums a t.val (held m c t.val t.isLt) := by
  have T := tile_at H t
  refine ⟨?_, ?_, ?_, ?_⟩
  · rw [held_A_15 m c t hz]; exact Is.as (loss_is T (v := 0) zero3) fun _ _ => upto_zero (pL a) (tn t) h0
  · rw [held_A_16 m c t hz]; exact Is.as (gf_is T (v := fun _ => 0) zero4) fun _ k => upto_zero (pF a k) (tn t) h0
  · rw [held_A_17 m c t hz]; exact Is.as (gp_is T (v := fun _ => 0) zero5) fun _ k => upto_zero (pP a k) (tn t) h0
  · rw [held_A_18 m c t hz]; exact Is.as (bp_is T (v := fun _ => 0) zero6) fun _ k => upto_zero (pB a k) (tn t) h0

theorem held_B (t : Fin cfg0.N) (h0 : ¬t.val % 32 = 0) (hz : t.val ≠ 0) (P : Sums a (t.val - 1) (prior m c t)) : Sums a t.val (held m c t.val t.isLt) := by
  have T := tile_at H t
  refine ⟨?_, ?_, ?_, ?_⟩
  · rw [held_B_15 m c t hz]; exact Is.as (loss_is T P.l) fun _ _ => upto_step (pL a) (tn t) h0
  · rw [held_B_16 m c t hz]; exact Is.as (gf_is T P.f) fun _ k => upto_step (pF a k) (tn t) h0
  · rw [held_B_17 m c t hz]; exact Is.as (gp_is T P.p) fun _ k => upto_step (pP a k) (tn t) h0
  · rw [held_B_18 m c t hz]; exact Is.as (bp_is T P.b) fun _ k => upto_step (pB a k) (tn t) h0

theorem sums : ∀ (n : ℕ) (hn : n < cfg0.N), Sums a n (held m c n hn)
  | 0, hn => held_A H ⟨0, hn⟩ rfl rfl
  | n + 1, hn => by
    have hN : n + 1 < 32 := lt_of_lt_of_eq hn (show cfg0.N = 32 from N_0)
    exact held_B H ⟨n + 1, hn⟩ (by show ¬ (n + 1) % 32 = 0; omega) (Nat.succ_ne_zero n) (sums n (Nat.lt_of_succ_lt hn))

end Cert.FfnFinal

end
-- ==== Proof.FfnArrays.lean ====
/- The second call's thirteen result arrays, at real arguments. -/
module

public import proofs.«01_k».proof.Proof.FfnFinal

@[expose] public section

noncomputable section

namespace Cert.FfnArrays

open Cert.FfnFinal Cert.FfnHost Cert.FfnOps Cert.FfnTile Cert.Kernel2Ideal Cert.Kernel2Ideal.Gen
open Idealize.ShloMosaic Idealize.ShloMosaic.TcCoe Idealize.SL.Sem Cert.FfnSpec
open Cert.Spec hiding Args

theorem idx6 : ∀ t, win0_6.index t = ![t.val, 0] := by decide +kernel
theorem idx7 : ∀ t, win0_7.index t = ![t.val, 0] := by decide +kernel
theorem idx8 : ∀ t, win0_8.index t = ![t.val, 0] := by decide +kernel
theorem idx9 : ∀ t, win0_9.index t = ![t.val, 0] := by decide +kernel
theorem idx10 : ∀ t, win0_10.index t = ![t.val, 0] := by decide +kernel
theorem idx11 : ∀ t, win0_11.index t = ![t.val, 0] := by decide +kernel
theorem idx12 : ∀ t, win0_12.index t = ![t.val, 0] := by decide +kernel
theorem idx13 : ∀ t, win0_13.index t = ![t.val, 0] := by decide +kernel
theorem idx14 : ∀ t, win0_14.index t = ![t.val, 0] := by decide +kernel

theorem emb6 (t : Fin cfg0.N) (p : Fin 256) (q : Fin 1024) : (win0_6.blk t).view.emb (ix2 p q) = ix2 (srow (tn t) p) q := by
  blk_ext [idx6 t, srow]
theorem emb7 (t : Fin cfg0.N) (p : Fin 256) (q : Fin 1024) : (win0_7.blk t).view.emb (ix2 p q) = ix2 (srow (tn t) p) q := by
  blk_ext [idx7 t, srow]
theorem emb8 (t : Fin cfg0.N) (p : Fin 256) (q : Fin 2816) : (win0_8.blk t).view.emb (ix2 p q) = ix2 (srow (tn t) p) q := by
  blk_ext [idx8 t, srow]
theorem emb9 (t : Fin cfg0.N) (p : Fin 256) (q : Fin 1024) : (win0_9.blk t).view.emb (ix2 p q) = ix2 (srow (tn t) p) q := by
  blk_ext [idx9 t, srow]
theorem emb10 (t : Fin cfg0.N) (p : Fin 256) (q : Fin 1024) : (win0_10.blk t).view.emb (ix2 p q) = ix2 (srow (tn t) p) q := by
  blk_ext [idx10 t, srow]
theorem emb11 (t : Fin cfg0.N) (p : Fin 256) (q : Fin 1024) : (win0_11.blk t).view.emb (ix2 p q) = ix2 (srow (tn t) p) q := by
  blk_ext [idx11 t, srow]
theorem emb12 (t : Fin cfg0.N) (p : Fin 256) (q : Fin 1024) : (win0_12.blk t).view.emb (ix2 p q) = ix2 (srow (tn t) p) q := by
  blk_ext [idx12 t, srow]
theorem emb13 (t : Fin cfg0.N) (p : Fin 256) (q : Fin 5632) : (win0_13.blk t).view.emb (ix2 p q) = ix2 (srow (tn t) p) q := by
  blk_ext [idx13 t, srow]
theorem emb14 (t : Fin cfg0.N) (p : Fin 256) (q : Fin 256) : (win0_14.blk t).view.emb (ix2 p q) = ix2 (srow (tn t) p) q := by
  blk_ext [idx14 t, srow]
theorem eta2 {n k : ℕ} (j : (⟨2, ![n, k]⟩ : Shape).Idx) : j = ix2 (j 0) (j 1) := by
  funext i; fin_cases i <;> rfl

theorem sum_rows (f : Fin 8192 → ℝ) : ∑ u, ∑ r, f (srow u r) = ∑ s, f s := by
  rw [← Fintype.sum_prod_type' (fun u r => f (srow u r))]
  exact Fintype.sum_equiv (finProdFinEquiv : Fin 32 × Fin 256 ≃ Fin (32 * 256)) _ (fun s : Fin (32 * 256) => f s)
    (fun p => congrArg f (Fin.ext (by simp only [srow, finProdFinEquiv_apply_val]; omega)))

variable (a : Args)
theorem all_l : upto (pL a) 31 = a.loss := by
  rw [upto_last]; unfold pL Args.loss
  rw [← Finset.mul_sum, sum_rows fun s => mse a.toWts (a.row s)]
theorem all_p (k) : upto (pP a k) 31 = a.dGP k := by
  rw [upto_last]; exact sum_rows fun s => dh2 a.toWts (a.row s) k * yh a.toWts (a.row s) k
theorem all_f (k) : upto (pF a k) 31 = a.dGF k := by
  rw [upto_last]; exact sum_rows fun s => df a.toWts (a.row s) k * (a.row s).hh k
theorem all_b (k) : upto (pB a k) 31 = a.dBP k := by
  rw [upto_last]; exact sum_rows fun s => dgp a.toWts (a.row s) k

variable {m : (ℓ : Loc nD τ sig) → Buf (Elt Ideal) ℓ} {c : Dev nD} {a} (H : Holds m c a)
include H

/-- The last point of the grid, and its sums. -/
abbrev t31 : Fin cfg0.N := ⟨31, by rw [show cfg0.N = 32 from N_0]; omega⟩
theorem last : Sums a 31 (held m c t31.val t31.isLt) := sums H 31 t31.isLt

theorem a6 : (dats m 0 c).arrAt 6 cfg0.N = fun i => (((dh1 a.toWts (a.row (i 0)) (i 1) : ℝ) : EReal) : Ideal .f32) := by
  refine (dats m 0 c).arrAt_eq_of_covers 6 _ (by decide +kernel) fun t hf y => ?_
  blk_simp
  rw [after0_6]
  obtain ⟨p, q, rfl⟩ : ∃ (p : Fin 256) (q : Fin 1024), y = ix2 p q := ⟨_, _, eta2 y⟩
  rw [emb6]
  exact dh1_is (tile_at H t) p q
theorem a7 : (dats m 0 c).arrAt 7 cfg0.N = fun i => (((f a.toWts (a.row (i 0)) (i 1) : ℝ) : EReal) : Ideal .bf16) := by
  refine (dats m 0 c).arrAt_eq_of_covers 7 _ (by decide +kernel) fun t hf y => ?_
  blk_simp
  rw [after0_7]
  obtain ⟨p, q, rfl⟩ : ∃ (p : Fin 256) (q : Fin 1024), y = ix2 p q := ⟨_, _, eta2 y⟩
  rw [emb7]
  exact f_is (tile_at H t) p q
theorem a8 : (dats m 0 c).arrAt 8 cfg0.N = fun i => (((act a.toWts (a.row (i 0)) (i 1) : ℝ) : EReal) : Ideal .bf16) := by
  refine (dats m 0 c).arrAt_eq_of_covers 8 _ (by decide +kernel) fun t hf y => ?_
  blk_simp
  rw [after0_8]
  obtain ⟨p, q, rfl⟩ : ∃ (p : Fin 256) (q : Fin 2816), y = ix2 p q := ⟨_, _, eta2 y⟩
  rw [emb8]
  exact act_is (tile_at H t) p q
theorem a9 : (dats m 0 c).arrAt 9 cfg0.N = fun i => (((dy a.toWts (a.row (i 0)) (i 1) : ℝ) : EReal) : Ideal .bf16) := by
  refine (dats m 0 c).arrAt_eq_of_covers 9 _ (by decide +kernel) fun t hf y => ?_
  blk_simp
  rw [after0_9]
  obtain ⟨p, q, rfl⟩ : ∃ (p : Fin 256) (q : Fin 1024), y = ix2 p q := ⟨_, _, eta2 y⟩
  rw [emb9]
  exact dy_is (tile_at H t) p q
theorem a10 : (dats m 0 c).arrAt 10 cfg0.N = fun i => (((h2 a.toWts (a.row (i 0)) (i 1) : ℝ) : EReal) : Ideal .bf16) := by
  refine (dats m 0 c).arrAt_eq_of_covers 10 _ (by decide +kernel) fun t hf y => ?_
  blk_simp
  rw [after0_10]
  obtain ⟨p, q, rfl⟩ : ∃ (p : Fin 256) (q : Fin 1024), y = ix2 p q := ⟨_, _, eta2 y⟩
  rw [emb10]
  exact h2b_is (tile_at H t) p q
theorem a11 : (dats m 0 c).arrAt 11 cfg0.N = fun i => (((dgp a.toWts (a.row (i 0)) (i 1) : ℝ) : EReal) : Ideal .bf16) := by
  refine (dats m 0 c).arrAt_eq_of_covers 11 _ (by decide +kernel) fun t hf y => ?_
  blk_simp
  rw [after0_11]
  obtain ⟨p, q, rfl⟩ : ∃ (p : Fin 256) (q : Fin 1024), y = ix2 p q := ⟨_, _, eta2 y⟩
  rw [emb11]
  exact dgp_is (tile_at H t) p q
theorem a12 : (dats m 0 c).arrAt 12 cfg0.N = fun i => (((dpp a.toWts (a.row (i 0)) (i 1) : ℝ) : EReal) : Ideal .bf16) := by
  refine (dats m 0 c).arrAt_eq_of_covers 12 _ (by decide +kernel) fun t hf y => ?_
  blk_simp
  rw [after0_12]
  obtain ⟨p, q, rfl⟩ : ∃ (p : Fin 256) (q : Fin 1024), y = ix2 p q := ⟨_, _, eta2 y⟩
  rw [emb12]
  exact dpp_is (tile_at H t) p q
theorem a13 : (dats m 0 c).arrAt 13 cfg0.N = fun i => (((dgu a.toWts (a.row (i 0)) (i 1) : ℝ) : EReal) : Ideal .bf16) := by
  refine (dats m 0 c).arrAt_eq_of_covers 13 _ (by decide +kernel) fun t hf y => ?_
  blk_simp
  rw [after0_13]
  obtain ⟨p, q, rfl⟩ : ∃ (p : Fin 256) (q : Fin 5632), y = ix2 p q := ⟨_, _, eta2 y⟩
  rw [emb13]
  exact dgu_is (tile_at H t) p q
theorem a14 : (dats m 0 c).arrAt 14 cfg0.N = fun i => (((a.P (i 0) (i 1) : ℝ) : EReal) : Ideal .bf16) := by
  refine (dats m 0 c).arrAt_eq_of_covers 14 _ (by decide +kernel) fun t hf y => ?_
  blk_simp
  rw [after0_14]
  obtain ⟨p, q, rfl⟩ : ∃ (p : Fin 256) (q : Fin 256), y = ix2 p q := ⟨_, _, eta2 y⟩
  rw [emb14]
  exact p16_is (tile_at H t) p q
theorem a15 : (dats m 0 c).arrAt 15 cfg0.N = fun i => (((a.loss : ℝ) : EReal) : Ideal .f32) := by
  refine (dats m 0 c).arrAt_eq_of_after_last 15 t31 (by decide +kernel) _ fun j => ?_
  blk_simp
  rw [after0_15]
  obtain ⟨p, q, rfl⟩ : ∃ (p : Fin 1) (q : Fin 1), j = ix2 p q := ⟨_, _, eta2 j⟩
  exact ((last H).l p q).trans (congrArg Real.toEReal (all_l a))
theorem a16 : (dats m 0 c).arrAt 16 cfg0.N = fun i => (((a.dGF (i 1) : ℝ) : EReal) : Ideal .f32) := by
  refine (dats m 0 c).arrAt_eq_of_after_last 16 t31 (by decide +kernel) _ fun j => ?_
  blk_simp
  rw [after0_16]
  obtain ⟨p, q, rfl⟩ : ∃ (p : Fin 1) (q : Fin 1024), j = ix2 p q := ⟨_, _, eta2 j⟩
  exact ((last H).f p q).trans (congrArg Real.toEReal (all_f a q))
theorem a17 : (dats m 0 c).arrAt 17 cfg0.N = fun i => (((a.dGP (i 1) : ℝ) : EReal) : Ideal .f32) := by
  refine (dats m 0 c).arrAt_eq_of_after_last 17 t31 (by decide +kernel) _ fun j => ?_
  blk_simp
  rw [after0_17]
  obtain ⟨p, q, rfl⟩ : ∃ (p : Fin 1) (q : Fin 1024), j = ix2 p q := ⟨_, _, eta2 j⟩
  exact ((last H).p p q).trans (congrArg Real.toEReal (all_p a q))
theorem a18 : (dats m 0 c).arrAt 18 cfg0.N = fun i => (((a.dBP (i 1) : ℝ) : EReal) : Ideal .f32) := by
  refine (dats m 0 c).arrAt_eq_of_after_last 18 t31 (by decide +kernel) _ fun j => ?_
  blk_simp
  rw [after0_18]
  obtain ⟨p, q, rfl⟩ : ∃ (p : Fin 1) (q : Fin 1024), j = ix2 p q := ⟨_, _, eta2 j⟩
  exact ((last H).b p q).trans (congrArg Real.toEReal (all_b a q))

end Cert.FfnArrays

end
-- ==== Proof.FfnFinite.lean ====
/- The second precondition read: ten argument arrays whose every element is finite hold real numbers. -/
module

public import proofs.«01_k».proof.Proof.FfnRef
public import proofs.«01_k».proof.Proof.Finite
public import proofs.«01_k».proof.Pre_finite2

@[expose] public section

noncomputable section

namespace Cert.FfnFinite

open Idealize.ShloMosaic Cert.Pre_finite2 Cert.FfnSpec Cert.Finite
open Cert.Spec hiding Args

variable [Facts] (x0 : FVec Ideal S8192x1024 .f32) (x1 : FVec Ideal S8192x256 .f32) (x2 : FVec Ideal S8192x1024 .f32) (x3 : FVec Ideal S1x1024 .f32) (x4 : FVec Ideal S1x1024 .f32) (x5 : FVec Ideal S1x1024 .f32) (x6 : FVec Ideal S1024x5632 .f32) (x7 : FVec Ideal S2816x1024 .f32) (x8 : FVec Ideal S1024x1024 .f32) (x9 : FVec Ideal S256x1024 .f32)

/-- Ten finite arrays hold the real numbers of some arguments. -/
theorem holds (h : fn (F := Ideal) x0 x1 x2 x3 x4 x5 x6 x7 x8 x9 = fun _ => 1#1) :
    ∃ a : Args, Cert.FfnRef.Agree a x0 x1 x2 x3 x4 x5 x6 x7 x8 x9 := by
  have j : S_.Idx := fun i => i.elim0
  have e := congrFun h j
  unfold fn fn_part1 fn_part2 at e
  dsimp only at e
  obtain ⟨e, e9⟩ := andi_one e
  obtain ⟨e, e8⟩ := andi_one e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e, e1⟩ := andi_one e
  obtain ⟨-, e0⟩ := andi_one e
  choose f0 h0 using finite_of x0 _ _ _ j e0
  choose f1 h1 using finite_of x1 _ _ _ j e1
  choose f2 h2 using finite_of x2 _ _ _ j e2
  choose f3 h3 using finite_of x3 _ _ _ j e3
  choose f4 h4 using finite_of x4 _ _ _ j e4
  choose f5 h5 using finite_of x5 _ _ _ j e5
  choose f6 h6 using finite_of x6 _ _ _ j e6
  choose f7 h7 using finite_of x7 _ _ _ j e7
  choose f8 h8 using finite_of x8 _ _ _ j e8
  choose f9 h9 using finite_of x9 _ _ _ j e9
  refine ⟨⟨⟨fun k => f3 (ix2 0 k), fun k => f4 (ix2 0 k), fun k => f5 (ix2 0 k), fun k c => f6 (ix2 k c), fun k c => f7 (ix2 k c), fun k c => f8 (ix2 k c),
    fun k c => f9 (ix2 k c)⟩, fun s k => f0 (ix2 s k), fun s k => f1 (ix2 s k), fun s k => f2 (ix2 s k)⟩,
    fun s k => h0 _, fun s k => h1 _, fun s k => h2 _, fun z k => ?_, fun z k => ?_, fun z k => ?_, fun k c => h6 _, fun k c => h7 _, fun k c => h8 _, fun k c => h9 _⟩
  · rw [Subsingleton.elim z 0]; exact h3 _
  · rw [Subsingleton.elim z 0]; exact h4 _
  · rw [Subsingleton.elim z 0]; exact h5 _

end Cert.FfnFinite

end
-- ==== Proof.FfnOpenA.lean ====
/- What the second call's kernel writes at the first of the 32 points, in the terms of FfnOps. -/
module

public import proofs.«01_k».proof.Proof.Gen.Kernel2Ideal.Frame.RunB
public import proofs.«01_k».proof.Proof.FfnOps

@[expose] public section

set_option maxRecDepth 16384

noncomputable section

namespace Cert.FfnOpenA

open Cert.FfnOps Cert.Kernel2Ideal Cert.Kernel2Ideal.Gen Idealize.ShloMosaic Idealize.ShloMosaic.TcCoe Idealize.SL.Sem

variable {F : FTy → Type} [FloatOps F]

theorem canon_wh {Val : EltTy → Type} [∀ e, Nonempty (Val e)] {s : Shape} {e : EltTy} (w : s.Idx → Val e) :
    View.canon [(⟨Rect.whole s, w⟩ : View.Piece Val s e)] = w := View.canon_cons_unit_lit (off := fun _ => 0) _ w [] (fun _ => rfl)
theorem readCov_wh {Val : EltTy → Type} [∀ e, Nonempty (Val e)] {sig : RefSig} {κ : Kind} {sp : Space} {s : Shape} {e : EltTy} (v : View sig κ sp s e)
    (w : s.Idx → Val e) (r : Rect s) : v.readCov [(⟨Rect.whole s, w⟩ : View.Piece Val s e)] r.toLoadRect = View.ld w r := by
  rw [View.readCov_eq_canon', canon_wh]

/-- The blocks of a tile with the weights as the arrays hold them. -/
abbrev inA (c : Dev nD) (x0 : Vec F S256x1024 .f32) (x1 : Vec F S256x256 .f32) (x2 : Vec F S256x1024 .f32) (x3 x4 x5 : Vec F S1x1024 .f32)
    (fh0 : HbBuf0 (F := F) c hbM0_0) (fh1 : HbBuf0 (F := F) c hbM0_1) (fh2 : HbBuf0 (F := F) c hbM0_2) (fh3 : HbBuf0 (F := F) c hbM0_3) : In F :=
  ⟨x0, x1, x2, x3, x4, x5, View.read (Elt F) (View.whole main_v0) fh0, View.read (Elt F) (View.whole main_v1) fh1,
    View.read (Elt F) (View.whole main_v2) fh2, View.read (Elt F) (View.whole main_v3) fh3⟩

variable  (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x5632 .bf16) (harg18 : arg18.IsWhole) (arg19 : Memref sig .tc .vmem S256x256 .bf16) (harg19 : arg19.IsWhole) (arg20 : Memref sig .tc .vmem S1x1 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x5632 .bf16) (harg24 : arg24.IsWhole) (arg25 : Memref sig .tc .vmem S2816x1024 .bf16) (harg25 : arg25.IsWhole) (arg26 : Memref sig .tc .vmem S1024x1024 .bf16) (harg26 : arg26.IsWhole) (arg27 : Memref sig .tc .vmem S256x1024 .bf16) (harg27 : arg27.IsWhole) (arg28 : Memref sig .tc .vmem S256x5632 .f32) (harg28 : arg28.IsWhole) (hc0 : cond0_0 i) (x0 : Vec F S256x1024 .f32) (x1 : Vec F S256x256 .f32) (x2 : Vec F S256x1024 .f32) (x3 : Vec F S1x1024 .f32) (x4 : Vec F S1x1024 .f32) (x5 : Vec F S1x1024 .f32) (fh0 : HbBuf0 (F := F) c hbM0_0) (fh1 : HbBuf0 (F := F) c hbM0_1) (fh2 : HbBuf0 (F := F) c hbM0_2) (fh3 : HbBuf0 (F := F) c hbM0_3)

set_option maxHeartbeats 4000000

theorem open_A_6 : VO0_6.read (Elt F) (VO0_6.writes (Elt F) VO0_6.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).1) = cDh1 (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_7 : VO0_7.read (Elt F) (VO0_7.writes (Elt F) VO0_7.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.1) = cF (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_8 : VO0_8.read (Elt F) (VO0_8.writes (Elt F) VO0_8.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.1) = cAct (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_9 : VO0_9.read (Elt F) (VO0_9.writes (Elt F) VO0_9.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.1) = cDy (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_10 : VO0_10.read (Elt F) (VO0_10.writes (Elt F) VO0_10.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.1) = cH2b (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_11 : VO0_11.read (Elt F) (VO0_11.writes (Elt F) VO0_11.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.1) = cDgp (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_12 : VO0_12.read (Elt F) (VO0_12.writes (Elt F) VO0_12.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.1) = cDpp (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_13 : VO0_13.read (Elt F) (VO0_13.writes (Elt F) VO0_13.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.1) = cDgu (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_14 : VO0_14.read (Elt F) (VO0_14.writes (Elt F) VO0_14.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.1) = cP16 (inA c x0 x1 x2 x3 x4 x5 fh0 fh1 fh2 fh3) := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_15 : VO0_15.read (Elt F) (VO0_15.writes (Elt F) VO0_15.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.1) = cLoss (inA c x0 x1 x2 x3 x4 x5 fh0 fh1 fh2 fh3) k0_pay3 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_16 : VO0_16.read (Elt F) (VO0_16.writes (Elt F) VO0_16.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.1) = cGf (inA c x0 x1 x2 x3 x4 x5 fh0 fh1 fh2 fh3) k0_pay4 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_17 : VO0_17.read (Elt F) (VO0_17.writes (Elt F) VO0_17.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.1) = cGp (inA c x0 x1 x2 x3 x4 x5 fh0 fh1 fh2 fh3) k0_pay5 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_A_18 : VO0_18.read (Elt F) (VO0_18.writes (Elt F) VO0_18.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.1) = cBp (inA c x0 x1 x2 x3 x4 x5 fh0 fh1 fh2 fh3) k0_pay6 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try simp only [readCov_wh, ReadAs.apply_same]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld (View.read (Elt F) (View.whole main_v1) fh1) (Rect.unit ![0, 0] ![2816, 1024] (by decide)) = View.read (Elt F) (View.whole main_v1) fh1 from View.ld_unit_lit _ _ (by decide)]
  try rw [show View.ld (View.read (Elt F) (View.whole main_v2) fh2) (Rect.unit ![0, 0] ![1024, 1024] (by decide)) = View.read (Elt F) (View.whole main_v2) fh2 from View.ld_unit_lit _ _ (by decide)]
  try rw [show View.ld (View.read (Elt F) (View.whole main_v3) fh3) (Rect.unit ![0, 0] ![256, 1024] (by decide)) = View.read (Elt F) (View.whole main_v3) fh3 from View.ld_unit_lit _ _ (by decide)]
  rfl

theorem open_S_0 : VS0_0.read (Elt F) (VS0_0.writes (Elt F) VS0_0.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.1) = (View.read (Elt F) (View.whole main_v0) fh0 : Vec F S1024x5632 .bf16) := by
  frame_open
  rw [View.read_writes_junk_eq_canon, canon_wh]

theorem open_S_1 : VS0_1.read (Elt F) (VS0_1.writes (Elt F) VS0_1.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.2.1) = (View.read (Elt F) (View.whole main_v1) fh1 : Vec F S2816x1024 .bf16) := by
  frame_open
  rw [View.read_writes_junk_eq_canon, canon_wh]

theorem open_S_2 : VS0_2.read (Elt F) (VS0_2.writes (Elt F) VS0_2.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.2.2.1) = (View.read (Elt F) (View.whole main_v2) fh2 : Vec F S1024x1024 .bf16) := by
  frame_open
  rw [View.read_writes_junk_eq_canon, canon_wh]

theorem open_S_3 : VS0_3.read (Elt F) (VS0_3.writes (Elt F) VS0_3.junk (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.2.2.2.1) = (View.read (Elt F) (View.whole main_v3) fh3 : Vec F S256x1024 .bf16) := by
  frame_open
  rw [View.read_writes_junk_eq_canon, canon_wh]

end Cert.FfnOpenA
-- ==== Proof.FfnBodyA.lean ====
/- The body's run at the first point, with each buffer's contents after it named. -/
module

public import proofs.«01_k».proof.Proof.FfnOpenA
public import Idealize.ShloMosaic.Lib.Claim

@[expose] public section

set_option maxRecDepth 16384

noncomputable section

namespace Cert.FfnBodyA

open Cert.FfnOps Cert.FfnOpenA Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A buffer into which pieces were written holds what reading them back gives. -/
theorem owns_of (c : Dev nD) {sp : Space} {s : Shape} {e : EltTy} (M : Memref sig .tc sp s e) {L : List (View.Piece (Elt F) s e)} {y : s.Idx → Elt F e}
    (h : ∀ f, M.view.read (Elt F) (M.view.writes (Elt F) f L) = y) :
    (iprop(∃ f, M.view.loc (c : Thread nD τ) ↦[M.view.set]{fullShare} M.view.writes (Elt F) f L) : sProp (MT nD τ sig Unit (Elt F) ℕ (Pipeline.UD sig nD τ) ℕ))
      ⊢ owns (c : Thread nD τ) M fullShare y := by
  iintro ⟨%f, H⟩
  unfold owns
  iexists _
  isplitr
  swap; · iexact H
  ipureintro; exact h f

variable (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x5632 .bf16) (harg18 : arg18.IsWhole) (arg19 : Memref sig .tc .vmem S256x256 .bf16) (harg19 : arg19.IsWhole) (arg20 : Memref sig .tc .vmem S1x1 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x5632 .bf16) (harg24 : arg24.IsWhole) (arg25 : Memref sig .tc .vmem S2816x1024 .bf16) (harg25 : arg25.IsWhole) (arg26 : Memref sig .tc .vmem S1024x1024 .bf16) (harg26 : arg26.IsWhole) (arg27 : Memref sig .tc .vmem S256x1024 .bf16) (harg27 : arg27.IsWhole) (arg28 : Memref sig .tc .vmem S256x5632 .f32) (harg28 : arg28.IsWhole) (hc0 : cond0_0 i)
    (x0 : Vec F S256x1024 .f32) (x1 : Vec F S256x256 .f32) (x2 : Vec F S256x1024 .f32) (x3 : Vec F S1x1024 .f32) (x4 : Vec F S1x1024 .f32) (x5 : Vec F S1x1024 .f32) (fh0 : HbBuf0 (F := F) c hbM0_0) (fh1 : HbBuf0 (F := F) c hbM0_1) (fh2 : HbBuf0 (F := F) c hbM0_2) (fh3 : HbBuf0 (F := F) c hbM0_3)

theorem eL6 (f : arg11.view.ty.Contents (Elt F)) : arg11.view.read (Elt F) (arg11.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).1) = cDh1 (inA c x0 x1 x2 x3 x4 x5 fh0 fh1 fh2 fh3) :=
  (View.read_writes_of_cover _ f VO0_6 VO0_6.junk _ (fun y => View.cover_of_tiledL _ S256x1024.size (by sl_kernel_rfl) y)).trans (open_A_6 ..)

theorem eL7 (f : arg12.view.ty.Contents (Elt F)) : arg12.view.read (Elt F) (arg12.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.1) = cF (inA c x0 x1 x2 x3 x4 x5 fh0 fh1 fh2 fh3) :=
  (View.read_writes_of_cover _ f VO0_7 VO0_7.junk _ (fun y => View.cover_of_tiledL _ S256x1024.size (by sl_kernel_rfl) y)).trans (open_A_7 ..)

theorem eL8 (f : arg13.view.ty.Contents (Elt F)) : arg13.view.read (Elt F) (arg13.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.1) = cAct (inA c x0 x1 x2 x3 x4 x5 fh0 fh1 fh2 fh3) :=
  (View.read_writes_of_cover _ f VO0_8 VO0_8.junk _ (fun y => View.cover_of_tiledL _ S256x2816.size (by sl_kernel_rfl) y)).trans (open_A_8 ..)

theorem eL9 (f : arg14.view.ty.Contents (Elt F)) : arg14.view.read (Elt F) (arg14.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.1) = cDy (inA c x0 x1 x2 x3 x4 x5 fh0 fh1 fh2 fh3) :=
  (View.read_writes_of_cover _ f VO0_9 VO0_9.junk _ (fun y => View.cover_of_tiledL _ S256x1024.size (by sl_kernel_rfl) y)).trans (open_A_9 ..)

theorem eL10 (f : arg15.view.ty.Contents (Elt F)) : arg15.view.read (Elt F) (arg15.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.1) = cH2b (inA c x0 x1 x2 x3 x4 x5 fh0 fh1 fh2 fh3) :=
  (View.read_writes_of_cover _ f VO0_10 VO0_10.junk _ (fun y => View.cover_of_tiledL _ S256x1024.size (by sl_kernel_rfl) y)).trans (open_A_10 ..)

theorem eL11 (f : arg16.view.ty.Contents (Elt F)) : arg16.view.read (Elt F) (arg16.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.1) = cDgp (inA c x0 x1 x2 x3 x4 x5 fh0 fh1 fh2 fh3) :=
  (View.read_writes_of_cover _ f VO0_11 VO0_11.junk _ (fun y => View.cover_of_tiledL _ S256x1024.size (by sl_kernel_rfl) y)).trans (open_A_11 ..)

theorem eL12 (f : arg17.view.ty.Contents (Elt F)) : arg17.view.read (Elt F) (arg17.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.1) = cDpp (inA c x0 x1 x2 x3 x4 x5 fh0 fh1 fh2 fh3) :=
  (View.read_writes_of_cover _ f VO0_12 VO0_12.junk _ (fun y => View.cover_of_tiledL _ S256x1024.size (by sl_kernel_rfl) y)).trans (open_A_12 ..)

theorem eL13 (f : arg18.view.ty.Contents (Elt F)) : arg18.view.read (Elt F) (arg18.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.1) = cDgu (inA c x0 x1 x2 x3 x4 x5 fh0 fh1 fh2 fh3) :=
  (View.read_writes_of_cover _ f VO0_13 VO0_13.junk _ (fun y => View.cover_of_tiledL _ ![256, 2816] (by sl_kernel_rfl) y)).trans (open_A_13 ..)

theorem eL14 (f : arg19.view.ty.Contents (Elt F)) : arg19.view.read (Elt F) (arg19.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.1) = cP16 (inA c x0 x1 x2 x3 x4 x5 fh0 fh1 fh2 fh3) :=
  (View.read_writes_of_cover _ f VO0_14 VO0_14.junk _ (fun y => View.cover_of_tiledL _ S256x256.size (by sl_kernel_rfl) y)).trans (open_A_14 ..)

theorem eL15 (f : arg20.view.ty.Contents (Elt F)) : arg20.view.read (Elt F) (arg20.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.1) = cLoss (inA c x0 x1 x2 x3 x4 x5 fh0 fh1 fh2 fh3) k0_pay3 :=
  (View.read_writes_of_cover _ f VO0_15 VO0_15.junk _ (fun y => View.cover_of_tiledL _ S1x1.size (by sl_kernel_rfl) y)).trans (open_A_15 ..)

theorem eL16 (f : arg21.view.ty.Contents (Elt F)) : arg21.view.read (Elt F) (arg21.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.1) = cGf (inA c x0 x1 x2 x3 x4 x5 fh0 fh1 fh2 fh3) k0_pay4 :=
  (View.read_writes_of_cover _ f VO0_16 VO0_16.junk _ (fun y => View.cover_of_tiledL _ S1x1024.size (by sl_kernel_rfl) y)).trans (open_A_16 ..)

theorem eL17 (f : arg22.view.ty.Contents (Elt F)) : arg22.view.read (Elt F) (arg22.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.1) = cGp (inA c x0 x1 x2 x3 x4 x5 fh0 fh1 fh2 fh3) k0_pay5 :=
  (View.read_writes_of_cover _ f VO0_17 VO0_17.junk _ (fun y => View.cover_of_tiledL _ S1x1024.size (by sl_kernel_rfl) y)).trans (open_A_17 ..)

theorem eL18 (f : arg23.view.ty.Contents (Elt F)) : arg23.view.read (Elt F) (arg23.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.1) = cBp (inA c x0 x1 x2 x3 x4 x5 fh0 fh1 fh2 fh3) k0_pay6 :=
  (View.read_writes_of_cover _ f VO0_18 VO0_18.junk _ (fun y => View.cover_of_tiledL _ S1x1024.size (by sl_kernel_rfl) y)).trans (open_A_18 ..)

theorem eLS0 (f : arg24.view.ty.Contents (Elt F)) : arg24.view.read (Elt F) (arg24.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.1) = (View.read (Elt F) (View.whole main_v0) fh0 : Vec F S1024x5632 .bf16) :=
  (View.read_writes_of_cover _ f VS0_0 VS0_0.junk _ (fun y => View.cover_of_tiledL _ S1024x5632.size (by sl_kernel_rfl) y)).trans (open_S_0 ..)

theorem eLS1 (f : arg25.view.ty.Contents (Elt F)) : arg25.view.read (Elt F) (arg25.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.2.1) = (View.read (Elt F) (View.whole main_v1) fh1 : Vec F S2816x1024 .bf16) :=
  (View.read_writes_of_cover _ f VS0_1 VS0_1.junk _ (fun y => View.cover_of_tiledL _ S2816x1024.size (by sl_kernel_rfl) y)).trans (open_S_1 ..)

theorem eLS2 (f : arg26.view.ty.Contents (Elt F)) : arg26.view.read (Elt F) (arg26.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.2.2.1) = (View.read (Elt F) (View.whole main_v2) fh2 : Vec F S1024x1024 .bf16) :=
  (View.read_writes_of_cover _ f VS0_2 VS0_2.junk _ (fun y => View.cover_of_tiledL _ S1024x1024.size (by sl_kernel_rfl) y)).trans (open_S_2 ..)

theorem eLS3 (f : arg27.view.ty.Contents (Elt F)) : arg27.view.read (Elt F) (arg27.view.writes (Elt F) f (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.2.2.2.1) = (View.read (Elt F) (View.whole main_v3) fh3 : Vec F S256x1024 .bf16) :=
  (View.read_writes_of_cover _ f VS0_3 VS0_3.junk _ (fun y => View.cover_of_tiledL _ S256x1024.size (by sl_kernel_rfl) y)).trans (open_S_3 ..)

/-- The same with the pieces and the contents free. -/
theorem body_of {L6 : List (View.Piece (Elt F) S256x1024 .f32)} {L7 : List (View.Piece (Elt F) S256x1024 .bf16)} {L8 : List (View.Piece (Elt F) S256x2816 .bf16)} {L9 : List (View.Piece (Elt F) S256x1024 .bf16)} {L10 : List (View.Piece (Elt F) S256x1024 .bf16)} {L11 : List (View.Piece (Elt F) S256x1024 .bf16)} {L12 : List (View.Piece (Elt F) S256x1024 .bf16)} {L13 : List (View.Piece (Elt F) S256x5632 .bf16)} {L14 : List (View.Piece (Elt F) S256x256 .bf16)} {L15 : List (View.Piece (Elt F) S1x1 .f32)} {L16 : List (View.Piece (Elt F) S1x1024 .f32)} {L17 : List (View.Piece (Elt F) S1x1024 .f32)} {L18 : List (View.Piece (Elt F) S1x1024 .f32)} {LS0 : List (View.Piece (Elt F) S1024x5632 .bf16)} {LS1 : List (View.Piece (Elt F) S2816x1024 .bf16)} {LS2 : List (View.Piece (Elt F) S1024x1024 .bf16)} {LS3 : List (View.Piece (Elt F) S256x1024 .bf16)} {LT4 : List (View.Piece (Elt F) S256x5632 .f32)} {yL6 : Vec F S256x1024 .f32} {yL7 : Vec F S256x1024 .bf16} {yL8 : Vec F S256x2816 .bf16} {yL9 : Vec F S256x1024 .bf16} {yL10 : Vec F S256x1024 .bf16} {yL11 : Vec F S256x1024 .bf16} {yL12 : Vec F S256x1024 .bf16} {yL13 : Vec F S256x5632 .bf16} {yL14 : Vec F S256x256 .bf16} {yL15 : Vec F S1x1 .f32} {yL16 : Vec F S1x1024 .f32} {yL17 : Vec F S1x1024 .f32} {yL18 : Vec F S1x1024 .f32} {yLS0 : Vec F S1024x5632 .bf16} {yLS1 : Vec F S2816x1024 .bf16} {yLS2 : Vec F S1024x1024 .bf16} {yLS3 : Vec F S256x1024 .bf16}
    (hrun : ∀ (W : Waits sig Unit) (K : PUnit → sProp (MT nD τ sig Unit (Elt F) ℕ (Pipeline.UD sig nD τ) ℕ)),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15) ∗ (∃ f, arg21.view.loc (c : Thread nD τ) ↦[arg21.view.set]{fullShare} arg21.view.writes (Elt F) f L16) ∗ (∃ f, arg22.view.loc (c : Thread nD τ) ↦[arg22.view.set]{fullShare} arg22.view.writes (Elt F) f L17) ∗ (∃ f, arg23.view.loc (c : Thread nD τ) ↦[arg23.view.set]{fullShare} arg23.view.writes (Elt F) f L18) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LT4) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_step i arg1 harg1 arg2 harg2 arg3 harg3 arg4 harg4 arg5 harg5 arg6 harg6 (Memref.whole main_v0) (Memref.isWhole_whole _) (Memref.whole main_v1) (Memref.isWhole_whole _) (Memref.whole main_v2) (Memref.isWhole_whole _) (Memref.whole main_v3) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 cc0_scratch5) K)
    (hL6 : ∀ f, arg11.view.read (Elt F) (arg11.view.writes (Elt F) f L6) = yL6)
    (hL7 : ∀ f, arg12.view.read (Elt F) (arg12.view.writes (Elt F) f L7) = yL7)
    (hL8 : ∀ f, arg13.view.read (Elt F) (arg13.view.writes (Elt F) f L8) = yL8)
    (hL9 : ∀ f, arg14.view.read (Elt F) (arg14.view.writes (Elt F) f L9) = yL9)
    (hL10 : ∀ f, arg15.view.read (Elt F) (arg15.view.writes (Elt F) f L10) = yL10)
    (hL11 : ∀ f, arg16.view.read (Elt F) (arg16.view.writes (Elt F) f L11) = yL11)
    (hL12 : ∀ f, arg17.view.read (Elt F) (arg17.view.writes (Elt F) f L12) = yL12)
    (hL13 : ∀ f, arg18.view.read (Elt F) (arg18.view.writes (Elt F) f L13) = yL13)
    (hL14 : ∀ f, arg19.view.read (Elt F) (arg19.view.writes (Elt F) f L14) = yL14)
    (hL15 : ∀ f, arg20.view.read (Elt F) (arg20.view.writes (Elt F) f L15) = yL15)
    (hL16 : ∀ f, arg21.view.read (Elt F) (arg21.view.writes (Elt F) f L16) = yL16)
    (hL17 : ∀ f, arg22.view.read (Elt F) (arg22.view.writes (Elt F) f L17) = yL17)
    (hL18 : ∀ f, arg23.view.read (Elt F) (arg23.view.writes (Elt F) f L18) = yL18)
    (hLS0 : ∀ f, arg24.view.read (Elt F) (arg24.view.writes (Elt F) f LS0) = yLS0)
    (hLS1 : ∀ f, arg25.view.read (Elt F) (arg25.view.writes (Elt F) f LS1) = yLS1)
    (hLS2 : ∀ f, arg26.view.read (Elt F) (arg26.view.writes (Elt F) f LS2) = yLS2)
    (hLS3 : ∀ f, arg27.view.read (Elt F) (arg27.view.writes (Elt F) f LS3) = yLS3)
    (W : Waits sig Unit) (K : PUnit → sProp (MT nD τ sig Unit (Elt F) ℕ (Pipeline.UD sig nD τ) ℕ)) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare yL6 ∗ owns (c : Thread nD τ) arg12 fullShare yL7 ∗ owns (c : Thread nD τ) arg13 fullShare yL8 ∗ owns (c : Thread nD τ) arg14 fullShare yL9 ∗ owns (c : Thread nD τ) arg15 fullShare yL10 ∗ owns (c : Thread nD τ) arg16 fullShare yL11 ∗ owns (c : Thread nD τ) arg17 fullShare yL12 ∗ owns (c : Thread nD τ) arg18 fullShare yL13 ∗ owns (c : Thread nD τ) arg19 fullShare yL14 ∗ owns (c : Thread nD τ) arg20 fullShare yL15 ∗ owns (c : Thread nD τ) arg21 fullShare yL16 ∗ owns (c : Thread nD τ) arg22 fullShare yL17 ∗ owns (c : Thread nD τ) arg23 fullShare yL18 ∗ owns (c : Thread nD τ) arg24 fullShare yLS0 ∗ owns (c : Thread nD τ) arg25 fullShare yLS1 ∗ owns (c : Thread nD τ) arg26 fullShare yLS2 ∗ owns (c : Thread nD τ) arg27 fullShare yLS3 ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_step i arg1 harg1 arg2 harg2 arg3 harg3 arg4 harg4 arg5 harg5 arg6 harg6 (Memref.whole main_v0) (Memref.isWhole_whole _) (Memref.whole main_v1) (Memref.isWhole_whole _) (Memref.whole main_v2) (Memref.isWhole_whole _) (Memref.whole main_v3) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 cc0_scratch5) K := by
  iintro ⟨H0, H1, H2, H3, H4, H5, H6, H7, H8, H9, H10, H11, H12, H13, H14, H15, H16, H17, H18, HS0, HS1, HS2, HS3, HS4, Hq0, Hq1, Hq2, Hq3, Hh0, Hh1, Hh2, Hh3, HW, Hk⟩
  iapply (hrun W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, H13, H14, H15, H16, H17, H18, HS0, HS1, HS2, HS3, HS4, Hq0, Hq1, Hq2, Hq3, Hh0, Hh1, Hh2, Hh3, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_of c arg11 hL6); iexact H6
  isplitl [H7]; · iapply (owns_of c arg12 hL7); iexact H7
  isplitl [H8]; · iapply (owns_of c arg13 hL8); iexact H8
  isplitl [H9]; · iapply (owns_of c arg14 hL9); iexact H9
  isplitl [H10]; · iapply (owns_of c arg15 hL10); iexact H10
  isplitl [H11]; · iapply (owns_of c arg16 hL11); iexact H11
  isplitl [H12]; · iapply (owns_of c arg17 hL12); iexact H12
  isplitl [H13]; · iapply (owns_of c arg18 hL13); iexact H13
  isplitl [H14]; · iapply (owns_of c arg19 hL14); iexact H14
  isplitl [H15]; · iapply (owns_of c arg20 hL15); iexact H15
  isplitl [H16]; · iapply (owns_of c arg21 hL16); iexact H16
  isplitl [H17]; · iapply (owns_of c arg22 hL17); iexact H17
  isplitl [H18]; · iapply (owns_of c arg23 hL18); iexact H18
  isplitl [HS0]; · iapply (owns_of c arg24 hLS0); iexact HS0
  isplitl [HS1]; · iapply (owns_of c arg25 hLS1); iexact HS1
  isplitl [HS2]; · iapply (owns_of c arg26 hLS2); iexact HS2
  isplitl [HS3]; · iapply (owns_of c arg27 hLS3); iexact HS3
  isplitl [HS4]
  · icases HS4 with ⟨%fT, HS4⟩; iexists _; unfold owns; iexists _; isplitr
    swap; · iexact HS4
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexact HW

include hc0
/-- The body's run at the first point. -/
theorem bodyA (W : Waits sig Unit) (K : PUnit → sProp (MT nD τ sig Unit (Elt F) ℕ (Pipeline.UD sig nD τ) ℕ)) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare (cDh1 (inA c x0 x1 x2 x3 x4 x5 fh0 fh1 fh2 fh3)) ∗ owns (c : Thread nD τ) arg12 fullShare (cF (inA c x0 x1 x2 x3 x4 x5 fh0 fh1 fh2 fh3)) ∗ owns (c : Thread nD τ) arg13 fullShare (cAct (inA c x0 x1 x2 x3 x4 x5 fh0 fh1 fh2 fh3)) ∗ owns (c : Thread nD τ) arg14 fullShare (cDy (inA c x0 x1 x2 x3 x4 x5 fh0 fh1 fh2 fh3)) ∗ owns (c : Thread nD τ) arg15 fullShare (cH2b (inA c x0 x1 x2 x3 x4 x5 fh0 fh1 fh2 fh3)) ∗ owns (c : Thread nD τ) arg16 fullShare (cDgp (inA c x0 x1 x2 x3 x4 x5 fh0 fh1 fh2 fh3)) ∗ owns (c : Thread nD τ) arg17 fullShare (cDpp (inA c x0 x1 x2 x3 x4 x5 fh0 fh1 fh2 fh3)) ∗ owns (c : Thread nD τ) arg18 fullShare (cDgu (inA c x0 x1 x2 x3 x4 x5 fh0 fh1 fh2 fh3)) ∗ owns (c : Thread nD τ) arg19 fullShare (cP16 (inA c x0 x1 x2 x3 x4 x5 fh0 fh1 fh2 fh3)) ∗ owns (c : Thread nD τ) arg20 fullShare (cLoss (inA c x0 x1 x2 x3 x4 x5 fh0 fh1 fh2 fh3) k0_pay3) ∗ owns (c : Thread nD τ) arg21 fullShare (cGf (inA c x0 x1 x2 x3 x4 x5 fh0 fh1 fh2 fh3) k0_pay4) ∗ owns (c : Thread nD τ) arg22 fullShare (cGp (inA c x0 x1 x2 x3 x4 x5 fh0 fh1 fh2 fh3) k0_pay5) ∗ owns (c : Thread nD τ) arg23 fullShare (cBp (inA c x0 x1 x2 x3 x4 x5 fh0 fh1 fh2 fh3) k0_pay6) ∗ owns (c : Thread nD τ) arg24 fullShare ((View.read (Elt F) (View.whole main_v0) fh0 : Vec F S1024x5632 .bf16)) ∗ owns (c : Thread nD τ) arg25 fullShare ((View.read (Elt F) (View.whole main_v1) fh1 : Vec F S2816x1024 .bf16)) ∗ owns (c : Thread nD τ) arg26 fullShare ((View.read (Elt F) (View.whole main_v2) fh2 : Vec F S1024x1024 .bf16)) ∗ owns (c : Thread nD τ) arg27 fullShare ((View.read (Elt F) (View.whole main_v3) fh3 : Vec F S256x1024 .bf16)) ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_step i arg1 harg1 arg2 harg2 arg3 harg3 arg4 harg4 arg5 harg5 arg6 harg6 (Memref.whole main_v0) (Memref.isWhole_whole _) (Memref.whole main_v1) (Memref.isWhole_whole _) (Memref.whole main_v2) (Memref.isWhole_whole _) (Memref.whole main_v3) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 cc0_scratch5) K :=
  body_of c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 fh0 fh1 fh2 fh3 (kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 fh0 fh1 fh2 fh3).2.2.2.2.2.2.2.2.2.2.2.2.2.2.2.2.2.2
    (fun _ => eL6 ..) (fun _ => eL7 ..) (fun _ => eL8 ..) (fun _ => eL9 ..) (fun _ => eL10 ..) (fun _ => eL11 ..) (fun _ => eL12 ..) (fun _ => eL13 ..) (fun _ => eL14 ..) (fun _ => eL15 ..) (fun _ => eL16 ..) (fun _ => eL17 ..) (fun _ => eL18 ..) (fun _ => eLS0 ..) (fun _ => eLS1 ..) (fun _ => eLS2 ..) (fun _ => eLS3 ..) W K

end Cert.FfnBodyA

end
-- ==== Proof.FfnOpenB.lean ====
/- What the second call's kernel writes at the later points, in the terms of FfnOps. -/
module

public import proofs.«01_k».proof.Proof.Gen.Kernel2Ideal.Frame.RunB
public import proofs.«01_k».proof.Proof.FfnOps

@[expose] public section

set_option maxRecDepth 16384

noncomputable section

namespace Cert.FfnOpenB

open Cert.FfnOps Cert.Kernel2Ideal Cert.Kernel2Ideal.Gen Idealize.ShloMosaic Idealize.ShloMosaic.TcCoe Idealize.SL.Sem

variable {F : FTy → Type} [FloatOps F]  (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x5632 .bf16) (harg18 : arg18.IsWhole) (arg19 : Memref sig .tc .vmem S256x256 .bf16) (harg19 : arg19.IsWhole) (arg20 : Memref sig .tc .vmem S1x1 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x5632 .bf16) (harg24 : arg24.IsWhole) (arg25 : Memref sig .tc .vmem S2816x1024 .bf16) (harg25 : arg25.IsWhole) (arg26 : Memref sig .tc .vmem S1024x1024 .bf16) (harg26 : arg26.IsWhole) (arg27 : Memref sig .tc .vmem S256x1024 .bf16) (harg27 : arg27.IsWhole) (arg28 : Memref sig .tc .vmem S256x5632 .f32) (harg28 : arg28.IsWhole) (hc0 : ¬cond0_0 i) (x0 : Vec F S256x1024 .f32) (x1 : Vec F S256x256 .f32) (x2 : Vec F S256x1024 .f32) (x3 : Vec F S1x1024 .f32) (x4 : Vec F S1x1024 .f32) (x5 : Vec F S1x1024 .f32) (xo15 : Vec F S1x1 .f32) (xo16 : Vec F S1x1024 .f32) (xo17 : Vec F S1x1024 .f32) (xo18 : Vec F S1x1024 .f32) (xs0 : Vec F S1024x5632 .bf16) (xs1 : Vec F S2816x1024 .bf16) (xs2 : Vec F S1024x1024 .bf16) (xs3 : Vec F S256x1024 .bf16) (fh0 : HbBuf0 (F := F) c hbM0_0) (fh1 : HbBuf0 (F := F) c hbM0_1) (fh2 : HbBuf0 (F := F) c hbM0_2) (fh3 : HbBuf0 (F := F) c hbM0_3)

set_option maxHeartbeats 4000000

theorem open_B_6 : VO0_6.read (Elt F) (VO0_6.writes (Elt F) VO0_6.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).1) = cDh1 ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_7 : VO0_7.read (Elt F) (VO0_7.writes (Elt F) VO0_7.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.1) = cF ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_8 : VO0_8.read (Elt F) (VO0_8.writes (Elt F) VO0_8.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.1) = cAct ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_9 : VO0_9.read (Elt F) (VO0_9.writes (Elt F) VO0_9.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.1) = cDy ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_10 : VO0_10.read (Elt F) (VO0_10.writes (Elt F) VO0_10.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.1) = cH2b ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_11 : VO0_11.read (Elt F) (VO0_11.writes (Elt F) VO0_11.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.1) = cDgp ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_12 : VO0_12.read (Elt F) (VO0_12.writes (Elt F) VO0_12.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.1) = cDpp ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_13 : VO0_13.read (Elt F) (VO0_13.writes (Elt F) VO0_13.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.1) = cDgu ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_14 : VO0_14.read (Elt F) (VO0_14.writes (Elt F) VO0_14.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.1) = cP16 ⟨x0, x1, x2, x3, x4, x5, xs0, xs1, xs2, xs3⟩ := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_15 : VO0_15.read (Elt F) (VO0_15.writes (Elt F) VO0_15.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.1) = cLoss ⟨x0, x1, x2, x3, x4, x5, xs0, xs1, xs2, xs3⟩ xo15 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_16 : VO0_16.read (Elt F) (VO0_16.writes (Elt F) VO0_16.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.2.1) = cGf ⟨x0, x1, x2, x3, x4, x5, xs0, xs1, xs2, xs3⟩ xo16 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_17 : VO0_17.read (Elt F) (VO0_17.writes (Elt F) VO0_17.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.2.2.1) = cGp ⟨x0, x1, x2, x3, x4, x5, xs0, xs1, xs2, xs3⟩ xo17 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

theorem open_B_18 : VO0_18.read (Elt F) (VO0_18.writes (Elt F) VO0_18.junk (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.2.2.2.1) = cBp ⟨x0, x1, x2, x3, x4, x5, xs0, xs1, xs2, xs3⟩ xo18 := by
  frame_open
  simp (disch := decide) only [↓ View.readCov_skip, ↓ View.readCov_cons_toLoadRect, ↓ View.readCov_fill]
  frame_out
  try rw [harg1.read_unread]
  try rw [harg2.read_unread]
  try rw [harg3.read_unread]
  try rw [harg4.read_unread]
  try rw [harg5.read_unread]
  try rw [harg6.read_unread]
  try rw [harg20.read_unread]
  try rw [harg21.read_unread]
  try rw [harg22.read_unread]
  try rw [harg23.read_unread]
  try rw [harg24.read_unread]
  try rw [harg25.read_unread]
  try rw [harg26.read_unread]
  try rw [harg27.read_unread]
  try rw [show View.ld x0 (Rect.unit ![0, 0] ![256, 1024] (by decide)) = x0 from View.ld_unit_lit _ _ (by decide)]
  try rw [show View.ld x1 (Rect.unit ![0, 0] ![256, 256] (by decide)) = x1 from View.ld_unit_lit _ _ (by decide)]
  try rw [show View.ld x2 (Rect.unit ![0, 0] ![256, 1024] (by decide)) = x2 from View.ld_unit_lit _ _ (by decide)]
  try rw [show View.ld x3 (Rect.unit ![0, 0] ![1, 1024] (by decide)) = x3 from View.ld_unit_lit _ _ (by decide)]
  try rw [show View.ld x4 (Rect.unit ![0, 0] ![1, 1024] (by decide)) = x4 from View.ld_unit_lit _ _ (by decide)]
  try rw [show View.ld x5 (Rect.unit ![0, 0] ![1, 1024] (by decide)) = x5 from View.ld_unit_lit _ _ (by decide)]
  try rw [show View.ld xs1 (Rect.unit ![0, 0] ![2816, 1024] (by decide)) = xs1 from View.ld_unit_lit _ _ (by decide)]
  try rw [show View.ld xs2 (Rect.unit ![0, 0] ![1024, 1024] (by decide)) = xs2 from View.ld_unit_lit _ _ (by decide)]
  try rw [show View.ld xs3 (Rect.unit ![0, 0] ![256, 1024] (by decide)) = xs3 from View.ld_unit_lit _ _ (by decide)]
  try rw [show View.ld xo15 (Rect.unit ![0, 0] ![1, 1] (by decide)) = xo15 from View.ld_unit_lit _ _ (by decide)]
  try rw [show View.ld xo16 (Rect.unit ![0, 0] ![1, 1024] (by decide)) = xo16 from View.ld_unit_lit _ _ (by decide)]
  try rw [show View.ld xo17 (Rect.unit ![0, 0] ![1, 1024] (by decide)) = xo17 from View.ld_unit_lit _ _ (by decide)]
  try rw [show View.ld xo18 (Rect.unit ![0, 0] ![1, 1024] (by decide)) = xo18 from View.ld_unit_lit _ _ (by decide)]
  rfl

end Cert.FfnOpenB
-- ==== Proof.FfnBodyB.lean ====
/- The body's run at a later point, with each buffer's contents after it named. -/
module

public import proofs.«01_k».proof.Proof.FfnOpenB
public import Idealize.ShloMosaic.Lib.Claim

@[expose] public section

set_option maxRecDepth 16384

noncomputable section

namespace Cert.FfnBodyB

open Cert.FfnOps Cert.FfnOpenB Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A buffer into which pieces were written holds what reading them back gives. -/
theorem owns_of (c : Dev nD) {sp : Space} {s : Shape} {e : EltTy} (M : Memref sig .tc sp s e) {L : List (View.Piece (Elt F) s e)} {y : s.Idx → Elt F e}
    (h : ∀ f, M.view.read (Elt F) (M.view.writes (Elt F) f L) = y) :
    (iprop(∃ f, M.view.loc (c : Thread nD τ) ↦[M.view.set]{fullShare} M.view.writes (Elt F) f L) : sProp (MT nD τ sig Unit (Elt F) ℕ (Pipeline.UD sig nD τ) ℕ))
      ⊢ owns (c : Thread nD τ) M fullShare y := by
  iintro ⟨%f, H⟩
  unfold owns
  iexists _
  isplitr
  swap; · iexact H
  ipureintro; exact h f

variable (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg11 : Memref sig .tc .vmem S256x1024 .f32) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x5632 .bf16) (harg18 : arg18.IsWhole) (arg19 : Memref sig .tc .vmem S256x256 .bf16) (harg19 : arg19.IsWhole) (arg20 : Memref sig .tc .vmem S1x1 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x5632 .bf16) (harg24 : arg24.IsWhole) (arg25 : Memref sig .tc .vmem S2816x1024 .bf16) (harg25 : arg25.IsWhole) (arg26 : Memref sig .tc .vmem S1024x1024 .bf16) (harg26 : arg26.IsWhole) (arg27 : Memref sig .tc .vmem S256x1024 .bf16) (harg27 : arg27.IsWhole) (arg28 : Memref sig .tc .vmem S256x5632 .f32) (harg28 : arg28.IsWhole) (hc0 : ¬cond0_0 i)
    (x0 : Vec F S256x1024 .f32) (x1 : Vec F S256x256 .f32) (x2 : Vec F S256x1024 .f32) (x3 : Vec F S1x1024 .f32) (x4 : Vec F S1x1024 .f32) (x5 : Vec F S1x1024 .f32) (xo15 : Vec F S1x1 .f32) (xo16 : Vec F S1x1024 .f32) (xo17 : Vec F S1x1024 .f32) (xo18 : Vec F S1x1024 .f32) (xs0 : Vec F S1024x5632 .bf16) (xs1 : Vec F S2816x1024 .bf16) (xs2 : Vec F S1024x1024 .bf16) (xs3 : Vec F S256x1024 .bf16) (fh0 : HbBuf0 (F := F) c hbM0_0) (fh1 : HbBuf0 (F := F) c hbM0_1) (fh2 : HbBuf0 (F := F) c hbM0_2) (fh3 : HbBuf0 (F := F) c hbM0_3)

theorem eL6 (f : arg11.view.ty.Contents (Elt F)) : arg11.view.read (Elt F) (arg11.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).1) = cDh1 (⟨x0, x1, x2, x3, x4, x5, xs0, xs1, xs2, xs3⟩ : In F) :=
  (View.read_writes_of_cover _ f VO0_6 VO0_6.junk _ (fun y => View.cover_of_tiledL _ S256x1024.size (by sl_kernel_rfl) y)).trans (open_B_6 ..)

theorem eL7 (f : arg12.view.ty.Contents (Elt F)) : arg12.view.read (Elt F) (arg12.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.1) = cF (⟨x0, x1, x2, x3, x4, x5, xs0, xs1, xs2, xs3⟩ : In F) :=
  (View.read_writes_of_cover _ f VO0_7 VO0_7.junk _ (fun y => View.cover_of_tiledL _ S256x1024.size (by sl_kernel_rfl) y)).trans (open_B_7 ..)

theorem eL8 (f : arg13.view.ty.Contents (Elt F)) : arg13.view.read (Elt F) (arg13.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.1) = cAct (⟨x0, x1, x2, x3, x4, x5, xs0, xs1, xs2, xs3⟩ : In F) :=
  (View.read_writes_of_cover _ f VO0_8 VO0_8.junk _ (fun y => View.cover_of_tiledL _ S256x2816.size (by sl_kernel_rfl) y)).trans (open_B_8 ..)

theorem eL9 (f : arg14.view.ty.Contents (Elt F)) : arg14.view.read (Elt F) (arg14.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.1) = cDy (⟨x0, x1, x2, x3, x4, x5, xs0, xs1, xs2, xs3⟩ : In F) :=
  (View.read_writes_of_cover _ f VO0_9 VO0_9.junk _ (fun y => View.cover_of_tiledL _ S256x1024.size (by sl_kernel_rfl) y)).trans (open_B_9 ..)

theorem eL10 (f : arg15.view.ty.Contents (Elt F)) : arg15.view.read (Elt F) (arg15.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.1) = cH2b (⟨x0, x1, x2, x3, x4, x5, xs0, xs1, xs2, xs3⟩ : In F) :=
  (View.read_writes_of_cover _ f VO0_10 VO0_10.junk _ (fun y => View.cover_of_tiledL _ S256x1024.size (by sl_kernel_rfl) y)).trans (open_B_10 ..)

theorem eL11 (f : arg16.view.ty.Contents (Elt F)) : arg16.view.read (Elt F) (arg16.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.1) = cDgp (⟨x0, x1, x2, x3, x4, x5, xs0, xs1, xs2, xs3⟩ : In F) :=
  (View.read_writes_of_cover _ f VO0_11 VO0_11.junk _ (fun y => View.cover_of_tiledL _ S256x1024.size (by sl_kernel_rfl) y)).trans (open_B_11 ..)

theorem eL12 (f : arg17.view.ty.Contents (Elt F)) : arg17.view.read (Elt F) (arg17.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.1) = cDpp (⟨x0, x1, x2, x3, x4, x5, xs0, xs1, xs2, xs3⟩ : In F) :=
  (View.read_writes_of_cover _ f VO0_12 VO0_12.junk _ (fun y => View.cover_of_tiledL _ S256x1024.size (by sl_kernel_rfl) y)).trans (open_B_12 ..)

theorem eL13 (f : arg18.view.ty.Contents (Elt F)) : arg18.view.read (Elt F) (arg18.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.1) = cDgu (⟨x0, x1, x2, x3, x4, x5, xs0, xs1, xs2, xs3⟩ : In F) :=
  (View.read_writes_of_cover _ f VO0_13 VO0_13.junk _ (fun y => View.cover_of_tiledL _ ![256, 2816] (by sl_kernel_rfl) y)).trans (open_B_13 ..)

theorem eL14 (f : arg19.view.ty.Contents (Elt F)) : arg19.view.read (Elt F) (arg19.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.1) = cP16 (⟨x0, x1, x2, x3, x4, x5, xs0, xs1, xs2, xs3⟩ : In F) :=
  (View.read_writes_of_cover _ f VO0_14 VO0_14.junk _ (fun y => View.cover_of_tiledL _ S256x256.size (by sl_kernel_rfl) y)).trans (open_B_14 ..)

theorem eL15 (f : arg20.view.ty.Contents (Elt F)) : arg20.view.read (Elt F) (arg20.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.1) = cLoss (⟨x0, x1, x2, x3, x4, x5, xs0, xs1, xs2, xs3⟩ : In F) xo15 :=
  (View.read_writes_of_cover _ f VO0_15 VO0_15.junk _ (fun y => View.cover_of_tiledL _ S1x1.size (by sl_kernel_rfl) y)).trans (open_B_15 ..)

theorem eL16 (f : arg21.view.ty.Contents (Elt F)) : arg21.view.read (Elt F) (arg21.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.2.1) = cGf (⟨x0, x1, x2, x3, x4, x5, xs0, xs1, xs2, xs3⟩ : In F) xo16 :=
  (View.read_writes_of_cover _ f VO0_16 VO0_16.junk _ (fun y => View.cover_of_tiledL _ S1x1024.size (by sl_kernel_rfl) y)).trans (open_B_16 ..)

theorem eL17 (f : arg22.view.ty.Contents (Elt F)) : arg22.view.read (Elt F) (arg22.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.2.2.1) = cGp (⟨x0, x1, x2, x3, x4, x5, xs0, xs1, xs2, xs3⟩ : In F) xo17 :=
  (View.read_writes_of_cover _ f VO0_17 VO0_17.junk _ (fun y => View.cover_of_tiledL _ S1x1024.size (by sl_kernel_rfl) y)).trans (open_B_17 ..)

theorem eL18 (f : arg23.view.ty.Contents (Elt F)) : arg23.view.read (Elt F) (arg23.view.writes (Elt F) f (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.2.2.2.1) = cBp (⟨x0, x1, x2, x3, x4, x5, xs0, xs1, xs2, xs3⟩ : In F) xo18 :=
  (View.read_writes_of_cover _ f VO0_18 VO0_18.junk _ (fun y => View.cover_of_tiledL _ S1x1024.size (by sl_kernel_rfl) y)).trans (open_B_18 ..)

/-- The same with the pieces and the contents free. -/
theorem body_of {L6 : List (View.Piece (Elt F) S256x1024 .f32)} {L7 : List (View.Piece (Elt F) S256x1024 .bf16)} {L8 : List (View.Piece (Elt F) S256x2816 .bf16)} {L9 : List (View.Piece (Elt F) S256x1024 .bf16)} {L10 : List (View.Piece (Elt F) S256x1024 .bf16)} {L11 : List (View.Piece (Elt F) S256x1024 .bf16)} {L12 : List (View.Piece (Elt F) S256x1024 .bf16)} {L13 : List (View.Piece (Elt F) S256x5632 .bf16)} {L14 : List (View.Piece (Elt F) S256x256 .bf16)} {L15 : List (View.Piece (Elt F) S1x1 .f32)} {L16 : List (View.Piece (Elt F) S1x1024 .f32)} {L17 : List (View.Piece (Elt F) S1x1024 .f32)} {L18 : List (View.Piece (Elt F) S1x1024 .f32)} {LT4 : List (View.Piece (Elt F) S256x5632 .f32)} {yL6 : Vec F S256x1024 .f32} {yL7 : Vec F S256x1024 .bf16} {yL8 : Vec F S256x2816 .bf16} {yL9 : Vec F S256x1024 .bf16} {yL10 : Vec F S256x1024 .bf16} {yL11 : Vec F S256x1024 .bf16} {yL12 : Vec F S256x1024 .bf16} {yL13 : Vec F S256x5632 .bf16} {yL14 : Vec F S256x256 .bf16} {yL15 : Vec F S1x1 .f32} {yL16 : Vec F S1x1024 .f32} {yL17 : Vec F S1x1024 .f32} {yL18 : Vec F S1x1024 .f32}
    (hrun : ∀ (W : Waits sig Unit) (K : PUnit → sProp (MT nD τ sig Unit (Elt F) ℕ (Pipeline.UD sig nD τ) ℕ)),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo15 ∗ owns (c : Thread nD τ) arg21 fullShare xo16 ∗ owns (c : Thread nD τ) arg22 fullShare xo17 ∗ owns (c : Thread nD τ) arg23 fullShare xo18 ∗ owns (c : Thread nD τ) arg24 fullShare xs0 ∗ owns (c : Thread nD τ) arg25 fullShare xs1 ∗ owns (c : Thread nD τ) arg26 fullShare xs2 ∗ owns (c : Thread nD τ) arg27 fullShare xs3 ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg11.view.loc (c : Thread nD τ) ↦[arg11.view.set]{fullShare} arg11.view.writes (Elt F) f L6) ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15) ∗ (∃ f, arg21.view.loc (c : Thread nD τ) ↦[arg21.view.set]{fullShare} arg21.view.writes (Elt F) f L16) ∗ (∃ f, arg22.view.loc (c : Thread nD τ) ↦[arg22.view.set]{fullShare} arg22.view.writes (Elt F) f L17) ∗ (∃ f, arg23.view.loc (c : Thread nD τ) ↦[arg23.view.set]{fullShare} arg23.view.writes (Elt F) f L18) ∗ owns (c : Thread nD τ) arg24 fullShare xs0 ∗ owns (c : Thread nD τ) arg25 fullShare xs1 ∗ owns (c : Thread nD τ) arg26 fullShare xs2 ∗ owns (c : Thread nD τ) arg27 fullShare xs3 ∗ (∃ f, arg28.view.loc (c : Thread nD τ) ↦[arg28.view.set]{fullShare} arg28.view.writes (Elt F) f LT4) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_step i arg1 harg1 arg2 harg2 arg3 harg3 arg4 harg4 arg5 harg5 arg6 harg6 (Memref.whole main_v0) (Memref.isWhole_whole _) (Memref.whole main_v1) (Memref.isWhole_whole _) (Memref.whole main_v2) (Memref.isWhole_whole _) (Memref.whole main_v3) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 cc0_scratch5) K)
    (hL6 : ∀ f, arg11.view.read (Elt F) (arg11.view.writes (Elt F) f L6) = yL6)
    (hL7 : ∀ f, arg12.view.read (Elt F) (arg12.view.writes (Elt F) f L7) = yL7)
    (hL8 : ∀ f, arg13.view.read (Elt F) (arg13.view.writes (Elt F) f L8) = yL8)
    (hL9 : ∀ f, arg14.view.read (Elt F) (arg14.view.writes (Elt F) f L9) = yL9)
    (hL10 : ∀ f, arg15.view.read (Elt F) (arg15.view.writes (Elt F) f L10) = yL10)
    (hL11 : ∀ f, arg16.view.read (Elt F) (arg16.view.writes (Elt F) f L11) = yL11)
    (hL12 : ∀ f, arg17.view.read (Elt F) (arg17.view.writes (Elt F) f L12) = yL12)
    (hL13 : ∀ f, arg18.view.read (Elt F) (arg18.view.writes (Elt F) f L13) = yL13)
    (hL14 : ∀ f, arg19.view.read (Elt F) (arg19.view.writes (Elt F) f L14) = yL14)
    (hL15 : ∀ f, arg20.view.read (Elt F) (arg20.view.writes (Elt F) f L15) = yL15)
    (hL16 : ∀ f, arg21.view.read (Elt F) (arg21.view.writes (Elt F) f L16) = yL16)
    (hL17 : ∀ f, arg22.view.read (Elt F) (arg22.view.writes (Elt F) f L17) = yL17)
    (hL18 : ∀ f, arg23.view.read (Elt F) (arg23.view.writes (Elt F) f L18) = yL18)
    (W : Waits sig Unit) (K : PUnit → sProp (MT nD τ sig Unit (Elt F) ℕ (Pipeline.UD sig nD τ) ℕ)) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo15 ∗ owns (c : Thread nD τ) arg21 fullShare xo16 ∗ owns (c : Thread nD τ) arg22 fullShare xo17 ∗ owns (c : Thread nD τ) arg23 fullShare xo18 ∗ owns (c : Thread nD τ) arg24 fullShare xs0 ∗ owns (c : Thread nD τ) arg25 fullShare xs1 ∗ owns (c : Thread nD τ) arg26 fullShare xs2 ∗ owns (c : Thread nD τ) arg27 fullShare xs3 ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare yL6 ∗ owns (c : Thread nD τ) arg12 fullShare yL7 ∗ owns (c : Thread nD τ) arg13 fullShare yL8 ∗ owns (c : Thread nD τ) arg14 fullShare yL9 ∗ owns (c : Thread nD τ) arg15 fullShare yL10 ∗ owns (c : Thread nD τ) arg16 fullShare yL11 ∗ owns (c : Thread nD τ) arg17 fullShare yL12 ∗ owns (c : Thread nD τ) arg18 fullShare yL13 ∗ owns (c : Thread nD τ) arg19 fullShare yL14 ∗ owns (c : Thread nD τ) arg20 fullShare yL15 ∗ owns (c : Thread nD τ) arg21 fullShare yL16 ∗ owns (c : Thread nD τ) arg22 fullShare yL17 ∗ owns (c : Thread nD τ) arg23 fullShare yL18 ∗ owns (c : Thread nD τ) arg24 fullShare xs0 ∗ owns (c : Thread nD τ) arg25 fullShare xs1 ∗ owns (c : Thread nD τ) arg26 fullShare xs2 ∗ owns (c : Thread nD τ) arg27 fullShare xs3 ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_step i arg1 harg1 arg2 harg2 arg3 harg3 arg4 harg4 arg5 harg5 arg6 harg6 (Memref.whole main_v0) (Memref.isWhole_whole _) (Memref.whole main_v1) (Memref.isWhole_whole _) (Memref.whole main_v2) (Memref.isWhole_whole _) (Memref.whole main_v3) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 cc0_scratch5) K := by
  iintro ⟨H0, H1, H2, H3, H4, H5, H6, H7, H8, H9, H10, H11, H12, H13, H14, H15, H16, H17, H18, HS0, HS1, HS2, HS3, HS4, Hq0, Hq1, Hq2, Hq3, Hh0, Hh1, Hh2, Hh3, HW, Hk⟩
  iapply (hrun W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, H13, H14, H15, H16, H17, H18, HS0, HS1, HS2, HS3, HS4, Hq0, Hq1, Hq2, Hq3, Hh0, Hh1, Hh2, Hh3, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_of c arg11 hL6); iexact H6
  isplitl [H7]; · iapply (owns_of c arg12 hL7); iexact H7
  isplitl [H8]; · iapply (owns_of c arg13 hL8); iexact H8
  isplitl [H9]; · iapply (owns_of c arg14 hL9); iexact H9
  isplitl [H10]; · iapply (owns_of c arg15 hL10); iexact H10
  isplitl [H11]; · iapply (owns_of c arg16 hL11); iexact H11
  isplitl [H12]; · iapply (owns_of c arg17 hL12); iexact H12
  isplitl [H13]; · iapply (owns_of c arg18 hL13); iexact H13
  isplitl [H14]; · iapply (owns_of c arg19 hL14); iexact H14
  isplitl [H15]; · iapply (owns_of c arg20 hL15); iexact H15
  isplitl [H16]; · iapply (owns_of c arg21 hL16); iexact H16
  isplitl [H17]; · iapply (owns_of c arg22 hL17); iexact H17
  isplitl [H18]; · iapply (owns_of c arg23 hL18); iexact H18
  isplitl [HS0]; · iexact HS0
  isplitl [HS1]; · iexact HS1
  isplitl [HS2]; · iexact HS2
  isplitl [HS3]; · iexact HS3
  isplitl [HS4]
  · icases HS4 with ⟨%fT, HS4⟩; iexists _; unfold owns; iexists _; isplitr
    swap; · iexact HS4
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexact HW

include hc0
/-- The body's run at a later point. -/
theorem bodyB (W : Waits sig Unit) (K : PUnit → sProp (MT nD τ sig Unit (Elt F) ℕ (Pipeline.UD sig nD τ) ℕ)) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo15 ∗ owns (c : Thread nD τ) arg21 fullShare xo16 ∗ owns (c : Thread nD τ) arg22 fullShare xo17 ∗ owns (c : Thread nD τ) arg23 fullShare xo18 ∗ owns (c : Thread nD τ) arg24 fullShare xs0 ∗ owns (c : Thread nD τ) arg25 fullShare xs1 ∗ owns (c : Thread nD τ) arg26 fullShare xs2 ∗ owns (c : Thread nD τ) arg27 fullShare xs3 ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare (cDh1 (⟨x0, x1, x2, x3, x4, x5, xs0, xs1, xs2, xs3⟩ : In F)) ∗ owns (c : Thread nD τ) arg12 fullShare (cF (⟨x0, x1, x2, x3, x4, x5, xs0, xs1, xs2, xs3⟩ : In F)) ∗ owns (c : Thread nD τ) arg13 fullShare (cAct (⟨x0, x1, x2, x3, x4, x5, xs0, xs1, xs2, xs3⟩ : In F)) ∗ owns (c : Thread nD τ) arg14 fullShare (cDy (⟨x0, x1, x2, x3, x4, x5, xs0, xs1, xs2, xs3⟩ : In F)) ∗ owns (c : Thread nD τ) arg15 fullShare (cH2b (⟨x0, x1, x2, x3, x4, x5, xs0, xs1, xs2, xs3⟩ : In F)) ∗ owns (c : Thread nD τ) arg16 fullShare (cDgp (⟨x0, x1, x2, x3, x4, x5, xs0, xs1, xs2, xs3⟩ : In F)) ∗ owns (c : Thread nD τ) arg17 fullShare (cDpp (⟨x0, x1, x2, x3, x4, x5, xs0, xs1, xs2, xs3⟩ : In F)) ∗ owns (c : Thread nD τ) arg18 fullShare (cDgu (⟨x0, x1, x2, x3, x4, x5, xs0, xs1, xs2, xs3⟩ : In F)) ∗ owns (c : Thread nD τ) arg19 fullShare (cP16 (⟨x0, x1, x2, x3, x4, x5, xs0, xs1, xs2, xs3⟩ : In F)) ∗ owns (c : Thread nD τ) arg20 fullShare (cLoss (⟨x0, x1, x2, x3, x4, x5, xs0, xs1, xs2, xs3⟩ : In F) xo15) ∗ owns (c : Thread nD τ) arg21 fullShare (cGf (⟨x0, x1, x2, x3, x4, x5, xs0, xs1, xs2, xs3⟩ : In F) xo16) ∗ owns (c : Thread nD τ) arg22 fullShare (cGp (⟨x0, x1, x2, x3, x4, x5, xs0, xs1, xs2, xs3⟩ : In F) xo17) ∗ owns (c : Thread nD τ) arg23 fullShare (cBp (⟨x0, x1, x2, x3, x4, x5, xs0, xs1, xs2, xs3⟩ : In F) xo18) ∗ owns (c : Thread nD τ) arg24 fullShare xs0 ∗ owns (c : Thread nD τ) arg25 fullShare xs1 ∗ owns (c : Thread nD τ) arg26 fullShare xs2 ∗ owns (c : Thread nD τ) arg27 fullShare xs3 ∗ (∃ d, owns (c : Thread nD τ) arg28 fullShare d) ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_step i arg1 harg1 arg2 harg2 arg3 harg3 arg4 harg4 arg5 harg5 arg6 harg6 (Memref.whole main_v0) (Memref.isWhole_whole _) (Memref.whole main_v1) (Memref.isWhole_whole _) (Memref.whole main_v2) (Memref.isWhole_whole _) (Memref.whole main_v3) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 cc0_scratch5) K :=
  body_of c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 xo15 xo16 xo17 xo18 xs0 xs1 xs2 xs3 fh0 fh1 fh2 fh3 (kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 xo15 xo16 xo17 xo18 xs0 xs1 xs2 xs3 fh0 fh1 fh2 fh3).2.2.2.2.2.2.2.2.2.2.2.2.2.2.2.2.2.2
    (fun _ => eL6 ..) (fun _ => eL7 ..) (fun _ => eL8 ..) (fun _ => eL9 ..) (fun _ => eL10 ..) (fun _ => eL11 ..) (fun _ => eL12 ..) (fun _ => eL13 ..) (fun _ => eL14 ..) (fun _ => eL15 ..) (fun _ => eL16 ..) (fun _ => eL17 ..) (fun _ => eL18 ..) W K

end Cert.FfnBodyB

end
-- ==== Proof.FfnFrame.lean ====
/- The run of the second call's program: it runs at every point, and ends with its arguments as they were. -/
module

public import proofs.«01_k».proof.Proof.FfnData
public import proofs.«01_k».proof.Proof.FfnBodyA
public import proofs.«01_k».proof.Proof.FfnBodyB
public import Idealize.ShloMosaic.Lib.Claim

@[expose] public section

set_option maxRecDepth 16384

noncomputable section

namespace Cert.Kernel2Ideal.Gen

open Cert.FfnOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body obligation, at a generic point -/

/-- What the body is called with at point `t`. -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17, after0_18]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      obtain rfl : t = t0 := Fin.ext hz
      rw [held_A_15 m c t0 rfl, held_A_16 m c t0 rfl, held_A_17 m c t0 rfl, held_A_18 m c t0 rfl]
      iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (Cert.FfnBodyA.bodyA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) (ms0_14 t0) (hs0_14 t0) (ms0_15 t0) (hs0_15 t0) (ms0_16 t0) (hs0_16 t0) (ms0_17 t0) (hs0_17 t0) (ms0_18 t0) (hs0_18 t0) scM0_0 (Memref.isWhole_whole _) scM0_1 (Memref.isWhole_whole _) scM0_2 (Memref.isWhole_whole _) scM0_3 (Memref.isWhole_whole _) scM0_4 (Memref.isWhole_whole _) ((hcond0_0 t0).mpr h0) (iblk m c 0 t0) (iblk m c 1 t0) (iblk m c 2 t0) (iblk m c 3 t0) (iblk m c 4 t0) (iblk m c 5 t0) (V m c main_v0) (V m c main_v1) (V m c main_v2) (V m c main_v3) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, H8, H9, H10, H11, H12, H13, H14, H15, H16, H17, H18, HS0, HS1, HS2, HS3, HS4, Hq0, Hq1, Hq2, Hq3, Hh0, Hh1, Hh2, Hh3, ⟨%W', HW'⟩⟩
      isplitl [HS0 HS1 HS2 HS3 HS4 Hg Hq0 Hq1 Hq2 Hq3 Hh0 Hh1 Hh2 Hh3]
      · isplitl [HS0 HS1 HS2 HS3 HS4]
        · isplitl [HS0]; · iexact HS0
          isplitl [HS1]; · iexact HS1
          isplitl [HS2]; · iexact HS2
          isplitl [HS3]; · iexact HS3
          iexact HS4
        isplitl [Hg]
        · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [held_B_15 m c t hz, held_B_16 m c t hz, held_B_17 m c t hz, held_B_18 m c t hz]
      simp only [before0_15_B m c t h0, before0_16_B m c t h0, before0_17_B m c t h0, before0_18_B m c t h0]
      iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (Cert.FfnBodyB.bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (prior m c t).loss (prior m c t).dgpf (prior m c t).dgpff (prior m c t).dbpe (wgu m c) (wdn m c) (wpeg m c) (wpep m c) (V m c main_v0) (V m c main_v1) (V m c main_v2) (V m c main_v3) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexact H15
      isplitl [H16]; · iexact H16
      isplitl [H17]; · iexact H17
      isplitl [H18]; · iexact H18
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, H8, H9, H10, H11, H12, H13, H14, H15, H16, H17, H18, HS0, HS1, HS2, HS3, HS4, Hq0, Hq1, Hq2, Hq3, Hh0, Hh1, Hh2, Hh3, ⟨%W', HW'⟩⟩
      isplitl [HS0 HS1 HS2 HS3 HS4 Hg Hq0 Hq1 Hq2 Hq3 Hh0 Hh1 Hh2 Hh3]
      · isplitl [HS0 HS1 HS2 HS3 HS4]
        · isplitl [HS0]; · iexact HS0
          isplitl [HS1]; · iexact HS1
          isplitl [HS2]; · iexact HS2
          isplitl [HS3]; · iexact HS3
          iexact HS4
        isplitl [Hg]
        · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2, Hq3⟩, ⟨Hh0, Hh1, Hh2, Hh3⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

-- `θ_run_frame_dma`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Gen

end
-- ==== Proof.FfnRun.lean ====
/- The second call's kernel run, with each result array after it named and the arguments unchanged. -/
module

public import proofs.«01_k».proof.Proof.FfnFrame

@[expose] public section

noncomputable section

namespace Cert.Kernel2Ideal.Gen

open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

theorem run_results : θ_run defs (onTc (τ := τ) (main (F := F))) ⟨m, fun _ => 0, ρ⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_v4_3) = (dats m 0 c).arrAt 9 cfg0.N
      ∧ r.2.mem ((c : Thread nD τ).loc main_v4_4) = (dats m 0 c).arrAt 10 cfg0.N
      ∧ r.2.mem ((c : Thread nD τ).loc main_v4_5) = (dats m 0 c).arrAt 11 cfg0.N
      ∧ r.2.mem ((c : Thread nD τ).loc main_v4_6) = (dats m 0 c).arrAt 12 cfg0.N
      ∧ r.2.mem ((c : Thread nD τ).loc main_v4_7) = (dats m 0 c).arrAt 13 cfg0.N
      ∧ r.2.mem ((c : Thread nD τ).loc main_v4_8) = (dats m 0 c).arrAt 14 cfg0.N
      ∧ r.2.mem ((c : Thread nD τ).loc main_v4_9) = (dats m 0 c).arrAt 15 cfg0.N
      ∧ r.2.mem ((c : Thread nD τ).loc main_v4_10) = (dats m 0 c).arrAt 16 cfg0.N
      ∧ r.2.mem ((c : Thread nD τ).loc main_v4_11) = (dats m 0 c).arrAt 17 cfg0.N
      ∧ r.2.mem ((c : Thread nD τ).loc main_v4_12) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 6,
      (h c).1 7,
      (h c).1 8,
      (h c).1 9,
      (h c).1 10,
      (h c).1 11,
      (h c).1 12,
      (h c).1 13,
      (h c).1 14,
      (h c).1 15,
      (h c).1 16,
      (h c).1 17,
      (h c).1 18,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Kernel2Ideal.Gen

end
-- ==== Proof.FfnAlgebraic.lean ====
/- The second call's thirteen results are the reference program's, over finite arguments. -/
module

public import proofs.«01_k».proof.Defs
public import proofs.«01_k».proof.Proof.FfnArrays
public import proofs.«01_k».proof.Proof.FfnFinite
public import proofs.«01_k».proof.Proof.FfnRun
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2

@[expose] public section

noncomputable section

namespace Cert.FfnAlgebraic

open Idealize.ShloMosaic Idealize.ShloMosaic.TcCoe Idealize.SL.Sem Cert.FfnSpec Cert.FfnArrays
open Cert.Spec hiding Args

set_option maxHeartbeats 4000000 in
theorem algebraic : Cert.algebraic_Kernel2Ideal_Reference2Ideal_pre_finite2
    (hKernel2Ideal := Cert.Kernel2Ideal.Gen.facts) (hReference2Ideal := Cert.Reference2Ideal.Gen.facts) (hPre_finite2 := Cert.Pre_finite2.Gen.facts) := by
  intro m g m' g' hpre hargs
  choose a ha using fun c => Cert.FfnFinite.holds _ _ _ _ _ _ _ _ _ _ (hpre c)
  have H : ∀ c, Cert.FfnRef.Agree (a c) (StableHlo.launchContents m' c (Proc.devRef .tc Cert.Reference2Ideal.main_arg0)) (StableHlo.launchContents m' c (Proc.devRef .tc Cert.Reference2Ideal.main_arg1)) (StableHlo.launchContents m' c (Proc.devRef .tc Cert.Reference2Ideal.main_arg2)) (StableHlo.launchContents m' c (Proc.devRef .tc Cert.Reference2Ideal.main_arg3)) (StableHlo.launchContents m' c (Proc.devRef .tc Cert.Reference2Ideal.main_arg4)) (StableHlo.launchContents m' c (Proc.devRef .tc Cert.Reference2Ideal.main_arg5)) (StableHlo.launchContents m' c (Proc.devRef .tc Cert.Reference2Ideal.main_arg6)) (StableHlo.launchContents m' c (Proc.devRef .tc Cert.Reference2Ideal.main_arg7)) (StableHlo.launchContents m' c (Proc.devRef .tc Cert.Reference2Ideal.main_arg8)) (StableHlo.launchContents m' c (Proc.devRef .tc Cert.Reference2Ideal.main_arg9)) := fun c => by
    obtain ⟨e0, e1, e2, e3, e4, e5, e6, e7, e8, e9⟩ := hargs c
    exact ⟨fun s k => (congrFun e0 _).trans ((ha c).h0 s k), fun s k => (congrFun e1 _).trans ((ha c).h1 s k), fun s k => (congrFun e2 _).trans ((ha c).h2 s k), fun s k => (congrFun e3 _).trans ((ha c).h3 s k), fun s k => (congrFun e4 _).trans ((ha c).h4 s k), fun s k => (congrFun e5 _).trans ((ha c).h5 s k), fun s k => (congrFun e6 _).trans ((ha c).h6 s k), fun s k => (congrFun e7 _).trans ((ha c).h7 s k), fun s k => (congrFun e8 _).trans ((ha c).h8 s k), fun s k => (congrFun e9 _).trans ((ha c).h9 s k)⟩
  refine ⟨fun c => fun i => (((dh1 (a c).toWts ((a c).row (i 0)) (i 1) : ℝ) : EReal) : Ideal .f32),
    fun c => fun i => (((f (a c).toWts ((a c).row (i 0)) (i 1) : ℝ) : EReal) : Ideal .bf16),
    fun c => fun i => (((act (a c).toWts ((a c).row (i 0)) (i 1) : ℝ) : EReal) : Ideal .bf16),
    fun c => fun i => (((dy (a c).toWts ((a c).row (i 0)) (i 1) : ℝ) : EReal) : Ideal .bf16),
    fun c => fun i => (((h2 (a c).toWts ((a c).row (i 0)) (i 1) : ℝ) : EReal) : Ideal .bf16),
    fun c => fun i => (((dgp (a c).toWts ((a c).row (i 0)) (i 1) : ℝ) : EReal) : Ideal .bf16),
    fun c => fun i => (((dpp (a c).toWts ((a c).row (i 0)) (i 1) : ℝ) : EReal) : Ideal .bf16),
    fun c => fun i => (((dgu (a c).toWts ((a c).row (i 0)) (i 1) : ℝ) : EReal) : Ideal .bf16),
    fun c => fun i => ((((a c).P (i 0) (i 1) : ℝ) : EReal) : Ideal .bf16),
    fun c => fun i => ((((a c).loss : ℝ) : EReal) : Ideal .f32),
    fun c => fun i => ((((a c).dGF (i 1) : ℝ) : EReal) : Ideal .f32),
    fun c => fun i => ((((a c).dGP (i 1) : ℝ) : EReal) : Ideal .f32),
    fun c => fun i => ((((a c).dBP (i 1) : ℝ) : EReal) : Ideal .f32), ?_, ?_⟩
  · refine (θ_run _ _ _).mono (fun r h c => ⟨(h c).1.trans (a6 (ha c)),
      (h c).2.1.trans (a7 (ha c)),
      (h c).2.2.1.trans (a8 (ha c)),
      (h c).2.2.2.1.trans (a9 (ha c)),
      (h c).2.2.2.2.1.trans (a10 (ha c)),
      (h c).2.2.2.2.2.1.trans (a11 (ha c)),
      (h c).2.2.2.2.2.2.1.trans (a12 (ha c)),
      (h c).2.2.2.2.2.2.2.1.trans (a13 (ha c)),
      (h c).2.2.2.2.2.2.2.2.1.trans (a14 (ha c)),
      (h c).2.2.2.2.2.2.2.2.2.1.trans (a15 (ha c)),
      (h c).2.2.2.2.2.2.2.2.2.2.1.trans (a16 (ha c)),
      (h c).2.2.2.2.2.2.2.2.2.2.2.1.trans (a17 (ha c)),
      (h c).2.2.2.2.2.2.2.2.2.2.2.2.1.trans (a18 (ha c)), (h c).2.2.2.2.2.2.2.2.2.2.2.2.2⟩) (Cert.Kernel2Ideal.Gen.run_results (F := Ideal) m g)
  · refine (θ_run _ _ _).mono (fun r h c => ⟨(h c).1.trans ((Cert.Reference2Ideal.Read.val_main_v126_eq _).trans (by
          funext i
          obtain ⟨p, q, rfl⟩ : ∃ (p : Fin 8192) (q : Fin 1024), i = ix2 p q := ⟨_, _, eta2 i⟩
          exact Cert.FfnRef.r_v126 (H c) p q)),
      (h c).2.1.trans ((Cert.Reference2Ideal.Read.val_main_v127_eq _).trans (by
          funext i
          obtain ⟨p, q, rfl⟩ : ∃ (p : Fin 8192) (q : Fin 1024), i = ix2 p q := ⟨_, _, eta2 i⟩
          exact Cert.FfnRef.r_v127 (H c) p q)),
      (h c).2.2.1.trans ((Cert.Reference2Ideal.Read.val_main_v128_eq _).trans (by
          funext i
          obtain ⟨p, q, rfl⟩ : ∃ (p : Fin 8192) (q : Fin 2816), i = ix2 p q := ⟨_, _, eta2 i⟩
          exact Cert.FfnRef.r_v128 (H c) p q)),
      (h c).2.2.2.1.trans ((Cert.Reference2Ideal.Read.val_main_v129_eq _).trans (by
          funext i
          obtain ⟨p, q, rfl⟩ : ∃ (p : Fin 8192) (q : Fin 1024), i = ix2 p q := ⟨_, _, eta2 i⟩
          exact Cert.FfnRef.r_v129 (H c) p q)),
      (h c).2.2.2.2.1.trans ((Cert.Reference2Ideal.Read.val_main_v130_eq _).trans (by
          funext i
          obtain ⟨p, q, rfl⟩ : ∃ (p : Fin 8192) (q : Fin 1024), i = ix2 p q := ⟨_, _, eta2 i⟩
          exact Cert.FfnRef.r_v130 (H c) p q)),
      (h c).2.2.2.2.2.1.trans ((Cert.Reference2Ideal.Read.val_main_v131_eq _).trans (by
          funext i
          obtain ⟨p, q, rfl⟩ : ∃ (p : Fin 8192) (q : Fin 1024), i = ix2 p q := ⟨_, _, eta2 i⟩
          exact Cert.FfnRef.r_v131 (H c) p q)),
      (h c).2.2.2.2.2.2.1.trans ((Cert.Reference2Ideal.Read.val_main_v132_eq _).trans (by
          funext i
          obtain ⟨p, q, rfl⟩ : ∃ (p : Fin 8192) (q : Fin 1024), i = ix2 p q := ⟨_, _, eta2 i⟩
          exact Cert.FfnRef.r_v132 (H c) p q)),
      (h c).2.2.2.2.2.2.2.1.trans ((Cert.Reference2Ideal.Read.val_main_v133_eq _).trans (by
          funext i
          obtain ⟨p, q, rfl⟩ : ∃ (p : Fin 8192) (q : Fin 5632), i = ix2 p q := ⟨_, _, eta2 i⟩
          exact Cert.FfnRef.r_v133 (H c) p q)),
      (h c).2.2.2.2.2.2.2.2.1.trans ((Cert.Reference2Ideal.Read.val_main_v134_eq _).trans (by
          funext i
          obtain ⟨p, q, rfl⟩ : ∃ (p : Fin 8192) (q : Fin 256), i = ix2 p q := ⟨_, _, eta2 i⟩
          exact Cert.FfnRef.r_v134 (H c) p q)),
      (h c).2.2.2.2.2.2.2.2.2.1.trans ((Cert.Reference2Ideal.Read.val_main_v135_eq _).trans (by
          funext i
          obtain ⟨p, q, rfl⟩ : ∃ (p : Fin 1) (q : Fin 1), i = ix2 p q := ⟨_, _, eta2 i⟩
          exact Cert.FfnRef.r_v135 (H c) p q)),
      (h c).2.2.2.2.2.2.2.2.2.2.1.trans ((Cert.Reference2Ideal.Read.val_main_v109_eq _).trans (by
          funext i
          obtain ⟨p, q, rfl⟩ : ∃ (p : Fin 1) (q : Fin 1024), i = ix2 p q := ⟨_, _, eta2 i⟩
          exact Cert.FfnRef.r_v109 (H c) p q)),
      (h c).2.2.2.2.2.2.2.2.2.2.2.1.trans ((Cert.Reference2Ideal.Read.val_main_v84_eq _).trans (by
          funext i
          obtain ⟨p, q, rfl⟩ : ∃ (p : Fin 1) (q : Fin 1024), i = ix2 p q := ⟨_, _, eta2 i⟩
          exact Cert.FfnRef.r_v84 (H c) p q)),
      (h c).2.2.2.2.2.2.2.2.2.2.2.2.1.trans ((Cert.Reference2Ideal.Read.val_main_v79_eq _).trans (by
          funext i
          obtain ⟨p, q, rfl⟩ : ∃ (p : Fin 1) (q : Fin 1024), i = ix2 p q := ⟨_, _, eta2 i⟩
          exact Cert.FfnRef.r_v79 (H c) p q)), (h c).2.2.2.2.2.2.2.2.2.2.2.2.2⟩) (Cert.Reference2Ideal.Value.run (F := Ideal) m' g')

end Cert.FfnAlgebraic

end
-- ==== Proof.FfnFrameBits.lean ====
/- The second call's program as it runs on the machine's own floats. Its text and the idealized program's are the same text, which
   the frame was proved of at any kind of float: so the one's frame, read at the machine's floats, is the other's. -/
module

public import proofs.«01_k».proof.Proof.FfnFrame
public import proofs.«01_k».proof.Proof.Gen.Kernel2

@[expose] public section

noncomputable section

namespace Cert.FfnFrameBits

open Idealize.ShloMosaic Idealize.ShloMosaic.TcCoe Idealize.SL Idealize.SL.Sem Cert.Kernel2

variable {F : FTy → Type} [FloatOps F]

/-- The two kernels are the same program. -/
theorem same_step : Cert.Kernel2.cc0_ffn_step (F := F) = Cert.Kernel2Ideal.cc0_ffn_step (F := F) := rfl

set_option maxHeartbeats 2000000 in
theorem same_bodies : Cert.Kernel2.defs₀ (F := F) = Cert.Kernel2Ideal.defs₀ (F := F) := by
  funext p l x
  cases p with
  | tc =>
    match l, x with
    | 0, (t, s) =>
      unfold Cert.Kernel2.defs₀ Cert.Kernel2Ideal.defs₀
      dsimp only [Defs.onTc]
      rw [same_step]
      rfl
    | ⟨_ + 1, h⟩, _ => exact absurd h (Nat.not_lt.2 (Nat.le_add_left _ _))
  | _ => rfl

theorem same_defs : Cert.Kernel2.defs (F := F) = Cert.Kernel2Ideal.defs (F := F) :=
  congrArg (Pipeline.defs (Cert.Kernel2.pcfgs (F := F))) same_bodies

theorem same_main : Cert.Kernel2.main (F := F) = Cert.Kernel2Ideal.main (F := F) := rfl

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  rw [same_defs, same_main]
  exact Cert.Kernel2Ideal.Gen.frame m ρ

end Cert.FfnFrameBits

end
-- ==== Proof.Grad3.lean ====
/- One weight gradient: what the grid leaves in the result array is the product `xᵀ · ct`, summed over all the rows, and
   so is the reference's derivative of `w ↦ x · w`. -/
module

public import proofs.«01_k».proof.Defs
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit.Acc
public import Idealize.ShloMosaic.Lib.KernelVsHost
public import Idealize.ShloMosaic.Lib.Tactic

@[expose] public section

noncomputable section

namespace Cert.Grad3

open Cert.Kernel3Ideal Cert.Kernel3Ideal.Gen
open Idealize.ShloMosaic Idealize.ShloMosaic.TcCoe Idealize.SL.Sem Idealize.ShloMosaic.ValueIdx

theorem hz : (![0, 0] : Fin 2 → Nat) = fun _ => 0 := funext fun a => by fin_cases a <;> rfl

section Body

variable {F : FTy → Type} [FloatOps F]
variable (c : Dev nD) (i : grid0.Coords) (a3 : Memref sig .tc .vmem S2048x1024 .bf16) (h3 : a3.IsWhole)
  (a4 : Memref sig .tc .vmem S2048x1408 .bf16) (h4 : a4.IsWhole) (a5 : Memref sig .tc .vmem S1024x1408 .bf16) (h5 : a5.IsWhole)
  (a6 : Memref sig .tc .vmem S1024x1408 .f32) (h6 : a6.IsWhole)
  (x0 : Vec F S2048x1024 .bf16) (x1 : Vec F S2048x1408 .bf16) (xs : Vec F S1024x1408 .f32)

theorem sout_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S2048x1024) hz, View.ld_unit_zero (S := S2048x1408) hz]

theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x1024) hz, View.ld_unit_zero (S := S2048x1408) hz, View.ld_unit_zero (S := S1024x1408) hz]

theorem sout_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x1408) hz, View.ld_unit_zero (S := S1024x1408) hz]

theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1408) _ hz]
  simp only [View.readAt_eq_ld, h3.read_unread, h4.read_unread, h6.read_unread, View.ld_unit_zero (S := S2048x1024) hz, View.ld_unit_zero (S := S2048x1408) hz, View.ld_unit_zero (S := S1024x1408) hz]

end Body

/-! ## At the extended reals -/

theorem lhs0 (i : S1024x1408.Idx) (q : dot_S2048x1024_S2048x1408_S1024x1408_0_0_1_1_n_n.contr.Idx) :
    (dot_S2048x1024_S2048x1408_S1024x1408_0_0_1_1_n_n.lhsIdx i q 0).val = (q ⟨0, by decide⟩).val :=
  dot_S2048x1024_S2048x1408_S1024x1408_0_0_1_1_n_n.lhsIdx_val_of_single rfl i q

theorem lhs1 (i : S1024x1408.Idx) (q : dot_S2048x1024_S2048x1408_S1024x1408_0_0_1_1_n_n.contr.Idx) :
    (dot_S2048x1024_S2048x1408_S1024x1408_0_0_1_1_n_n.lhsIdx i q 1).val = (i 0).val := by
  unfold DotDims.lhsIdx
  rw [dif_neg (show ¬(1 : Fin S2048x1024.rank) ∈ dot_S2048x1024_S2048x1408_S1024x1408_0_0_1_1_n_n.lhsBatch by decide), dif_pos (show (1 : Fin S2048x1024.rank) ∈ dot_S2048x1024_S2048x1408_S1024x1408_0_0_1_1_n_n.lhsNonContracting by decide)]
  rfl

theorem rhs0 (i : S1024x1408.Idx) (q : dot_S2048x1024_S2048x1408_S1024x1408_0_0_1_1_n_n.contr.Idx) :
    (dot_S2048x1024_S2048x1408_S1024x1408_0_0_1_1_n_n.rhsIdx i q 0).val = (q ⟨0, by decide⟩).val :=
  dot_S2048x1024_S2048x1408_S1024x1408_0_0_1_1_n_n.rhsIdx_val_of_single rfl i q

theorem rhs1 (i : S1024x1408.Idx) (q : dot_S2048x1024_S2048x1408_S1024x1408_0_0_1_1_n_n.contr.Idx) :
    (dot_S2048x1024_S2048x1408_S1024x1408_0_0_1_1_n_n.rhsIdx i q 1).val = (i 1).val := by
  unfold DotDims.rhsIdx
  rw [dif_neg (show ¬(1 : Fin S2048x1408.rank) ∈ dot_S2048x1024_S2048x1408_S1024x1408_0_0_1_1_n_n.rhsBatch by decide), dif_pos (show (1 : Fin S2048x1408.rank) ∈ dot_S2048x1024_S2048x1408_S1024x1408_0_0_1_1_n_n.rhsNonContracting by decide)]
  rfl

/-- One block of rows' part of the product. -/
def part (x0 : Vec Ideal S2048x1024 .bf16) (x1 : Vec Ideal S2048x1408 .bf16) (j : S1024x1408.Idx) : EReal :=
  ∑ k : Fin 2048, x0 (ix2 k (j 0)) * x1 (ix2 k (j 1))

theorem pay2 (acc : Vec Ideal S1024x1408 .f32) (x0 : Vec Ideal S2048x1024 .bf16) (x1 : Vec Ideal S2048x1408 .bf16) (j : S1024x1408.Idx) :
    k0_pay2 (F := Ideal) acc x0 x1 j = acc j + part x0 x1 j := by
  unfold k0_pay2
  rw [shapeCast_self, matmul_zero_eq_dotGeneral]
  show acc j + Host.dotGeneral (F := Ideal) (φ₁ := .bf16) (φ₂ := .bf16) dot_S2048x1024_S2048x1408_S1024x1408_0_0_1_1_n_n none x0 x1 j = _
  simp only [Host.dotGeneral]
  rw [Ideal.dotGeneral_apply, ← Equiv.sum_comp (ValueIdx.contrEquiv1 dot_S2048x1024_S2048x1408_S1024x1408_0_0_1_1_n_n 2048 rfl rfl).symm]
  unfold part
  refine congrArg (acc j + ·) (Finset.sum_congr rfl fun k _ => ?_)
  have hk := ValueIdx.contrEquiv1_symm_val dot_S2048x1024_S2048x1408_S1024x1408_0_0_1_1_n_n 2048 rfl rfl k
  have el : dot_S2048x1024_S2048x1408_S1024x1408_0_0_1_1_n_n.lhsIdx j ((ValueIdx.contrEquiv1 dot_S2048x1024_S2048x1408_S1024x1408_0_0_1_1_n_n 2048 rfl rfl).symm k) = ix2 k (j 0) := funext fun a => Fin.ext (by
    match a with
    | ⟨0, _⟩ => exact (lhs0 _ _).trans hk
    | ⟨1, _⟩ => exact lhs1 _ _)
  have er : dot_S2048x1024_S2048x1408_S1024x1408_0_0_1_1_n_n.rhsIdx j ((ValueIdx.contrEquiv1 dot_S2048x1024_S2048x1408_S1024x1408_0_0_1_1_n_n 2048 rfl rfl).symm k) = ix2 k (j 1) := funext fun a => Fin.ext (by
    match a with
    | ⟨0, _⟩ => exact (rhs0 _ _).trans hk
    | ⟨1, _⟩ => exact rhs1 _ _)
  rw [el, er]
  rfl

theorem pay1 (j : S1024x1408.Idx) : k0_pay1 (F := Ideal) j = (0 : EReal) := by
  unfold k0_pay1
  rw [shapeCast_self]
  exact Ideal.ofBits_zero_f32

theorem pay3 (v : Vec Ideal S1024x1408 .f32) (j : S1024x1408.Idx) : k0_pay3 (F := Ideal) v j = v j := rfl

variable (m : (ℓ : Loc nD τ sig) → Buf (Elt Ideal) ℓ)

/-- What the carried scratch holds at the end of a run of points: the run's parts, added up. -/
theorem acc_eq (c : Dev nD) (t : Fin cfg0.N) (ht : t.val % 4 = 3) (j : S1024x1408.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  have e := Pipeline.eq_sum_fin_of_reset_step_apply_of_flush (M := EReal) (fun n h => (outsAt0 m c n h).2) 4 (fun _ => (0 : EReal))
    (fun t j => part (iblk m c 0 t) (iblk m c 1 t) j)
    (fun t h j => by
      rw [outsAt0_A m c t h (by omega)]
      dsimp only
      rw [sout_A, pay2, pay1])
    (fun t h j => by
      by_cases h1 : t.val % 4 = 3
      · rw [outsAt0_C m c t h h1]
        dsimp only
        rw [sout_C, pay2]
      · rw [outsAt0_B m c t h h1]
        dsimp only
        rw [sout_B, pay2])
    t ht j
  rw [zero_add] at e
  exact e

/-- What is written back there: the same, in the result's type. -/
theorem out_eq (c : Dev nD) (t : Fin cfg0.N) (ht : t.val % 4 = 3) (j : S1024x1408.Idx) :
    (outsAt0 m c t.val t.isLt).1 j = (outsAt0 m c t.val t.isLt).2 j := by
  rw [outsAt0_C m c t (by omega) ht]
  dsimp only
  rw [out_C, sout_C]
  rfl

theorem idx : ∀ t : Fin cfg0.N, win0_0.index t (0 : Fin 2) = t.val % 4 ∧ win0_0.index t (1 : Fin 2) = t.val / 16
    ∧ win0_1.index t (0 : Fin 2) = t.val % 4 ∧ win0_1.index t (1 : Fin 2) = t.val / 4 % 4 :=
  (by decide +kernel : ∀ t : Fin grid0.N, _)

/-- The product that the result is. -/
def prod (x : S8192x1024.Idx → EReal) (ct : S8192x5632.Idx → EReal) (i : S1024x5632.Idx) : EReal :=
  ∑ l : Fin 8192, x (ix2 l (i 0)) * ct (ix2 l (i 1))

theorem x_at (c : Dev nD) (t : Fin cfg0.N) (k : Fin 2048) (p : Fin 1024) (l : Fin 8192) (r : Fin 1024)
    (hl : l.val = t.val % 4 * 2048 + k.val) (hr : r.val = t.val / 16 * 1024 + p.val) :
    iblk m c 0 t (ix2 k p) = m ((c : Thread nD τ).loc main_arg0) (ix2 l r) := by
  obtain ⟨e0, e1, e2, e3⟩ := idx t
  unfold iblk
  rw [View.read_apply]
  show V m c main_arg0 _ = m (c.tc.loc main_arg0) _
  unfold V
  congr 1
  funext a
  apply Fin.ext
  match a with
  | ⟨0, _⟩ => show win0_0.index t 0 * 2048 + 1 * k.val = l.val; rw [e0]; omega
  | ⟨1, _⟩ => show win0_0.index t 1 * 1024 + 1 * p.val = r.val; rw [e1]; omega

theorem ct_at (c : Dev nD) (t : Fin cfg0.N) (k : Fin 2048) (q : Fin 1408) (l : Fin 8192) (r : Fin 5632)
    (hl : l.val = t.val % 4 * 2048 + k.val) (hr : r.val = t.val / 4 % 4 * 1408 + q.val) :
    iblk m c 1 t (ix2 k q) = m ((c : Thread nD τ).loc main_arg1) (ix2 l r) := by
  obtain ⟨e0, e1, e2, e3⟩ := idx t
  unfold iblk
  rw [View.read_apply]
  show V m c main_arg1 _ = m (c.tc.loc main_arg1) _
  unfold V
  congr 1
  funext a
  apply Fin.ext
  match a with
  | ⟨0, _⟩ => show win0_1.index t 0 * 2048 + 1 * k.val = l.val; rw [e2]; omega
  | ⟨1, _⟩ => show win0_1.index t 1 * 1408 + 1 * q.val = r.val; rw [e3]; omega

theorem final (c : Dev nD) (i : S1024x5632.Idx) :
    Value.G2 m c i = prod (m ((c : Thread nD τ).loc main_arg0)) (m ((c : Thread nD τ).loc main_arg1)) i := by
  have hi0 : (i 0).val < 1024 := (i 0).isLt
  have hi1 : (i 1).val < 5632 := (i 1).isLt
  have hN : cfg0.N = 16 := N_0
  have hp : Value.pt2Of i < cfg0.N := by rw [hN]; show 4 * (4 * ((i 0).val / 1024 - 0) + 1 * ((i 1).val / 1408 - 0)) + 3 < 16; omega
  have ht : Value.pt2Of i % 4 = 3 := by show (4 * Value.run2Of i + 3) % 4 = 3; omega
  have hd : Value.pt2Of i / 4 = 4 * ((i 0).val / 1024) + (i 1).val / 1408 := by
    show (4 * (4 * ((i 0).val / 1024 - 0) + 1 * ((i 1).val / 1408 - 0)) + 3) / 4 = _; omega
  unfold Value.G2
  rw [dif_pos hp, ← Value.outsAt0_sweep m c (Value.pt2Of i) hp, out_eq m c ⟨_, hp⟩ ht, acc_eq m c ⟨_, hp⟩ ht]
  unfold prod part
  refine Fin.sum_mul_add_congr fun s k hl => ?_
  have hs := s.isLt
  refine congrArg₂ (· * ·) (x_at m c _ k _ ⟨s.val * 2048 + k.val, hl⟩ (i 0) ?_ ?_) (ct_at m c _ k _ ⟨s.val * 2048 + k.val, hl⟩ (i 1) ?_ ?_)
  · show s.val * 2048 + k.val = (4 * (Value.pt2Of i / 4) + s.val) % 4 * 2048 + k.val
    omega
  · show (i 0).val = (4 * (Value.pt2Of i / 4) + s.val) / 16 * 1024 + (i 0).val % 1024
    rw [hd]; omega
  · show s.val * 2048 + k.val = (4 * (Value.pt2Of i / 4) + s.val) % 4 * 2048 + k.val
    omega
  · show (i 1).val = (4 * (Value.pt2Of i / 4) + s.val) / 4 % 4 * 1408 + (i 1).val % 1408
    rw [hd]; omega

theorem ref (x0 : (⟨S8192x1024, .bf16⟩ : BufTy).Contents (Elt Ideal)) (x1 : (⟨S8192x5632, .bf16⟩ : BufTy).Contents (Elt Ideal)) (i : S1024x5632.Idx) :
    Cert.Reference3Ideal.Read.val_main_v6 (F := Ideal) x0 x1 i = prod x0 x1 i := by
  show Cert.Reference3Ideal.Read.val_main_v5 (F := Ideal) x0 x1 i = _
  rw [Cert.Reference3Ideal.Read.val_main_v5_apply, Cert.Reference3Ideal.Read.val_main_v4_apply]
  unfold prod
  refine Finset.sum_congr rfl fun k _ => ?_
  refine (mul_comm (G := EReal) _ _).trans (congrArg₂ (· * ·) ?_ ?_)
  · show x0 _ = x0 _
    refine congrArg x0 (funext fun a => Fin.ext ?_)
    match a with
    | ⟨0, _⟩ => rfl
    | ⟨1, _⟩ => rfl
  · show x1 _ = x1 _
    refine congrArg x1 (funext fun a => Fin.ext ?_)
    match a with
    | ⟨0, _⟩ => rfl
    | ⟨1, _⟩ => rfl

theorem algebraic : Cert.algebraic_Kernel3Ideal_Reference3Ideal
    (hKernel3Ideal := Cert.Kernel3Ideal.Gen.facts) (hReference3Ideal := Cert.Reference3Ideal.Gen.facts) := by
  intro m g m' g' _ hargs
  refine ⟨fun c => fun i => prod (m ((c : Thread nD τ).loc main_arg0)) (m ((c : Thread nD τ).loc main_arg1)) i, ?_, ?_⟩
  · exact (θ_run _ _ _).mono (fun r h c => ⟨(h c).1.trans (funext fun i => final m c i), (h c).2⟩) (Value.run (F := Ideal) m g)
  · refine (θ_run _ _ _).mono (fun r h c => ⟨(h c).1.trans ((Cert.Reference3Ideal.Read.val_main_v6_eq _ _).trans (funext fun i => ?_)), (h c).2⟩)
      (Cert.Reference3Ideal.Value.run (F := Ideal) m' g')
    obtain ⟨e0, e1⟩ := hargs c
    refine (ref _ _ i).trans ?_
    exact congrArg₂ (fun x y => prod x y i) e0 e1

/-- The reference's run leaves its arguments and its semaphores. -/
theorem ref_frame : Cert.quiescent_Reference3Ideal (hReference3Ideal := Cert.Reference3Ideal.Gen.facts) :=
  fun m ρ _ => (θ_run _ _ _).mono (fun r h => ⟨fun c => (h c).2, Idealize.ShloMosaic.sem_eq_zero_of_no_sems (by decide) r.2⟩)
      (Cert.Reference3Ideal.Value.run (F := Ideal) m ρ)

end Cert.Grad3

end
-- ==== Proof.Grad4.lean ====
/- One weight gradient: what the grid leaves in the result array is the product `xᵀ · ct`, summed over all the rows, and
   so is the reference's derivative of `w ↦ x · w`. -/
module

public import proofs.«01_k».proof.Defs
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit.Acc
public import Idealize.ShloMosaic.Lib.KernelVsHost
public import Idealize.ShloMosaic.Lib.Tactic

@[expose] public section

noncomputable section

namespace Cert.Grad4

open Cert.Kernel4Ideal Cert.Kernel4Ideal.Gen
open Idealize.ShloMosaic Idealize.ShloMosaic.TcCoe Idealize.SL.Sem Idealize.ShloMosaic.ValueIdx

theorem hz : (![0, 0] : Fin 2 → Nat) = fun _ => 0 := funext fun a => by fin_cases a <;> rfl

section Body

variable {F : FTy → Type} [FloatOps F]
variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .bf16) (h5 : a5.IsWhole)
  (a6 : Memref sig .tc .vmem S1408x1024 .f32) (h6 : a6.IsWhole)
  (x0 : Vec F S2048x1408 .bf16) (x1 : Vec F S2048x1024 .bf16) (xs : Vec F S1408x1024 .f32)

theorem sout_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S2048x1408) hz, View.ld_unit_zero (S := S2048x1024) hz]

theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem sout_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S2048x1408) hz, View.ld_unit_zero (S := S2048x1024) hz, View.ld_unit_zero (S := S1408x1024) hz]

end Body

/-! ## At the extended reals -/

theorem lhs0 (i : S1408x1024.Idx) (q : dot_S2048x1408_S2048x1024_S1408x1024_0_0_1_1_n_n.contr.Idx) :
    (dot_S2048x1408_S2048x1024_S1408x1024_0_0_1_1_n_n.lhsIdx i q 0).val = (q ⟨0, by decide⟩).val :=
  dot_S2048x1408_S2048x1024_S1408x1024_0_0_1_1_n_n.lhsIdx_val_of_single rfl i q

theorem lhs1 (i : S1408x1024.Idx) (q : dot_S2048x1408_S2048x1024_S1408x1024_0_0_1_1_n_n.contr.Idx) :
    (dot_S2048x1408_S2048x1024_S1408x1024_0_0_1_1_n_n.lhsIdx i q 1).val = (i 0).val := by
  unfold DotDims.lhsIdx
  rw [dif_neg (show ¬(1 : Fin S2048x1408.rank) ∈ dot_S2048x1408_S2048x1024_S1408x1024_0_0_1_1_n_n.lhsBatch by decide), dif_pos (show (1 : Fin S2048x1408.rank) ∈ dot_S2048x1408_S2048x1024_S1408x1024_0_0_1_1_n_n.lhsNonContracting by decide)]
  rfl

theorem rhs0 (i : S1408x1024.Idx) (q : dot_S2048x1408_S2048x1024_S1408x1024_0_0_1_1_n_n.contr.Idx) :
    (dot_S2048x1408_S2048x1024_S1408x1024_0_0_1_1_n_n.rhsIdx i q 0).val = (q ⟨0, by decide⟩).val :=
  dot_S2048x1408_S2048x1024_S1408x1024_0_0_1_1_n_n.rhsIdx_val_of_single rfl i q

theorem rhs1 (i : S1408x1024.Idx) (q : dot_S2048x1408_S2048x1024_S1408x1024_0_0_1_1_n_n.contr.Idx) :
    (dot_S2048x1408_S2048x1024_S1408x1024_0_0_1_1_n_n.rhsIdx i q 1).val = (i 1).val := by
  unfold DotDims.rhsIdx
  rw [dif_neg (show ¬(1 : Fin S2048x1024.rank) ∈ dot_S2048x1408_S2048x1024_S1408x1024_0_0_1_1_n_n.rhsBatch by decide), dif_pos (show (1 : Fin S2048x1024.rank) ∈ dot_S2048x1408_S2048x1024_S1408x1024_0_0_1_1_n_n.rhsNonContracting by decide)]
  rfl

/-- One block of rows' part of the product. -/
def part (x0 : Vec Ideal S2048x1408 .bf16) (x1 : Vec Ideal S2048x1024 .bf16) (j : S1408x1024.Idx) : EReal :=
  ∑ k : Fin 2048, x0 (ix2 k (j 0)) * x1 (ix2 k (j 1))

theorem pay2 (acc : Vec Ideal S1408x1024 .f32) (x0 : Vec Ideal S2048x1408 .bf16) (x1 : Vec Ideal S2048x1024 .bf16) (j : S1408x1024.Idx) :
    k0_pay2 (F := Ideal) acc x0 x1 j = acc j + part x0 x1 j := by
  unfold k0_pay2
  rw [shapeCast_self, matmul_zero_eq_dotGeneral]
  show acc j + Host.dotGeneral (F := Ideal) (φ₁ := .bf16) (φ₂ := .bf16) dot_S2048x1408_S2048x1024_S1408x1024_0_0_1_1_n_n none x0 x1 j = _
  simp only [Host.dotGeneral]
  rw [Ideal.dotGeneral_apply, ← Equiv.sum_comp (ValueIdx.contrEquiv1 dot_S2048x1408_S2048x1024_S1408x1024_0_0_1_1_n_n 2048 rfl rfl).symm]
  unfold part
  refine congrArg (acc j + ·) (Finset.sum_congr rfl fun k _ => ?_)
  have hk := ValueIdx.contrEquiv1_symm_val dot_S2048x1408_S2048x1024_S1408x1024_0_0_1_1_n_n 2048 rfl rfl k
  have el : dot_S2048x1408_S2048x1024_S1408x1024_0_0_1_1_n_n.lhsIdx j ((ValueIdx.contrEquiv1 dot_S2048x1408_S2048x1024_S1408x1024_0_0_1_1_n_n 2048 rfl rfl).symm k) = ix2 k (j 0) := funext fun a => Fin.ext (by
    match a with
    | ⟨0, _⟩ => exact (lhs0 _ _).trans hk
    | ⟨1, _⟩ => exact lhs1 _ _)
  have er : dot_S2048x1408_S2048x1024_S1408x1024_0_0_1_1_n_n.rhsIdx j ((ValueIdx.contrEquiv1 dot_S2048x1408_S2048x1024_S1408x1024_0_0_1_1_n_n 2048 rfl rfl).symm k) = ix2 k (j 1) := funext fun a => Fin.ext (by
    match a with
    | ⟨0, _⟩ => exact (rhs0 _ _).trans hk
    | ⟨1, _⟩ => exact rhs1 _ _)
  rw [el, er]
  rfl

theorem pay1 (j : S1408x1024.Idx) : k0_pay1 (F := Ideal) j = (0 : EReal) := by
  unfold k0_pay1
  rw [shapeCast_self]
  exact Ideal.ofBits_zero_f32

theorem pay3 (v : Vec Ideal S1408x1024 .f32) (j : S1408x1024.Idx) : k0_pay3 (F := Ideal) v j = v j := rfl

variable (m : (ℓ : Loc nD τ sig) → Buf (Elt Ideal) ℓ)

/-- What the carried scratch holds at the end of a run of points: the run's parts, added up. -/
theorem acc_eq (c : Dev nD) (t : Fin cfg0.N) (ht : t.val % 4 = 3) (j : S1408x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  have e := Pipeline.eq_sum_fin_of_reset_step_apply_of_flush (M := EReal) (fun n h => (outsAt0 m c n h).2) 4 (fun _ => (0 : EReal))
    (fun t j => part (iblk m c 0 t) (iblk m c 1 t) j)
    (fun t h j => by
      rw [outsAt0_A m c t h (by omega)]
      dsimp only
      rw [sout_A, pay2, pay1])
    (fun t h j => by
      by_cases h1 : t.val % 4 = 3
      · rw [outsAt0_C m c t h h1]
        dsimp only
        rw [sout_C, pay2]
      · rw [outsAt0_B m c t h h1]
        dsimp only
        rw [sout_B, pay2])
    t ht j
  rw [zero_add] at e
  exact e

/-- What is written back there: the same, in the result's type. -/
theorem out_eq (c : Dev nD) (t : Fin cfg0.N) (ht : t.val % 4 = 3) (j : S1408x1024.Idx) :
    (outsAt0 m c t.val t.isLt).1 j = (outsAt0 m c t.val t.isLt).2 j := by
  rw [outsAt0_C m c t (by omega) ht]
  dsimp only
  rw [out_C, sout_C]
  rfl

theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = t.val / 4 % 1 :=
  (by decide +kernel : ∀ t : Fin grid0.N, _)

/-- The product that the result is. -/
def prod (x : S8192x2816.Idx → EReal) (ct : S8192x1024.Idx → EReal) (i : S2816x1024.Idx) : EReal :=
  ∑ l : Fin 8192, x (ix2 l (i 0)) * ct (ix2 l (i 1))

theorem x_at (c : Dev nD) (t : Fin cfg0.N) (k : Fin 2048) (p : Fin 1408) (l : Fin 8192) (r : Fin 2816)
    (hl : l.val = t.val % 4 * 2048 + k.val) (hr : r.val = t.val / 4 * 1408 + p.val) :
    iblk m c 0 t (ix2 k p) = m ((c : Thread nD τ).loc main_arg0) (ix2 l r) := by
  obtain ⟨e0, e1, e2, e3⟩ := idx t
  unfold iblk
  rw [View.read_apply]
  show V m c main_arg0 _ = m (c.tc.loc main_arg0) _
  unfold V
  congr 1
  funext a
  apply Fin.ext
  match a with
  | ⟨0, _⟩ => show win0_0.index t 0 * 2048 + 1 * k.val = l.val; rw [e0]; omega
  | ⟨1, _⟩ => show win0_0.index t 1 * 1408 + 1 * p.val = r.val; rw [e1]; omega

theorem ct_at (c : Dev nD) (t : Fin cfg0.N) (k : Fin 2048) (q : Fin 1024) (l : Fin 8192) (r : Fin 1024)
    (hl : l.val = t.val % 4 * 2048 + k.val) (hr : r.val = t.val / 4 % 1 * 1024 + q.val) :
    iblk m c 1 t (ix2 k q) = m ((c : Thread nD τ).loc main_arg1) (ix2 l r) := by
  obtain ⟨e0, e1, e2, e3⟩ := idx t
  unfold iblk
  rw [View.read_apply]
  show V m c main_arg1 _ = m (c.tc.loc main_arg1) _
  unfold V
  congr 1
  funext a
  apply Fin.ext
  match a with
  | ⟨0, _⟩ => show win0_1.index t 0 * 2048 + 1 * k.val = l.val; rw [e2]; omega
  | ⟨1, _⟩ => show win0_1.index t 1 * 1024 + 1 * q.val = r.val; rw [e3]; omega

theorem final (c : Dev nD) (i : S2816x1024.Idx) :
    Value.G2 m c i = prod (m ((c : Thread nD τ).loc main_arg0)) (m ((c : Thread nD τ).loc main_arg1)) i := by
  have hi0 : (i 0).val < 2816 := (i 0).isLt
  have hi1 : (i 1).val < 1024 := (i 1).isLt
  have hN : cfg0.N = 8 := N_0
  have hp : Value.pt2Of i < cfg0.N := by rw [hN]; show 4 * (1 * ((i 0).val / 1408 - 0) + 1 * ((i 1).val / 1024 - 0)) + 3 < 8; omega
  have ht : Value.pt2Of i % 4 = 3 := by show (4 * Value.run2Of i + 3) % 4 = 3; omega
  have hd : Value.pt2Of i / 4 = 1 * ((i 0).val / 1408) + (i 1).val / 1024 := by
    show (4 * (1 * ((i 0).val / 1408 - 0) + 1 * ((i 1).val / 1024 - 0)) + 3) / 4 = _; omega
  unfold Value.G2
  rw [dif_pos hp, ← Value.outsAt0_sweep m c (Value.pt2Of i) hp, out_eq m c ⟨_, hp⟩ ht, acc_eq m c ⟨_, hp⟩ ht]
  unfold prod part
  refine Fin.sum_mul_add_congr fun s k hl => ?_
  have hs := s.isLt
  refine congrArg₂ (· * ·) (x_at m c _ k _ ⟨s.val * 2048 + k.val, hl⟩ (i 0) ?_ ?_) (ct_at m c _ k _ ⟨s.val * 2048 + k.val, hl⟩ (i 1) ?_ ?_)
  · show s.val * 2048 + k.val = (4 * (Value.pt2Of i / 4) + s.val) % 4 * 2048 + k.val
    omega
  · show (i 0).val = (4 * (Value.pt2Of i / 4) + s.val) / 4 * 1408 + (i 0).val % 1408
    rw [hd]; omega
  · show s.val * 2048 + k.val = (4 * (Value.pt2Of i / 4) + s.val) % 4 * 2048 + k.val
    omega
  · show (i 1).val = (4 * (Value.pt2Of i / 4) + s.val) / 4 % 1 * 1024 + (i 1).val % 1024
    rw [hd]; omega

theorem ref (x0 : (⟨S8192x2816, .bf16⟩ : BufTy).Contents (Elt Ideal)) (x1 : (⟨S8192x1024, .bf16⟩ : BufTy).Contents (Elt Ideal)) (i : S2816x1024.Idx) :
    Cert.Reference4Ideal.Read.val_main_v6 (F := Ideal) x0 x1 i = prod x0 x1 i := by
  show Cert.Reference4Ideal.Read.val_main_v5 (F := Ideal) x0 x1 i = _
  rw [Cert.Reference4Ideal.Read.val_main_v5_apply, Cert.Reference4Ideal.Read.val_main_v4_apply]
  unfold prod
  refine Finset.sum_congr rfl fun k _ => ?_
  refine (mul_comm (G := EReal) _ _).trans (congrArg₂ (· * ·) ?_ ?_)
  · show x0 _ = x0 _
    refine congrArg x0 (funext fun a => Fin.ext ?_)
    match a with
    | ⟨0, _⟩ => rfl
    | ⟨1, _⟩ => rfl
  · show x1 _ = x1 _
    refine congrArg x1 (funext fun a => Fin.ext ?_)
    match a with
    | ⟨0, _⟩ => rfl
    | ⟨1, _⟩ => rfl

theorem algebraic : Cert.algebraic_Kernel4Ideal_Reference4Ideal
    (hKernel4Ideal := Cert.Kernel4Ideal.Gen.facts) (hReference4Ideal := Cert.Reference4Ideal.Gen.facts) := by
  intro m g m' g' _ hargs
  refine ⟨fun c => fun i => prod (m ((c : Thread nD τ).loc main_arg0)) (m ((c : Thread nD τ).loc main_arg1)) i, ?_, ?_⟩
  · exact (θ_run _ _ _).mono (fun r h c => ⟨(h c).1.trans (funext fun i => final m c i), (h c).2⟩) (Value.run (F := Ideal) m g)
  · refine (θ_run _ _ _).mono (fun r h c => ⟨(h c).1.trans ((Cert.Reference4Ideal.Read.val_main_v6_eq _ _).trans (funext fun i => ?_)), (h c).2⟩)
      (Cert.Reference4Ideal.Value.run (F := Ideal) m' g')
    obtain ⟨e0, e1⟩ := hargs c
    refine (ref _ _ i).trans ?_
    exact congrArg₂ (fun x y => prod x y i) e0 e1

/-- The reference's run leaves its arguments and its semaphores. -/
theorem ref_frame : Cert.quiescent_Reference4Ideal (hReference4Ideal := Cert.Reference4Ideal.Gen.facts) :=
  fun m ρ _ => (θ_run _ _ _).mono (fun r h => ⟨fun c => (h c).2, Idealize.ShloMosaic.sem_eq_zero_of_no_sems (by decide) r.2⟩)
      (Cert.Reference4Ideal.Value.run (F := Ideal) m ρ)

end Cert.Grad4

end
-- ==== Proof.Grad5.lean ====
/- One weight gradient: what the grid leaves in the result array is the product `xᵀ · ct`, summed over all the rows, and
   so is the reference's derivative of `w ↦ x · w`. -/
module

public import proofs.«01_k».proof.Defs
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit.Acc
public import Idealize.ShloMosaic.Lib.KernelVsHost
public import Idealize.ShloMosaic.Lib.Tactic

@[expose] public section

noncomputable section

namespace Cert.Grad5

open Cert.Kernel5Ideal Cert.Kernel5Ideal.Gen
open Idealize.ShloMosaic Idealize.ShloMosaic.TcCoe Idealize.SL.Sem Idealize.ShloMosaic.ValueIdx

theorem hz : (![0, 0] : Fin 2 → Nat) = fun _ => 0 := funext fun a => by fin_cases a <;> rfl

section Body

variable {F : FTy → Type} [FloatOps F]
variable (c : Dev nD) (i : grid0.Coords) (a3 : Memref sig .tc .vmem S2048x1024 .bf16) (h3 : a3.IsWhole)
  (a4 : Memref sig .tc .vmem S2048x1280 .bf16) (h4 : a4.IsWhole) (a5 : Memref sig .tc .vmem S1024x1280 .bf16) (h5 : a5.IsWhole)
  (a6 : Memref sig .tc .vmem S1024x1280 .f32) (h6 : a6.IsWhole)
  (x0 : Vec F S2048x1024 .bf16) (x1 : Vec F S2048x1280 .bf16) (xs : Vec F S1024x1280 .f32)

theorem sout_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1280) hz, View.readCov_unit_zero (S := S1024x1280) _ hz]
  simp only [View.readAt_eq_ld, h3.read_unread, h4.read_unread, View.ld_unit_zero (S := S2048x1024) hz, View.ld_unit_zero (S := S2048x1280) hz]

theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x1024) hz, View.ld_unit_zero (S := S2048x1280) hz, View.ld_unit_zero (S := S1024x1280) hz]

theorem sout_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x1280) hz, View.ld_unit_zero (S := S1024x1280) hz]

theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1280) _ hz]
  simp only [View.readAt_eq_ld, h3.read_unread, h4.read_unread, h6.read_unread, View.ld_unit_zero (S := S2048x1024) hz, View.ld_unit_zero (S := S2048x1280) hz, View.ld_unit_zero (S := S1024x1280) hz]

end Body

/-! ## At the extended reals -/

theorem lhs0 (i : S1024x1280.Idx) (q : dot_S2048x1024_S2048x1280_S1024x1280_0_0_1_1_n_n.contr.Idx) :
    (dot_S2048x1024_S2048x1280_S1024x1280_0_0_1_1_n_n.lhsIdx i q 0).val = (q ⟨0, by decide⟩).val :=
  dot_S2048x1024_S2048x1280_S1024x1280_0_0_1_1_n_n.lhsIdx_val_of_single rfl i q

theorem lhs1 (i : S1024x1280.Idx) (q : dot_S2048x1024_S2048x1280_S1024x1280_0_0_1_1_n_n.contr.Idx) :
    (dot_S2048x1024_S2048x1280_S1024x1280_0_0_1_1_n_n.lhsIdx i q 1).val = (i 0).val := by
  unfold DotDims.lhsIdx
  rw [dif_neg (show ¬(1 : Fin S2048x1024.rank) ∈ dot_S2048x1024_S2048x1280_S1024x1280_0_0_1_1_n_n.lhsBatch by decide), dif_pos (show (1 : Fin S2048x1024.rank) ∈ dot_S2048x1024_S2048x1280_S1024x1280_0_0_1_1_n_n.lhsNonContracting by decide)]
  rfl

theorem rhs0 (i : S1024x1280.Idx) (q : dot_S2048x1024_S2048x1280_S1024x1280_0_0_1_1_n_n.contr.Idx) :
    (dot_S2048x1024_S2048x1280_S1024x1280_0_0_1_1_n_n.rhsIdx i q 0).val = (q ⟨0, by decide⟩).val :=
  dot_S2048x1024_S2048x1280_S1024x1280_0_0_1_1_n_n.rhsIdx_val_of_single rfl i q

theorem rhs1 (i : S1024x1280.Idx) (q : dot_S2048x1024_S2048x1280_S1024x1280_0_0_1_1_n_n.contr.Idx) :
    (dot_S2048x1024_S2048x1280_S1024x1280_0_0_1_1_n_n.rhsIdx i q 1).val = (i 1).val := by
  unfold DotDims.rhsIdx
  rw [dif_neg (show ¬(1 : Fin S2048x1280.rank) ∈ dot_S2048x1024_S2048x1280_S1024x1280_0_0_1_1_n_n.rhsBatch by decide), dif_pos (show (1 : Fin S2048x1280.rank) ∈ dot_S2048x1024_S2048x1280_S1024x1280_0_0_1_1_n_n.rhsNonContracting by decide)]
  rfl

/-- One block of rows' part of the product. -/
def part (x0 : Vec Ideal S2048x1024 .bf16) (x1 : Vec Ideal S2048x1280 .bf16) (j : S1024x1280.Idx) : EReal :=
  ∑ k : Fin 2048, x0 (ix2 k (j 0)) * x1 (ix2 k (j 1))

theorem pay2 (acc : Vec Ideal S1024x1280 .f32) (x0 : Vec Ideal S2048x1024 .bf16) (x1 : Vec Ideal S2048x1280 .bf16) (j : S1024x1280.Idx) :
    k0_pay2 (F := Ideal) acc x0 x1 j = acc j + part x0 x1 j := by
  unfold k0_pay2
  rw [shapeCast_self, matmul_zero_eq_dotGeneral]
  show acc j + Host.dotGeneral (F := Ideal) (φ₁ := .bf16) (φ₂ := .bf16) dot_S2048x1024_S2048x1280_S1024x1280_0_0_1_1_n_n none x0 x1 j = _
  simp only [Host.dotGeneral]
  rw [Ideal.dotGeneral_apply, ← Equiv.sum_comp (ValueIdx.contrEquiv1 dot_S2048x1024_S2048x1280_S1024x1280_0_0_1_1_n_n 2048 rfl rfl).symm]
  unfold part
  refine congrArg (acc j + ·) (Finset.sum_congr rfl fun k _ => ?_)
  have hk := ValueIdx.contrEquiv1_symm_val dot_S2048x1024_S2048x1280_S1024x1280_0_0_1_1_n_n 2048 rfl rfl k
  have el : dot_S2048x1024_S2048x1280_S1024x1280_0_0_1_1_n_n.lhsIdx j ((ValueIdx.contrEquiv1 dot_S2048x1024_S2048x1280_S1024x1280_0_0_1_1_n_n 2048 rfl rfl).symm k) = ix2 k (j 0) := funext fun a => Fin.ext (by
    match a with
    | ⟨0, _⟩ => exact (lhs0 _ _).trans hk
    | ⟨1, _⟩ => exact lhs1 _ _)
  have er : dot_S2048x1024_S2048x1280_S1024x1280_0_0_1_1_n_n.rhsIdx j ((ValueIdx.contrEquiv1 dot_S2048x1024_S2048x1280_S1024x1280_0_0_1_1_n_n 2048 rfl rfl).symm k) = ix2 k (j 1) := funext fun a => Fin.ext (by
    match a with
    | ⟨0, _⟩ => exact (rhs0 _ _).trans hk
    | ⟨1, _⟩ => exact rhs1 _ _)
  rw [el, er]
  rfl

theorem pay1 (j : S1024x1280.Idx) : k0_pay1 (F := Ideal) j = (0 : EReal) := by
  unfold k0_pay1
  rw [shapeCast_self]
  exact Ideal.ofBits_zero_f32

theorem pay3 (v : Vec Ideal S1024x1280 .f32) (j : S1024x1280.Idx) : k0_pay3 (F := Ideal) v j = v j := rfl

variable (m : (ℓ : Loc nD τ sig) → Buf (Elt Ideal) ℓ)

/-- What the carried scratch holds at the end of a run of points: the run's parts, added up. -/
theorem acc_eq (c : Dev nD) (t : Fin cfg0.N) (ht : t.val % 4 = 3) (j : S1024x1280.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  have e := Pipeline.eq_sum_fin_of_reset_step_apply_of_flush (M := EReal) (fun n h => (outsAt0 m c n h).2) 4 (fun _ => (0 : EReal))
    (fun t j => part (iblk m c 0 t) (iblk m c 1 t) j)
    (fun t h j => by
      rw [outsAt0_A m c t h (by omega)]
      dsimp only
      rw [sout_A, pay2, pay1])
    (fun t h j => by
      by_cases h1 : t.val % 4 = 3
      · rw [outsAt0_C m c t h h1]
        dsimp only
        rw [sout_C, pay2]
      · rw [outsAt0_B m c t h h1]
        dsimp only
        rw [sout_B, pay2])
    t ht j
  rw [zero_add] at e
  exact e

/-- What is written back there: the same, in the result's type. -/
theorem out_eq (c : Dev nD) (t : Fin cfg0.N) (ht : t.val % 4 = 3) (j : S1024x1280.Idx) :
    (outsAt0 m c t.val t.isLt).1 j = (outsAt0 m c t.val t.isLt).2 j := by
  rw [outsAt0_C m c t (by omega) ht]
  dsimp only
  rw [out_C, sout_C]
  rfl

theorem idx : ∀ t : Fin cfg0.N, win0_0.index t (0 : Fin 2) = t.val % 4 ∧ win0_0.index t (1 : Fin 2) = t.val / 8
    ∧ win0_1.index t (0 : Fin 2) = t.val % 4 ∧ win0_1.index t (1 : Fin 2) = t.val / 4 % 2 :=
  (by decide +kernel : ∀ t : Fin grid0.N, _)

/-- The product that the result is. -/
def prod (x : S8192x1024.Idx → EReal) (ct : S8192x2560.Idx → EReal) (i : S1024x2560.Idx) : EReal :=
  ∑ l : Fin 8192, x (ix2 l (i 0)) * ct (ix2 l (i 1))

theorem x_at (c : Dev nD) (t : Fin cfg0.N) (k : Fin 2048) (p : Fin 1024) (l : Fin 8192) (r : Fin 1024)
    (hl : l.val = t.val % 4 * 2048 + k.val) (hr : r.val = t.val / 8 * 1024 + p.val) :
    iblk m c 0 t (ix2 k p) = m ((c : Thread nD τ).loc main_arg0) (ix2 l r) := by
  obtain ⟨e0, e1, e2, e3⟩ := idx t
  unfold iblk
  rw [View.read_apply]
  show V m c main_arg0 _ = m (c.tc.loc main_arg0) _
  unfold V
  congr 1
  funext a
  apply Fin.ext
  match a with
  | ⟨0, _⟩ => show win0_0.index t 0 * 2048 + 1 * k.val = l.val; rw [e0]; omega
  | ⟨1, _⟩ => show win0_0.index t 1 * 1024 + 1 * p.val = r.val; rw [e1]; omega

theorem ct_at (c : Dev nD) (t : Fin cfg0.N) (k : Fin 2048) (q : Fin 1280) (l : Fin 8192) (r : Fin 2560)
    (hl : l.val = t.val % 4 * 2048 + k.val) (hr : r.val = t.val / 4 % 2 * 1280 + q.val) :
    iblk m c 1 t (ix2 k q) = m ((c : Thread nD τ).loc main_arg1) (ix2 l r) := by
  obtain ⟨e0, e1, e2, e3⟩ := idx t
  unfold iblk
  rw [View.read_apply]
  show V m c main_arg1 _ = m (c.tc.loc main_arg1) _
  unfold V
  congr 1
  funext a
  apply Fin.ext
  match a with
  | ⟨0, _⟩ => show win0_1.index t 0 * 2048 + 1 * k.val = l.val; rw [e2]; omega
  | ⟨1, _⟩ => show win0_1.index t 1 * 1280 + 1 * q.val = r.val; rw [e3]; omega

theorem final (c : Dev nD) (i : S1024x2560.Idx) :
    Value.G2 m c i = prod (m ((c : Thread nD τ).loc main_arg0)) (m ((c : Thread nD τ).loc main_arg1)) i := by
  have hi0 : (i 0).val < 1024 := (i 0).isLt
  have hi1 : (i 1).val < 2560 := (i 1).isLt
  have hN : cfg0.N = 8 := N_0
  have hp : Value.pt2Of i < cfg0.N := by rw [hN]; show 4 * (2 * ((i 0).val / 1024 - 0) + 1 * ((i 1).val / 1280 - 0)) + 3 < 8; omega
  have ht : Value.pt2Of i % 4 = 3 := by show (4 * Value.run2Of i + 3) % 4 = 3; omega
  have hd : Value.pt2Of i / 4 = 2 * ((i 0).val / 1024) + (i 1).val / 1280 := by
    show (4 * (2 * ((i 0).val / 1024 - 0) + 1 * ((i 1).val / 1280 - 0)) + 3) / 4 = _; omega
  unfold Value.G2
  rw [dif_pos hp, ← Value.outsAt0_sweep m c (Value.pt2Of i) hp, out_eq m c ⟨_, hp⟩ ht, acc_eq m c ⟨_, hp⟩ ht]
  unfold prod part
  refine Fin.sum_mul_add_congr fun s k hl => ?_
  have hs := s.isLt
  refine congrArg₂ (· * ·) (x_at m c _ k _ ⟨s.val * 2048 + k.val, hl⟩ (i 0) ?_ ?_) (ct_at m c _ k _ ⟨s.val * 2048 + k.val, hl⟩ (i 1) ?_ ?_)
  · show s.val * 2048 + k.val = (4 * (Value.pt2Of i / 4) + s.val) % 4 * 2048 + k.val
    omega
  · show (i 0).val = (4 * (Value.pt2Of i / 4) + s.val) / 8 * 1024 + (i 0).val % 1024
    rw [hd]; omega
  · show s.val * 2048 + k.val = (4 * (Value.pt2Of i / 4) + s.val) % 4 * 2048 + k.val
    omega
  · show (i 1).val = (4 * (Value.pt2Of i / 4) + s.val) / 4 % 2 * 1280 + (i 1).val % 1280
    rw [hd]; omega

theorem ref (x0 : (⟨S8192x1024, .bf16⟩ : BufTy).Contents (Elt Ideal)) (x1 : (⟨S8192x2560, .bf16⟩ : BufTy).Contents (Elt Ideal)) (i : S1024x2560.Idx) :
    Cert.Reference5Ideal.Read.val_main_v6 (F := Ideal) x0 x1 i = prod x0 x1 i := by
  show Cert.Reference5Ideal.Read.val_main_v5 (F := Ideal) x0 x1 i = _
  rw [Cert.Reference5Ideal.Read.val_main_v5_apply, Cert.Reference5Ideal.Read.val_main_v4_apply]
  unfold prod
  refine Finset.sum_congr rfl fun k _ => ?_
  refine (mul_comm (G := EReal) _ _).trans (congrArg₂ (· * ·) ?_ ?_)
  · show x0 _ = x0 _
    refine congrArg x0 (funext fun a => Fin.ext ?_)
    match a with
    | ⟨0, _⟩ => rfl
    | ⟨1, _⟩ => rfl
  · show x1 _ = x1 _
    refine congrArg x1 (funext fun a => Fin.ext ?_)
    match a with
    | ⟨0, _⟩ => rfl
    | ⟨1, _⟩ => rfl

theorem algebraic : Cert.algebraic_Kernel5Ideal_Reference5Ideal
    (hKernel5Ideal := Cert.Kernel5Ideal.Gen.facts) (hReference5Ideal := Cert.Reference5Ideal.Gen.facts) := by
  intro m g m' g' _ hargs
  refine ⟨fun c => fun i => prod (m ((c : Thread nD τ).loc main_arg0)) (m ((c : Thread nD τ).loc main_arg1)) i, ?_, ?_⟩
  · exact (θ_run _ _ _).mono (fun r h c => ⟨(h c).1.trans (funext fun i => final m c i), (h c).2⟩) (Value.run (F := Ideal) m g)
  · refine (θ_run _ _ _).mono (fun r h c => ⟨(h c).1.trans ((Cert.Reference5Ideal.Read.val_main_v6_eq _ _).trans (funext fun i => ?_)), (h c).2⟩)
      (Cert.Reference5Ideal.Value.run (F := Ideal) m' g')
    obtain ⟨e0, e1⟩ := hargs c
    refine (ref _ _ i).trans ?_
    exact congrArg₂ (fun x y => prod x y i) e0 e1

/-- The reference's run leaves its arguments and its semaphores. -/
theorem ref_frame : Cert.quiescent_Reference5Ideal (hReference5Ideal := Cert.Reference5Ideal.Gen.facts) :=
  fun m ρ _ => (θ_run _ _ _).mono (fun r h => ⟨fun c => (h c).2, Idealize.ShloMosaic.sem_eq_zero_of_no_sems (by decide) r.2⟩)
      (Cert.Reference5Ideal.Value.run (F := Ideal) m ρ)

end Cert.Grad5

end
-- ==== Proof.Grad6.lean ====
/- One weight gradient: what the grid leaves in the result array is the product `xᵀ · ct`, summed over all the rows, and
   so is the reference's derivative of `w ↦ x · w`. -/
module

public import proofs.«01_k».proof.Defs
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit.Acc
public import Idealize.ShloMosaic.Lib.KernelVsHost
public import Idealize.ShloMosaic.Lib.Tactic

@[expose] public section

noncomputable section

namespace Cert.Grad6

open Cert.Kernel6Ideal Cert.Kernel6Ideal.Gen
open Idealize.ShloMosaic Idealize.ShloMosaic.TcCoe Idealize.SL.Sem Idealize.ShloMosaic.ValueIdx

theorem hz : (![0, 0] : Fin 2 → Nat) = fun _ => 0 := funext fun a => by fin_cases a <;> rfl

section Body

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 : Vec F S2048x1024 .bf16) (x1 : Vec F S2048x1024 .bf16) (xs : Vec F S1024x1024 .f32)

theorem sout_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]

theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x1024) hz, View.ld_unit_zero (S := S1024x1024) hz]

theorem sout_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]

end Body

/-! ## At the extended reals -/

theorem lhs0 (i : S1024x1024.Idx) (q : dot_S2048x1024_S2048x1024_S1024x1024_0_0_1_1_n_n.contr.Idx) :
    (dot_S2048x1024_S2048x1024_S1024x1024_0_0_1_1_n_n.lhsIdx i q 0).val = (q ⟨0, by decide⟩).val :=
  dot_S2048x1024_S2048x1024_S1024x1024_0_0_1_1_n_n.lhsIdx_val_of_single rfl i q

theorem lhs1 (i : S1024x1024.Idx) (q : dot_S2048x1024_S2048x1024_S1024x1024_0_0_1_1_n_n.contr.Idx) :
    (dot_S2048x1024_S2048x1024_S1024x1024_0_0_1_1_n_n.lhsIdx i q 1).val = (i 0).val := by
  unfold DotDims.lhsIdx
  rw [dif_neg (show ¬(1 : Fin S2048x1024.rank) ∈ dot_S2048x1024_S2048x1024_S1024x1024_0_0_1_1_n_n.lhsBatch by decide), dif_pos (show (1 : Fin S2048x1024.rank) ∈ dot_S2048x1024_S2048x1024_S1024x1024_0_0_1_1_n_n.lhsNonContracting by decide)]
  rfl

theorem rhs0 (i : S1024x1024.Idx) (q : dot_S2048x1024_S2048x1024_S1024x1024_0_0_1_1_n_n.contr.Idx) :
    (dot_S2048x1024_S2048x1024_S1024x1024_0_0_1_1_n_n.rhsIdx i q 0).val = (q ⟨0, by decide⟩).val :=
  dot_S2048x1024_S2048x1024_S1024x1024_0_0_1_1_n_n.rhsIdx_val_of_single rfl i q

theorem rhs1 (i : S1024x1024.Idx) (q : dot_S2048x1024_S2048x1024_S1024x1024_0_0_1_1_n_n.contr.Idx) :
    (dot_S2048x1024_S2048x1024_S1024x1024_0_0_1_1_n_n.rhsIdx i q 1).val = (i 1).val := by
  unfold DotDims.rhsIdx
  rw [dif_neg (show ¬(1 : Fin S2048x1024.rank) ∈ dot_S2048x1024_S2048x1024_S1024x1024_0_0_1_1_n_n.rhsBatch by decide), dif_pos (show (1 : Fin S2048x1024.rank) ∈ dot_S2048x1024_S2048x1024_S1024x1024_0_0_1_1_n_n.rhsNonContracting by decide)]
  rfl

/-- One block of rows' part of the product. -/
def part (x0 : Vec Ideal S2048x1024 .bf16) (x1 : Vec Ideal S2048x1024 .bf16) (j : S1024x1024.Idx) : EReal :=
  ∑ k : Fin 2048, x0 (ix2 k (j 0)) * x1 (ix2 k (j 1))

theorem pay2 (acc : Vec Ideal S1024x1024 .f32) (x0 : Vec Ideal S2048x1024 .bf16) (x1 : Vec Ideal S2048x1024 .bf16) (j : S1024x1024.Idx) :
    k0_pay2 (F := Ideal) acc x0 x1 j = acc j + part x0 x1 j := by
  unfold k0_pay2
  rw [shapeCast_self, matmul_zero_eq_dotGeneral]
  show acc j + Host.dotGeneral (F := Ideal) (φ₁ := .bf16) (φ₂ := .bf16) dot_S2048x1024_S2048x1024_S1024x1024_0_0_1_1_n_n none x0 x1 j = _
  simp only [Host.dotGeneral]
  rw [Ideal.dotGeneral_apply, ← Equiv.sum_comp (ValueIdx.contrEquiv1 dot_S2048x1024_S2048x1024_S1024x1024_0_0_1_1_n_n 2048 rfl rfl).symm]
  unfold part
  refine congrArg (acc j + ·) (Finset.sum_congr rfl fun k _ => ?_)
  have hk := ValueIdx.contrEquiv1_symm_val dot_S2048x1024_S2048x1024_S1024x1024_0_0_1_1_n_n 2048 rfl rfl k
  have el : dot_S2048x1024_S2048x1024_S1024x1024_0_0_1_1_n_n.lhsIdx j ((ValueIdx.contrEquiv1 dot_S2048x1024_S2048x1024_S1024x1024_0_0_1_1_n_n 2048 rfl rfl).symm k) = ix2 k (j 0) := funext fun a => Fin.ext (by
    match a with
    | ⟨0, _⟩ => exact (lhs0 _ _).trans hk
    | ⟨1, _⟩ => exact lhs1 _ _)
  have er : dot_S2048x1024_S2048x1024_S1024x1024_0_0_1_1_n_n.rhsIdx j ((ValueIdx.contrEquiv1 dot_S2048x1024_S2048x1024_S1024x1024_0_0_1_1_n_n 2048 rfl rfl).symm k) = ix2 k (j 1) := funext fun a => Fin.ext (by
    match a with
    | ⟨0, _⟩ => exact (rhs0 _ _).trans hk
    | ⟨1, _⟩ => exact rhs1 _ _)
  rw [el, er]
  rfl

theorem pay1 (j : S1024x1024.Idx) : k0_pay1 (F := Ideal) j = (0 : EReal) := by
  unfold k0_pay1
  rw [shapeCast_self]
  exact Ideal.ofBits_zero_f32

theorem pay3 (v : Vec Ideal S1024x1024 .f32) (j : S1024x1024.Idx) : k0_pay3 (F := Ideal) v j = v j := rfl

variable (m : (ℓ : Loc nD τ sig) → Buf (Elt Ideal) ℓ)

/-- What the carried scratch holds at the end of a run of points: the run's parts, added up. -/
theorem acc_eq (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  have e := Pipeline.eq_sum_fin_of_reset_step_apply_of_flush (M := EReal) (fun n h => (outsAt0 m c n h).2) 4 (fun _ => (0 : EReal))
    (fun t j => part (iblk m c 0 t) (iblk m c 1 t) j)
    (fun t h j => by
      rw [outsAt0_A m c t h (by omega)]
      dsimp only
      rw [sout_A, pay2, pay1])
    (fun t h j => by
      by_cases h1 : t.val % 4 = 3
      · rw [outsAt0_C m c t h h1]
        dsimp only
        rw [sout_C, pay2]
      · rw [outsAt0_B m c t h h1]
        dsimp only
        rw [sout_B, pay2])
    t ht j
  rw [zero_add] at e
  exact e

/-- What is written back there: the same, in the result's type. -/
theorem out_eq (c : Dev nD) (t : Fin cfg0.N) (ht : t.val % 4 = 3) (j : S1024x1024.Idx) :
    (outsAt0 m c t.val t.isLt).1 j = (outsAt0 m c t.val t.isLt).2 j := by
  rw [outsAt0_C m c t (by omega) ht]
  dsimp only
  rw [out_C, sout_C]
  rfl

theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = t.val / 4 % 1 :=
  (by decide +kernel : ∀ t : Fin grid0.N, _)

/-- The product that the result is. -/
def prod (x : S8192x1024.Idx → EReal) (ct : S8192x1024.Idx → EReal) (i : S1024x1024.Idx) : EReal :=
  ∑ l : Fin 8192, x (ix2 l (i 0)) * ct (ix2 l (i 1))

theorem x_at (c : Dev nD) (t : Fin cfg0.N) (k : Fin 2048) (p : Fin 1024) (l : Fin 8192) (r : Fin 1024)
    (hl : l.val = t.val % 4 * 2048 + k.val) (hr : r.val = t.val / 4 * 1024 + p.val) :
    iblk m c 0 t (ix2 k p) = m ((c : Thread nD τ).loc main_arg0) (ix2 l r) := by
  obtain ⟨e0, e1, e2, e3⟩ := idx t
  unfold iblk
  rw [View.read_apply]
  show V m c main_arg0 _ = m (c.tc.loc main_arg0) _
  unfold V
  congr 1
  funext a
  apply Fin.ext
  match a with
  | ⟨0, _⟩ => show win0_0.index t 0 * 2048 + 1 * k.val = l.val; rw [e0]; omega
  | ⟨1, _⟩ => show win0_0.index t 1 * 1024 + 1 * p.val = r.val; rw [e1]; omega

theorem ct_at (c : Dev nD) (t : Fin cfg0.N) (k : Fin 2048) (q : Fin 1024) (l : Fin 8192) (r : Fin 1024)
    (hl : l.val = t.val % 4 * 2048 + k.val) (hr : r.val = t.val / 4 % 1 * 1024 + q.val) :
    iblk m c 1 t (ix2 k q) = m ((c : Thread nD τ).loc main_arg1) (ix2 l r) := by
  obtain ⟨e0, e1, e2, e3⟩ := idx t
  unfold iblk
  rw [View.read_apply]
  show V m c main_arg1 _ = m (c.tc.loc main_arg1) _
  unfold V
  congr 1
  funext a
  apply Fin.ext
  match a with
  | ⟨0, _⟩ => show win0_1.index t 0 * 2048 + 1 * k.val = l.val; rw [e2]; omega
  | ⟨1, _⟩ => show win0_1.index t 1 * 1024 + 1 * q.val = r.val; rw [e3]; omega

theorem final (c : Dev nD) (i : S1024x1024.Idx) :
    Value.G2 m c i = prod (m ((c : Thread nD τ).loc main_arg0)) (m ((c : Thread nD τ).loc main_arg1)) i := by
  have hi0 : (i 0).val < 1024 := (i 0).isLt
  have hi1 : (i 1).val < 1024 := (i 1).isLt
  have hN : cfg0.N = 4 := N_0
  have hp : Value.pt2Of i < cfg0.N := by rw [hN]; show 4 * (1 * ((i 0).val / 1024 - 0) + 1 * ((i 1).val / 1024 - 0)) + 3 < 4; omega
  have ht : Value.pt2Of i % 4 = 3 := by show (4 * Value.run2Of i + 3) % 4 = 3; omega
  have hd : Value.pt2Of i / 4 = 1 * ((i 0).val / 1024) + (i 1).val / 1024 := by
    show (4 * (1 * ((i 0).val / 1024 - 0) + 1 * ((i 1).val / 1024 - 0)) + 3) / 4 = _; omega
  unfold Value.G2
  rw [dif_pos hp, ← Value.outsAt0_sweep m c (Value.pt2Of i) hp, out_eq m c ⟨_, hp⟩ ht, acc_eq m c ⟨_, hp⟩ ht]
  unfold prod part
  refine Fin.sum_mul_add_congr fun s k hl => ?_
  have hs := s.isLt
  refine congrArg₂ (· * ·) (x_at m c _ k _ ⟨s.val * 2048 + k.val, hl⟩ (i 0) ?_ ?_) (ct_at m c _ k _ ⟨s.val * 2048 + k.val, hl⟩ (i 1) ?_ ?_)
  · show s.val * 2048 + k.val = (4 * (Value.pt2Of i / 4) + s.val) % 4 * 2048 + k.val
    omega
  · show (i 0).val = (4 * (Value.pt2Of i / 4) + s.val) / 4 * 1024 + (i 0).val % 1024
    rw [hd]; omega
  · show s.val * 2048 + k.val = (4 * (Value.pt2Of i / 4) + s.val) % 4 * 2048 + k.val
    omega
  · show (i 1).val = (4 * (Value.pt2Of i / 4) + s.val) / 4 % 1 * 1024 + (i 1).val % 1024
    rw [hd]; omega

theorem ref (x0 : (⟨S8192x1024, .bf16⟩ : BufTy).Contents (Elt Ideal)) (x1 : (⟨S8192x1024, .bf16⟩ : BufTy).Contents (Elt Ideal)) (i : S1024x1024.Idx) :
    Cert.Reference6Ideal.Read.val_main_v6 (F := Ideal) x0 x1 i = prod x0 x1 i := by
  show Cert.Reference6Ideal.Read.val_main_v5 (F := Ideal) x0 x1 i = _
  rw [Cert.Reference6Ideal.Read.val_main_v5_apply, Cert.Reference6Ideal.Read.val_main_v4_apply]
  unfold prod
  refine Finset.sum_congr rfl fun k _ => ?_
  refine (mul_comm (G := EReal) _ _).trans (congrArg₂ (· * ·) ?_ ?_)
  · show x0 _ = x0 _
    refine congrArg x0 (funext fun a => Fin.ext ?_)
    match a with
    | ⟨0, _⟩ => rfl
    | ⟨1, _⟩ => rfl
  · show x1 _ = x1 _
    refine congrArg x1 (funext fun a => Fin.ext ?_)
    match a with
    | ⟨0, _⟩ => rfl
    | ⟨1, _⟩ => rfl

theorem algebraic : Cert.algebraic_Kernel6Ideal_Reference6Ideal
    (hKernel6Ideal := Cert.Kernel6Ideal.Gen.facts) (hReference6Ideal := Cert.Reference6Ideal.Gen.facts) := by
  intro m g m' g' _ hargs
  refine ⟨fun c => fun i => prod (m ((c : Thread nD τ).loc main_arg0)) (m ((c : Thread nD τ).loc main_arg1)) i, ?_, ?_⟩
  · exact (θ_run _ _ _).mono (fun r h c => ⟨(h c).1.trans (funext fun i => final m c i), (h c).2⟩) (Value.run (F := Ideal) m g)
  · refine (θ_run _ _ _).mono (fun r h c => ⟨(h c).1.trans ((Cert.Reference6Ideal.Read.val_main_v6_eq _ _).trans (funext fun i => ?_)), (h c).2⟩)
      (Cert.Reference6Ideal.Value.run (F := Ideal) m' g')
    obtain ⟨e0, e1⟩ := hargs c
    refine (ref _ _ i).trans ?_
    exact congrArg₂ (fun x y => prod x y i) e0 e1

/-- The reference's run leaves its arguments and its semaphores. -/
theorem ref_frame : Cert.quiescent_Reference6Ideal (hReference6Ideal := Cert.Reference6Ideal.Gen.facts) :=
  fun m ρ _ => (θ_run _ _ _).mono (fun r h => ⟨fun c => (h c).2, Idealize.ShloMosaic.sem_eq_zero_of_no_sems (by decide) r.2⟩)
      (Cert.Reference6Ideal.Value.run (F := Ideal) m ρ)

end Cert.Grad6

end
-- ==== Proof.Grad7.lean ====
/- One weight gradient: what the grid leaves in the result array is the product `xᵀ · ct`, summed over all the rows, and
   so is the reference's derivative of `w ↦ x · w`. -/
module

public import proofs.«01_k».proof.Defs
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit.Acc
public import Idealize.ShloMosaic.Lib.KernelVsHost
public import Idealize.ShloMosaic.Lib.Tactic

@[expose] public section

noncomputable section

namespace Cert.Grad7

open Cert.Kernel7Ideal Cert.Kernel7Ideal.Gen
open Idealize.ShloMosaic Idealize.ShloMosaic.TcCoe Idealize.SL.Sem Idealize.ShloMosaic.ValueIdx

theorem hz : (![0, 0] : Fin 2 → Nat) = fun _ => 0 := funext fun a => by fin_cases a <;> rfl

section Body

variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 : Vec F S2048x1024 .bf16) (x1 : Vec F S2048x1024 .bf16) (xs : Vec F S1024x1024 .f32)

theorem sout_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]

theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S2048x1024) hz, View.ld_unit_zero (S := S1024x1024) hz]

theorem sout_C (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem out_C (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]

end Body

/-! ## At the extended reals -/

theorem lhs0 (i : S1024x1024.Idx) (q : dot_S2048x1024_S2048x1024_S1024x1024_0_0_1_1_n_n.contr.Idx) :
    (dot_S2048x1024_S2048x1024_S1024x1024_0_0_1_1_n_n.lhsIdx i q 0).val = (q ⟨0, by decide⟩).val :=
  dot_S2048x1024_S2048x1024_S1024x1024_0_0_1_1_n_n.lhsIdx_val_of_single rfl i q

theorem lhs1 (i : S1024x1024.Idx) (q : dot_S2048x1024_S2048x1024_S1024x1024_0_0_1_1_n_n.contr.Idx) :
    (dot_S2048x1024_S2048x1024_S1024x1024_0_0_1_1_n_n.lhsIdx i q 1).val = (i 0).val := by
  unfold DotDims.lhsIdx
  rw [dif_neg (show ¬(1 : Fin S2048x1024.rank) ∈ dot_S2048x1024_S2048x1024_S1024x1024_0_0_1_1_n_n.lhsBatch by decide), dif_pos (show (1 : Fin S2048x1024.rank) ∈ dot_S2048x1024_S2048x1024_S1024x1024_0_0_1_1_n_n.lhsNonContracting by decide)]
  rfl

theorem rhs0 (i : S1024x1024.Idx) (q : dot_S2048x1024_S2048x1024_S1024x1024_0_0_1_1_n_n.contr.Idx) :
    (dot_S2048x1024_S2048x1024_S1024x1024_0_0_1_1_n_n.rhsIdx i q 0).val = (q ⟨0, by decide⟩).val :=
  dot_S2048x1024_S2048x1024_S1024x1024_0_0_1_1_n_n.rhsIdx_val_of_single rfl i q

theorem rhs1 (i : S1024x1024.Idx) (q : dot_S2048x1024_S2048x1024_S1024x1024_0_0_1_1_n_n.contr.Idx) :
    (dot_S2048x1024_S2048x1024_S1024x1024_0_0_1_1_n_n.rhsIdx i q 1).val = (i 1).val := by
  unfold DotDims.rhsIdx
  rw [dif_neg (show ¬(1 : Fin S2048x1024.rank) ∈ dot_S2048x1024_S2048x1024_S1024x1024_0_0_1_1_n_n.rhsBatch by decide), dif_pos (show (1 : Fin S2048x1024.rank) ∈ dot_S2048x1024_S2048x1024_S1024x1024_0_0_1_1_n_n.rhsNonContracting by decide)]
  rfl

/-- One block of rows' part of the product. -/
def part (x0 : Vec Ideal S2048x1024 .bf16) (x1 : Vec Ideal S2048x1024 .bf16) (j : S1024x1024.Idx) : EReal :=
  ∑ k : Fin 2048, x0 (ix2 k (j 0)) * x1 (ix2 k (j 1))

theorem pay2 (acc : Vec Ideal S1024x1024 .f32) (x0 : Vec Ideal S2048x1024 .bf16) (x1 : Vec Ideal S2048x1024 .bf16) (j : S1024x1024.Idx) :
    k0_pay2 (F := Ideal) acc x0 x1 j = acc j + part x0 x1 j := by
  unfold k0_pay2
  rw [shapeCast_self, matmul_zero_eq_dotGeneral]
  show acc j + Host.dotGeneral (F := Ideal) (φ₁ := .bf16) (φ₂ := .bf16) dot_S2048x1024_S2048x1024_S1024x1024_0_0_1_1_n_n none x0 x1 j = _
  simp only [Host.dotGeneral]
  rw [Ideal.dotGeneral_apply, ← Equiv.sum_comp (ValueIdx.contrEquiv1 dot_S2048x1024_S2048x1024_S1024x1024_0_0_1_1_n_n 2048 rfl rfl).symm]
  unfold part
  refine congrArg (acc j + ·) (Finset.sum_congr rfl fun k _ => ?_)
  have hk := ValueIdx.contrEquiv1_symm_val dot_S2048x1024_S2048x1024_S1024x1024_0_0_1_1_n_n 2048 rfl rfl k
  have el : dot_S2048x1024_S2048x1024_S1024x1024_0_0_1_1_n_n.lhsIdx j ((ValueIdx.contrEquiv1 dot_S2048x1024_S2048x1024_S1024x1024_0_0_1_1_n_n 2048 rfl rfl).symm k) = ix2 k (j 0) := funext fun a => Fin.ext (by
    match a with
    | ⟨0, _⟩ => exact (lhs0 _ _).trans hk
    | ⟨1, _⟩ => exact lhs1 _ _)
  have er : dot_S2048x1024_S2048x1024_S1024x1024_0_0_1_1_n_n.rhsIdx j ((ValueIdx.contrEquiv1 dot_S2048x1024_S2048x1024_S1024x1024_0_0_1_1_n_n 2048 rfl rfl).symm k) = ix2 k (j 1) := funext fun a => Fin.ext (by
    match a with
    | ⟨0, _⟩ => exact (rhs0 _ _).trans hk
    | ⟨1, _⟩ => exact rhs1 _ _)
  rw [el, er]
  rfl

theorem pay1 (j : S1024x1024.Idx) : k0_pay1 (F := Ideal) j = (0 : EReal) := by
  unfold k0_pay1
  rw [shapeCast_self]
  exact Ideal.ofBits_zero_f32

theorem pay3 (v : Vec Ideal S1024x1024 .f32) (j : S1024x1024.Idx) : k0_pay3 (F := Ideal) v j = v j := rfl

variable (m : (ℓ : Loc nD τ sig) → Buf (Elt Ideal) ℓ)

/-- What the carried scratch holds at the end of a run of points: the run's parts, added up. -/
theorem acc_eq (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  have e := Pipeline.eq_sum_fin_of_reset_step_apply_of_flush (M := EReal) (fun n h => (outsAt0 m c n h).2) 4 (fun _ => (0 : EReal))
    (fun t j => part (iblk m c 0 t) (iblk m c 1 t) j)
    (fun t h j => by
      rw [outsAt0_A m c t h (by omega)]
      dsimp only
      rw [sout_A, pay2, pay1])
    (fun t h j => by
      by_cases h1 : t.val % 4 = 3
      · rw [outsAt0_C m c t h h1]
        dsimp only
        rw [sout_C, pay2]
      · rw [outsAt0_B m c t h h1]
        dsimp only
        rw [sout_B, pay2])
    t ht j
  rw [zero_add] at e
  exact e

/-- What is written back there: the same, in the result's type. -/
theorem out_eq (c : Dev nD) (t : Fin cfg0.N) (ht : t.val % 4 = 3) (j : S1024x1024.Idx) :
    (outsAt0 m c t.val t.isLt).1 j = (outsAt0 m c t.val t.isLt).2 j := by
  rw [outsAt0_C m c t (by omega) ht]
  dsimp only
  rw [out_C, sout_C]
  rfl

theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = t.val / 4 % 1 :=
  (by decide +kernel : ∀ t : Fin grid0.N, _)

/-- The product that the result is. -/
def prod (x : S8192x1024.Idx → EReal) (ct : S8192x1024.Idx → EReal) (i : S1024x1024.Idx) : EReal :=
  ∑ l : Fin 8192, x (ix2 l (i 0)) * ct (ix2 l (i 1))

theorem x_at (c : Dev nD) (t : Fin cfg0.N) (k : Fin 2048) (p : Fin 1024) (l : Fin 8192) (r : Fin 1024)
    (hl : l.val = t.val % 4 * 2048 + k.val) (hr : r.val = t.val / 4 * 1024 + p.val) :
    iblk m c 0 t (ix2 k p) = m ((c : Thread nD τ).loc main_arg0) (ix2 l r) := by
  obtain ⟨e0, e1, e2, e3⟩ := idx t
  unfold iblk
  rw [View.read_apply]
  show V m c main_arg0 _ = m (c.tc.loc main_arg0) _
  unfold V
  congr 1
  funext a
  apply Fin.ext
  match a with
  | ⟨0, _⟩ => show win0_0.index t 0 * 2048 + 1 * k.val = l.val; rw [e0]; omega
  | ⟨1, _⟩ => show win0_0.index t 1 * 1024 + 1 * p.val = r.val; rw [e1]; omega

theorem ct_at (c : Dev nD) (t : Fin cfg0.N) (k : Fin 2048) (q : Fin 1024) (l : Fin 8192) (r : Fin 1024)
    (hl : l.val = t.val % 4 * 2048 + k.val) (hr : r.val = t.val / 4 % 1 * 1024 + q.val) :
    iblk m c 1 t (ix2 k q) = m ((c : Thread nD τ).loc main_arg1) (ix2 l r) := by
  obtain ⟨e0, e1, e2, e3⟩ := idx t
  unfold iblk
  rw [View.read_apply]
  show V m c main_arg1 _ = m (c.tc.loc main_arg1) _
  unfold V
  congr 1
  funext a
  apply Fin.ext
  match a with
  | ⟨0, _⟩ => show win0_1.index t 0 * 2048 + 1 * k.val = l.val; rw [e2]; omega
  | ⟨1, _⟩ => show win0_1.index t 1 * 1024 + 1 * q.val = r.val; rw [e3]; omega

theorem final (c : Dev nD) (i : S1024x1024.Idx) :
    Value.G2 m c i = prod (m ((c : Thread nD τ).loc main_arg0)) (m ((c : Thread nD τ).loc main_arg1)) i := by
  have hi0 : (i 0).val < 1024 := (i 0).isLt
  have hi1 : (i 1).val < 1024 := (i 1).isLt
  have hN : cfg0.N = 4 := N_0
  have hp : Value.pt2Of i < cfg0.N := by rw [hN]; show 4 * (1 * ((i 0).val / 1024 - 0) + 1 * ((i 1).val / 1024 - 0)) + 3 < 4; omega
  have ht : Value.pt2Of i % 4 = 3 := by show (4 * Value.run2Of i + 3) % 4 = 3; omega
  have hd : Value.pt2Of i / 4 = 1 * ((i 0).val / 1024) + (i 1).val / 1024 := by
    show (4 * (1 * ((i 0).val / 1024 - 0) + 1 * ((i 1).val / 1024 - 0)) + 3) / 4 = _; omega
  unfold Value.G2
  rw [dif_pos hp, ← Value.outsAt0_sweep m c (Value.pt2Of i) hp, out_eq m c ⟨_, hp⟩ ht, acc_eq m c ⟨_, hp⟩ ht]
  unfold prod part
  refine Fin.sum_mul_add_congr fun s k hl => ?_
  have hs := s.isLt
  refine congrArg₂ (· * ·) (x_at m c _ k _ ⟨s.val * 2048 + k.val, hl⟩ (i 0) ?_ ?_) (ct_at m c _ k _ ⟨s.val * 2048 + k.val, hl⟩ (i 1) ?_ ?_)
  · show s.val * 2048 + k.val = (4 * (Value.pt2Of i / 4) + s.val) % 4 * 2048 + k.val
    omega
  · show (i 0).val = (4 * (Value.pt2Of i / 4) + s.val) / 4 * 1024 + (i 0).val % 1024
    rw [hd]; omega
  · show s.val * 2048 + k.val = (4 * (Value.pt2Of i / 4) + s.val) % 4 * 2048 + k.val
    omega
  · show (i 1).val = (4 * (Value.pt2Of i / 4) + s.val) / 4 % 1 * 1024 + (i 1).val % 1024
    rw [hd]; omega

theorem ref (x0 : (⟨S8192x1024, .bf16⟩ : BufTy).Contents (Elt Ideal)) (x1 : (⟨S8192x1024, .bf16⟩ : BufTy).Contents (Elt Ideal)) (i : S1024x1024.Idx) :
    Cert.Reference7Ideal.Read.val_main_v6 (F := Ideal) x0 x1 i = prod x0 x1 i := by
  show Cert.Reference7Ideal.Read.val_main_v5 (F := Ideal) x0 x1 i = _
  rw [Cert.Reference7Ideal.Read.val_main_v5_apply, Cert.Reference7Ideal.Read.val_main_v4_apply]
  unfold prod
  refine Finset.sum_congr rfl fun k _ => ?_
  refine (mul_comm (G := EReal) _ _).trans (congrArg₂ (· * ·) ?_ ?_)
  · show x0 _ = x0 _
    refine congrArg x0 (funext fun a => Fin.ext ?_)
    match a with
    | ⟨0, _⟩ => rfl
    | ⟨1, _⟩ => rfl
  · show x1 _ = x1 _
    refine congrArg x1 (funext fun a => Fin.ext ?_)
    match a with
    | ⟨0, _⟩ => rfl
    | ⟨1, _⟩ => rfl

theorem algebraic : Cert.algebraic_Kernel7Ideal_Reference7Ideal
    (hKernel7Ideal := Cert.Kernel7Ideal.Gen.facts) (hReference7Ideal := Cert.Reference7Ideal.Gen.facts) := by
  intro m g m' g' _ hargs
  refine ⟨fun c => fun i => prod (m ((c : Thread nD τ).loc main_arg0)) (m ((c : Thread nD τ).loc main_arg1)) i, ?_, ?_⟩
  · exact (θ_run _ _ _).mono (fun r h c => ⟨(h c).1.trans (funext fun i => final m c i), (h c).2⟩) (Value.run (F := Ideal) m g)
  · refine (θ_run _ _ _).mono (fun r h c => ⟨(h c).1.trans ((Cert.Reference7Ideal.Read.val_main_v6_eq _ _).trans (funext fun i => ?_)), (h c).2⟩)
      (Cert.Reference7Ideal.Value.run (F := Ideal) m' g')
    obtain ⟨e0, e1⟩ := hargs c
    refine (ref _ _ i).trans ?_
    exact congrArg₂ (fun x y => prod x y i) e0 e1

/-- The reference's run leaves its arguments and its semaphores. -/
theorem ref_frame : Cert.quiescent_Reference7Ideal (hReference7Ideal := Cert.Reference7Ideal.Gen.facts) :=
  fun m ρ _ => (θ_run _ _ _).mono (fun r h => ⟨fun c => (h c).2, Idealize.ShloMosaic.sem_eq_zero_of_no_sems (by decide) r.2⟩)
      (Cert.Reference7Ideal.Value.run (F := Ideal) m ρ)

end Cert.Grad7

end
-- ==== Proof.Adam9.lean ====
/- The update of one weight's shard by the optimiser: what the grid leaves in the four result arrays — the gradient put
   together from its two halves, the step, and the two new moments — is what the reference computes. -/
module

public import proofs.«01_k».proof.Defs
public import proofs.«01_k».proof.Proof.Gen.Kernel9
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.Value
public import Idealize.ShloMosaic.Lib.KernelVsHost
public import Idealize.ShloMosaic.Lib.Tactic

@[expose] public section

noncomputable section

namespace Cert.Adam9Bits

open Cert.Kernel9 Cert.Kernel9.Gen
open Idealize.ShloMosaic Idealize.ShloMosaic.TcCoe

/-- A block number that is a tile's number or zero keeps the block inside the half. -/
theorem sel_leBits (b : BitVec 1) (n : Fin 4) : (Scalar.select b (BitVec.ofNat 32 n.val) 0#32).toNat ≤ 3 := by
  unfold Scalar.select
  split
  · revert n; decide
  · decide

theorem sel_le'Bits (b : BitVec 1) (n : Fin 4) : (Scalar.select b 0#32 (BitVec.ofNat 32 n.val)).toNat ≤ 3 := by
  unfold Scalar.select
  split
  · decide
  · revert n; decide

/-- Whatever the word of the device's place is, every block fetched is inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · match a with
    | ⟨0, _⟩ =>
      have h : cc0_transform_0 Facts₀.inb_S1_S1_0 Facts₀.numel1_S1 (tbl m) i 0 ≤ 3 := sel_leBits _ (i 1)
      show (cc0_transform_0 Facts₀.inb_S1_S1_0 Facts₀.numel1_S1 (tbl m) i 0 + 1) * 128 ≤ 512
      omega
    | ⟨1, _⟩ => exact (by decide : (0 + 1) * 640 ≤ 640)
  · match a with
    | ⟨0, _⟩ =>
      have h : cc0_transform_1 Facts₀.inb_S1_S1_0 Facts₀.numel1_S1 (tbl m) i 0 ≤ 3 := sel_le'Bits _ (i 1)
      show (cc0_transform_1 Facts₀.inb_S1_S1_0 Facts₀.numel1_S1 (tbl m) i 0 + 1) * 128 ≤ 512
      omega
    | ⟨1, _⟩ => exact (by decide : (0 + 1) * 640 ≤ 640)

end Cert.Adam9Bits

namespace Cert.Adam9

open Cert.Kernel9Ideal Cert.Kernel9Ideal.Gen
open Idealize.ShloMosaic Idealize.ShloMosaic.TcCoe

/-- A block number that is a tile's number or zero keeps the block inside the half. -/
theorem sel_le (b : BitVec 1) (n : Fin 4) : (Scalar.select b (BitVec.ofNat 32 n.val) 0#32).toNat ≤ 3 := by
  unfold Scalar.select
  split
  · revert n; decide
  · decide

theorem sel_le' (b : BitVec 1) (n : Fin 4) : (Scalar.select b 0#32 (BitVec.ofNat 32 n.val)).toNat ≤ 3 := by
  unfold Scalar.select
  split
  · decide
  · revert n; decide

/-- Whatever the word of the device's place is, every block fetched is inside its array. -/
theorem ok {F : FTy → Type} [FloatOps F] (m : (ℓ : Loc nD τ sig) → Buf (Elt F) ℓ) : Ok m := by
  refine ⟨fun i => ⟨fun a => ?_, Or.inl rfl⟩, fun i => ⟨fun a => ?_, Or.inl rfl⟩⟩
  · match a with
    | ⟨0, _⟩ =>
      have h : cc0_transform_0 Facts₀.inb_S1_S1_0 Facts₀.numel1_S1 (tbl m) i 0 ≤ 3 := sel_le _ (i 1)
      show (cc0_transform_0 Facts₀.inb_S1_S1_0 Facts₀.numel1_S1 (tbl m) i 0 + 1) * 128 ≤ 512
      omega
    | ⟨1, _⟩ => exact (by decide : (0 + 1) * 640 ≤ 640)
  · match a with
    | ⟨0, _⟩ =>
      have h : cc0_transform_1 Facts₀.inb_S1_S1_0 Facts₀.numel1_S1 (tbl m) i 0 ≤ 3 := sel_le' _ (i 1)
      show (cc0_transform_1 Facts₀.inb_S1_S1_0 Facts₀.numel1_S1 (tbl m) i 0 + 1) * 128 ≤ 512
      omega
    | ⟨1, _⟩ => exact (by decide : (0 + 1) * 640 ≤ 640)

end Cert.Adam9

namespace Cert.Adam9

open Cert.Kernel9Ideal Cert.Kernel9Ideal.Gen
open Idealize.ShloMosaic Idealize.ShloMosaic.TcCoe Idealize.SL.Sem Idealize.ShloMosaic.ValueIdx

theorem hz : (![0, 0] : Fin 2 → Nat) = fun _ => 0 := funext fun a => by fin_cases a <;> rfl

section Body

variable {F : FTy → Type} [FloatOps F]
variable (c : Dev nD) (i : grid0.Coords) (a3 : Memref sig .tc .vmem S128x640 .f32) (h3 : a3.IsWhole) (a4 : Memref sig .tc .vmem S128x640 .f32) (h4 : a4.IsWhole) (a5 : Memref sig .tc .vmem S128x640 .f32) (h5 : a5.IsWhole) (a6 : Memref sig .tc .vmem S128x640 .f32) (h6 : a6.IsWhole) (a7 : Memref sig .tc .vmem S128x640 .f32) (h7 : a7.IsWhole) (a8 : Memref sig .tc .vmem S128x640 .f32) (h8 : a8.IsWhole) (a9 : Memref sig .tc .vmem S128x640 .f32) (h9 : a9.IsWhole) (a10 : Memref sig .tc .vmem S128x640 .f32) (h10 : a10.IsWhole) (a11 : Memref sig .tc .vmem S128x640 .f32) (h11 : a11.IsWhole)
  (x0 x1 x2 x3 x4 : Vec F S128x640 .f32) (xt : TbBuf0 (F := F) c tbM0_0)

/-- The word of the device's place. -/
def word : Elt F .i32 := xt (ix1 0)

theorem s1 (p q : S1.Idx) : p = q := funext fun a => by
  match a with
  | ⟨0, _⟩ => exact Subsingleton.elim (α := Fin 1) _ _

theorem ld_word (j : S1.Idx) :
    View.ld (View.read (Elt F) (View.whole main_arg0) xt) (Rect.unit (s := S1) ![0] ![1] Facts₀.inb_S1_S1_0) j = word c xt :=
  congrArg xt (s1 _ _)

/-- What one point leaves of the gradient. -/
theorem out_5 : out0_A_5 c i a3 h3 a4 h4 a5 h5 a6 h6 a7 h7 a8 h8 a9 h9 a10 h10 a11 h11 x0 x1 x2 x3 x4 xt = k0_pay1 i (word c xt) x0 x1 := by
  unfold out0_A_5
  rw [View.read_writes_eq_canon _ _ _ (cover0_A_5 c i a3 h3 a4 h4 a5 h5 a6 h6 a7 h7 a8 h8 a9 h9 a10 h10 a11 h11 x0 x1 x2 x3 x4 xt)]
  unfold kernelRun0_A
  dsimp only
  sl_unfold_words
  rw [View.canon_unit_zero hz]
  simp only [View.readAt_eq_ld, h3.read_unread, h4.read_unread, h5.read_unread, h6.read_unread, h7.read_unread, View.ld_unit_zero (S := S128x640) hz]
  exact congrArg (fun z => k0_pay1 i z x0 x1) (ld_word c xt _)

/-- What one point leaves of the step. -/
theorem out_6 : out0_A_6 c i a3 h3 a4 h4 a5 h5 a6 h6 a7 h7 a8 h8 a9 h9 a10 h10 a11 h11 x0 x1 x2 x3 x4 xt = k0_pay4 i (word c xt) x0 x1 x2 x3 x4 := by
  unfold out0_A_6
  rw [View.read_writes_eq_canon _ _ _ (cover0_A_6 c i a3 h3 a4 h4 a5 h5 a6 h6 a7 h7 a8 h8 a9 h9 a10 h10 a11 h11 x0 x1 x2 x3 x4 xt)]
  unfold kernelRun0_A
  dsimp only
  sl_unfold_words
  rw [View.canon_unit_zero hz]
  simp only [View.readAt_eq_ld, h3.read_unread, h4.read_unread, h5.read_unread, h6.read_unread, h7.read_unread, View.ld_unit_zero (S := S128x640) hz]
  exact congrArg (fun z => k0_pay4 i z x0 x1 x2 x3 x4) (ld_word c xt _)

/-- What one point leaves of the new first moment. -/
theorem out_7 : out0_A_7 c i a3 h3 a4 h4 a5 h5 a6 h6 a7 h7 a8 h8 a9 h9 a10 h10 a11 h11 x0 x1 x2 x3 x4 xt = k0_pay2 i (word c xt) x0 x1 x3 := by
  unfold out0_A_7
  rw [View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  rw [View.canon_unit_zero hz]
  simp only [View.readAt_eq_ld, h3.read_unread, h4.read_unread, h5.read_unread, h6.read_unread, h7.read_unread, View.ld_unit_zero (S := S128x640) hz]
  exact congrArg (fun z => k0_pay2 i z x0 x1 x3) (ld_word c xt _)

/-- What one point leaves of the new second moment. -/
theorem out_8 : out0_A_8 c i a3 h3 a4 h4 a5 h5 a6 h6 a7 h7 a8 h8 a9 h9 a10 h10 a11 h11 x0 x1 x2 x3 x4 xt = k0_pay3 i (word c xt) x0 x1 x4 := by
  unfold out0_A_8
  rw [View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  rw [View.canon_unit_zero hz]
  simp only [View.readAt_eq_ld, h3.read_unread, h4.read_unread, h5.read_unread, h6.read_unread, h7.read_unread, View.ld_unit_zero (S := S128x640) hz]
  exact congrArg (fun z => k0_pay3 i z x0 x1 x4) (ld_word c xt _)

end Body

/-! ## Where the blocks lie -/

theorem co0 : ∀ t : Fin grid0.N, (grid0.coords t 0).val = t.val / 4 := by decide +kernel
theorem co1 : ∀ t : Fin grid0.N, (grid0.coords t 1).val = t.val % 4 := by decide +kernel

variable (m : (ℓ : Loc nD τ sig) → Buf (Elt Ideal) ℓ)

/-- Whether the half that a point updates is the device's own. -/
def own (c : Dev nD) (t : Fin grid0.N) : BitVec 1 :=
  Scalar.cmpi .eq (BitVec.ofNat 32 (grid0.coords t 0).val) (word (F := Ideal) c (tbl m 0))

theorem tr0 (c : Dev nD) (t : Fin grid0.N) : cc0_transform_0 Facts₀.inb_S1_S1_0 Facts₀.numel1_S1 (tbl m) (grid0.coords t) 0
    = (Scalar.select (own m c t) (BitVec.ofNat 32 (grid0.coords t 1).val) 0#32).toNat := by
  have e : (tbl m).at 0 (Rect.unit (s := S1) ![0] S1.size Facts₀.inb_S1_S1_0) Facts₀.numel1_S1 = word (F := Ideal) c (tbl m 0) :=
    congrArg (tbl m 0) (s1 _ _)
  unfold own
  rw [← e]
  rfl

theorem tr1 (c : Dev nD) (t : Fin grid0.N) : cc0_transform_1 Facts₀.inb_S1_S1_0 Facts₀.numel1_S1 (tbl m) (grid0.coords t) 0
    = (Scalar.select (own m c t) 0#32 (BitVec.ofNat 32 (grid0.coords t 1).val)).toNat := by
  have e : (tbl m).at 0 (Rect.unit (s := S1) ![0] S1.size Facts₀.inb_S1_S1_0) Facts₀.numel1_S1 = word (F := Ideal) c (tbl m 0) :=
    congrArg (tbl m 0) (s1 _ _)
  unfold own
  rw [← e]
  rfl

theorem bv4 (n : Fin 4) : (BitVec.ofNat 32 n.val).toNat = n.val := by revert n; decide

theorem iblk0 (hO : Ok m) (c : Dev nD) (t : Fin grid0.N) (y : S128x640.Idx) (p : S512x640.Idx) (h : own m c t = 1)
    (hp0 : (p 0).val = t.val % 4 * 128 + (y 0).val) (hp1 : (p 1).val = (y 1).val) :
    iblk m hO c 0 t y = m ((c : Thread nD τ).loc main_arg1) p := by
  refine (View.read_apply (Val := Elt Ideal) (v := (((cfgM m hO).win 0).blk t).view) (V m c main_arg1) y).trans ?_
  show V m c main_arg1 _ = _
  refine congrArg (m ((c : Thread nD τ).loc main_arg1)) (funext fun a => Fin.ext ?_)
  match a with
  | ⟨0, _⟩ =>
    show cc0_transform_0 Facts₀.inb_S1_S1_0 Facts₀.numel1_S1 (tbl m) (grid0.coords t) 0 * 128 + 1 * (y 0).val = (p 0).val
    rw [tr0 m c t, h, hp0]
    show (BitVec.ofNat 32 (grid0.coords t 1).val).toNat * 128 + _ = _
    rw [bv4 (grid0.coords t 1), co1]
    omega
  | ⟨1, _⟩ => show 0 * 640 + 1 * (y 1).val = (p 1).val; omega

theorem iblk1 (hO : Ok m) (c : Dev nD) (t : Fin grid0.N) (y : S128x640.Idx) (p : S512x640.Idx) (h : own m c t ≠ 1)
    (hp0 : (p 0).val = t.val % 4 * 128 + (y 0).val) (hp1 : (p 1).val = (y 1).val) :
    iblk m hO c 1 t y = m ((c : Thread nD τ).loc main_arg2) p := by
  refine (View.read_apply (Val := Elt Ideal) (v := (((cfgM m hO).win 1).blk t).view) (V m c main_arg2) y).trans ?_
  show V m c main_arg2 _ = _
  refine congrArg (m ((c : Thread nD τ).loc main_arg2)) (funext fun a => Fin.ext ?_)
  match a with
  | ⟨0, _⟩ =>
    show cc0_transform_1 Facts₀.inb_S1_S1_0 Facts₀.numel1_S1 (tbl m) (grid0.coords t) 0 * 128 + 1 * (y 0).val = (p 0).val
    rw [tr1 m c t, hp0]
    unfold Scalar.select
    rw [if_neg h, bv4 (grid0.coords t 1), co1]
    omega
  | ⟨1, _⟩ => show 0 * 640 + 1 * (y 1).val = (p 1).val; omega

theorem tr2 : ∀ t : Fin grid0.N, cc0_transform_2 (grid0.coords t) 0 = t.val := by decide +kernel

theorem iblk2 (hO : Ok m) (c : Dev nD) (t : Fin grid0.N) (y : S128x640.Idx) (p : S1024x640.Idx)
    (hp0 : (p 0).val = t.val * 128 + (y 0).val) (hp1 : (p 1).val = (y 1).val) :
    iblk m hO c 2 t y = m ((c : Thread nD τ).loc main_arg3) p := by
  refine (View.read_apply (Val := Elt Ideal) (v := (((cfgM m hO).win 2).blk t).view) (V m c main_arg3) y).trans ?_
  show V m c main_arg3 _ = _
  refine congrArg (m ((c : Thread nD τ).loc main_arg3)) (funext fun a => Fin.ext ?_)
  match a with
  | ⟨0, _⟩ =>
    show cc0_transform_2 (grid0.coords t) 0 * 128 + 1 * (y 0).val = (p 0).val
    rw [tr2, hp0]
    omega
  | ⟨1, _⟩ => show 0 * 640 + 1 * (y 1).val = (p 1).val; omega

theorem tr3 : ∀ t : Fin grid0.N, cc0_transform_3 (grid0.coords t) 0 = t.val := by decide +kernel

theorem iblk3 (hO : Ok m) (c : Dev nD) (t : Fin grid0.N) (y : S128x640.Idx) (p : S1024x640.Idx)
    (hp0 : (p 0).val = t.val * 128 + (y 0).val) (hp1 : (p 1).val = (y 1).val) :
    iblk m hO c 3 t y = m ((c : Thread nD τ).loc main_arg4) p := by
  refine (View.read_apply (Val := Elt Ideal) (v := (((cfgM m hO).win 3).blk t).view) (V m c main_arg4) y).trans ?_
  show V m c main_arg4 _ = _
  refine congrArg (m ((c : Thread nD τ).loc main_arg4)) (funext fun a => Fin.ext ?_)
  match a with
  | ⟨0, _⟩ =>
    show cc0_transform_3 (grid0.coords t) 0 * 128 + 1 * (y 0).val = (p 0).val
    rw [tr3, hp0]
    omega
  | ⟨1, _⟩ => show 0 * 640 + 1 * (y 1).val = (p 1).val; omega

theorem tr4 : ∀ t : Fin grid0.N, cc0_transform_4 (grid0.coords t) 0 = t.val := by decide +kernel

theorem iblk4 (hO : Ok m) (c : Dev nD) (t : Fin grid0.N) (y : S128x640.Idx) (p : S1024x640.Idx)
    (hp0 : (p 0).val = t.val * 128 + (y 0).val) (hp1 : (p 1).val = (y 1).val) :
    iblk m hO c 4 t y = m ((c : Thread nD τ).loc main_arg5) p := by
  refine (View.read_apply (Val := Elt Ideal) (v := (((cfgM m hO).win 4).blk t).view) (V m c main_arg5) y).trans ?_
  show V m c main_arg5 _ = _
  refine congrArg (m ((c : Thread nD τ).loc main_arg5)) (funext fun a => Fin.ext ?_)
  match a with
  | ⟨0, _⟩ =>
    show cc0_transform_4 (grid0.coords t) 0 * 128 + 1 * (y 0).val = (p 0).val
    rw [tr4, hp0]
    omega
  | ⟨1, _⟩ => show 0 * 640 + 1 * (y 1).val = (p 1).val; omega

/-! ## The reference at a place -/

open Cert.Reference9Ideal.Read

theorem ref_word (x0 : (⟨Cert.Reference9Ideal.S1, .i32⟩ : BufTy).Contents (Elt Ideal)) (j : Cert.Reference9Ideal.S_.Idx) :
    val_main_v0 (F := Ideal) x0 j = x0 (ix1 0) :=
  congrArg x0 (s1 _ _)

theorem ref_word' (x0 : (⟨Cert.Reference9Ideal.S1, .i32⟩ : BufTy).Contents (Elt Ideal)) (j : Cert.Reference9Ideal.S_.Idx) :
    val_main_v3 (F := Ideal) x0 j = x0 (ix1 0) :=
  congrArg x0 (s1 _ _)

theorem ref_lo (x0 : (⟨Cert.Reference9Ideal.S1, .i32⟩ : BufTy).Contents (Elt Ideal))
    (x1 x2 : (⟨Cert.Reference9Ideal.S512x640, .f32⟩ : BufTy).Contents (Elt Ideal)) (i : Cert.Reference9Ideal.S1024x640.Idx)
    (p : Cert.Reference9Ideal.S512x640.Idx) (h0 : (p 0).val = (i 0).val) (h1 : (p 1).val = (i 1).val) :
    val_main_v6 (F := Ideal) x0 x1 x2 i = Scalar.select (IntOp.cmpi .eq (x0 (ix1 0)) 0#32) (x1 p) (x2 p) := by
  unfold val_main_v6
  rw [concatenate_pair_apply_left (s₁ := Cert.Reference9Ideal.S512x640) (s₂ := Cert.Reference9Ideal.S512x640) 0 _ _ _ i rfl p (fun b => by
    match b with
    | ⟨0, _⟩ => exact h0
    | ⟨1, _⟩ => exact h1)]
  unfold val_main_v2
  show Scalar.select (broadcastInDim Cert.Reference9Ideal.S512x640 ![] Cert.Reference9Ideal.Gen.facts.bcast_S_S512x640 (val_main_v1 (F := Ideal) x0) p) (x1 p) (x2 p) = _
  rw [broadcastInDim_apply _ _ _ p (fun a => a.elim0) (fun a => a.elim0), val_main_v1_apply, ref_word, val_main_c_apply]

theorem ref_hi (x0 : (⟨Cert.Reference9Ideal.S1, .i32⟩ : BufTy).Contents (Elt Ideal))
    (x1 x2 : (⟨Cert.Reference9Ideal.S512x640, .f32⟩ : BufTy).Contents (Elt Ideal)) (i : Cert.Reference9Ideal.S1024x640.Idx)
    (p : Cert.Reference9Ideal.S512x640.Idx) (h0 : (p 0).val + 512 = (i 0).val) (h1 : (p 1).val = (i 1).val) :
    val_main_v6 (F := Ideal) x0 x1 x2 i = Scalar.select (IntOp.cmpi .eq (x0 (ix1 0)) 1#32) (x1 p) (x2 p) := by
  unfold val_main_v6
  rw [concatenate_pair_apply_right (s₁ := Cert.Reference9Ideal.S512x640) (s₂ := Cert.Reference9Ideal.S512x640) 0 _ _ _ i rfl rfl p (fun b hb => by
    match b with
    | ⟨0, _⟩ => exact absurd rfl hb
    | ⟨1, _⟩ => exact h1) h0]
  unfold val_main_v5
  show Scalar.select (broadcastInDim Cert.Reference9Ideal.S512x640 ![] Cert.Reference9Ideal.Gen.facts.bcast_S_S512x640 (val_main_v4 (F := Ideal) x0) p) (x1 p) (x2 p) = _
  rw [broadcastInDim_apply _ _ _ p (fun a => a.elim0) (fun a => a.elim0), val_main_v4_apply, ref_word', val_main_c_0_apply]

theorem cmpi_comm (a b : BitVec 32) : IntOp.cmpi .eq a b = IntOp.cmpi .eq b a := by
  unfold IntOp.cmpi
  exact congrArg BitVec.ofBool (Bool.beq_comm)

theorem sel_pos {α : Type} {b : BitVec 1} (h : b = 1) (f g : α) : Scalar.select b f g = f := if_pos h
theorem sel_neg {α : Type} {b : BitVec 1} (h : b ≠ 1) (f g : α) : Scalar.select b f g = g := if_neg h

/-- The gradient that a point puts together is the reference's. -/
theorem grad (hO : Ok m) (c : Dev nD) (t : Fin grid0.N) (y : S128x640.Idx) (i : S1024x640.Idx)
    (h0 : (i 0).val = t.val * 128 + (y 0).val) (h1 : (i 1).val = (y 1).val) :
    k0_pay1 (F := Ideal) (grid0.coords t) (word c (tbl m 0)) (iblk m hO c 0 t) (iblk m hO c 1 t) y
      = val_main_v6 (F := Ideal) (m ((c : Thread nD τ).loc main_arg0)) (m ((c : Thread nD τ).loc main_arg1)) (m ((c : Thread nD τ).loc main_arg2)) i := by
  obtain rfl : c = 0 := Subsingleton.elim _ _
  have ht : t.val < 8 := lt_of_lt_of_eq t.isLt N_0
  have hy : (y 0).val < 128 := (y 0).isLt
  let p : S512x640.Idx := ix2 ⟨t.val % 4 * 128 + (y 0).val, by omega⟩ (y 1)
  have hp0 : (p 0).val = t.val % 4 * 128 + (y 0).val := rfl
  have hp1 : (p 1).val = (y 1).val := rfl
  have hl : k0_pay1 (F := Ideal) (grid0.coords t) (word 0 (tbl m 0)) (iblk m hO 0 0 t) (iblk m hO 0 1 t) y
      = Scalar.select (own m 0 t) (m (((0 : Dev nD) : Thread nD τ).loc main_arg1) p) (m (((0 : Dev nD) : Thread nD τ).loc main_arg2) p) := by
    show (Scalar.select (own m 0 t) (iblk m hO 0 0 t) (iblk m hO 0 1 t) : S128x640.Idx → _) y = _
    by_cases h : own m 0 t = 1
    · exact (congrFun (sel_pos h (iblk m hO 0 0 t) (iblk m hO 0 1 t)) y).trans ((iblk0 m hO 0 t y p h hp0 hp1).trans (sel_pos h _ _).symm)
    · exact (congrFun (sel_neg h (iblk m hO 0 0 t) (iblk m hO 0 1 t)) y).trans ((iblk1 m hO 0 t y p h hp0 hp1).trans (sel_neg h _ _).symm)
  rw [hl]
  have ho : own m 0 t = IntOp.cmpi .eq (BitVec.ofNat 32 (t.val / 4)) (m (((0 : Dev nD) : Thread nD τ).loc main_arg0) (ix1 0)) := by
    unfold own
    rw [co0]
    rfl
  by_cases h : t.val < 4
  · rw [ref_lo _ _ _ i p (by omega) (by omega), ho, cmpi_comm, show t.val / 4 = 0 by omega]
  · rw [ref_hi _ _ _ i p (by omega) (by omega), ho, cmpi_comm, show t.val / 4 = 1 by omega]

/-! ## The update of one place -/

/-- The new first moment. -/
def mom (g m : EReal) : EReal :=
  FloatOps.addf (F := Ideal) (φ := .f32) (FloatOps.mulf (F := Ideal) (φ := .f32) (FloatOps.ofBits .f32 0x3F666666#32) m) (FloatOps.mulf (F := Ideal) (φ := .f32) (FloatOps.ofBits .f32 0x3DCCCCCD#32) g)

/-- The new second moment. -/
def vel (g v : EReal) : EReal :=
  FloatOps.addf (F := Ideal) (φ := .f32) (FloatOps.mulf (F := Ideal) (φ := .f32) (FloatOps.ofBits .f32 0x3F7FBE77#32) v) (FloatOps.mulf (F := Ideal) (φ := .f32) (FloatOps.ofBits .f32 0x3A83126F#32) (FloatOps.mulf (F := Ideal) (φ := .f32) g g))

/-- The step. -/
def upd (g w m v : EReal) : EReal :=
  FloatOps.mulf (F := Ideal) (φ := .f32) (FloatOps.ofBits .f32 0xBA83126F#32) (FloatOps.addf (F := Ideal) (φ := .f32)
    (FloatOps.divf (F := Ideal) (φ := .f32) (FloatOps.divf (F := Ideal) (φ := .f32) (mom g m) (FloatOps.ofBits .f32 0x3F26BD02#32))
      (FloatOps.addf (F := Ideal) (φ := .f32) (Scalar.sqrt (F := Ideal) (φ := .f32) (FloatOps.divf (F := Ideal) (φ := .f32) (vel g v) (FloatOps.ofBits .f32 0x3C231ACC#32))) (FloatOps.ofBits .f32 0x322BCC77#32)))
    (FloatOps.mulf (F := Ideal) (φ := .f32) (FloatOps.ofBits .f32 0x3C23D70A#32) w))

theorem upd_congr {g g' w w' p p' v v' : EReal} (hg : g = g') (hw : w = w') (hp : p = p') (hv : v = v') : upd g w p v = upd g' w' p' v' := by
  rw [hg, hw, hp, hv]

theorem pay2 (i : grid0.Coords) (z : Elt Ideal .i32) (x0 x1 x3 : Vec Ideal S128x640 .f32) (y : S128x640.Idx) :
    k0_pay2 (F := Ideal) i z x0 x1 x3 y = mom (k0_pay1 (F := Ideal) i z x0 x1 y) (x3 y) := rfl

theorem pay3 (i : grid0.Coords) (z : Elt Ideal .i32) (x0 x1 x4 : Vec Ideal S128x640 .f32) (y : S128x640.Idx) :
    k0_pay3 (F := Ideal) i z x0 x1 x4 y = vel (k0_pay1 (F := Ideal) i z x0 x1 y) (x4 y) := rfl

theorem pay4 (i : grid0.Coords) (z : Elt Ideal .i32) (x0 x1 x2 x3 x4 : Vec Ideal S128x640 .f32) (y : S128x640.Idx) :
    k0_pay4 (F := Ideal) i z x0 x1 x2 x3 x4 y = upd (k0_pay1 (F := Ideal) i z x0 x1 y) (x2 y) (x3 y) (x4 y) := rfl

section Ref

variable (x0 : (⟨Cert.Reference9Ideal.S1, .i32⟩ : BufTy).Contents (Elt Ideal))
  (x1 x2 : (⟨Cert.Reference9Ideal.S512x640, .f32⟩ : BufTy).Contents (Elt Ideal))
  (x3 x4 x5 : (⟨Cert.Reference9Ideal.S1024x640, .f32⟩ : BufTy).Contents (Elt Ideal)) (i : Cert.Reference9Ideal.S1024x640.Idx)

theorem ref_mom : val_main_v11 (F := Ideal) x0 x1 x2 x4 i = mom (val_main_v6 (F := Ideal) x0 x1 x2 i) (x4 i) := by
  rw [val_main_v11_apply, val_main_v8_apply, val_main_v7_apply, val_main_cst_apply, val_main_v10_apply, val_main_v9_apply, val_main_cst_1_apply]
  rfl

theorem ref_vel : val_main_v17 (F := Ideal) x0 x1 x2 x5 i = vel (val_main_v6 (F := Ideal) x0 x1 x2 i) (x5 i) := by
  rw [val_main_v17_apply, val_main_v13_apply, val_main_v12_apply, val_main_cst_2_apply, val_main_v16_apply, val_main_v15_apply, val_main_cst_3_apply, val_main_v14_apply]
  rfl

theorem ref_upd : val_main_v30 (F := Ideal) x0 x1 x2 x3 x4 x5 i = upd (val_main_v6 (F := Ideal) x0 x1 x2 i) (x3 i) (x4 i) (x5 i) := by
  rw [val_main_v30_apply, val_main_v29_apply, val_main_cst_8_apply, val_main_v28_apply, val_main_v27_apply, val_main_v26_apply, val_main_cst_7_apply,
    val_main_v25_apply, val_main_v24_apply, val_main_v23_apply, val_main_cst_6_apply, val_main_v22_apply, val_main_v21_apply, val_main_v20_apply,
    val_main_cst_5_apply, val_main_v19_apply, val_main_v18_apply, val_main_cst_4_apply, ref_mom, ref_vel]
  rfl

end Ref

end Cert.Adam9

end
-- ==== Proof.Adam9Run.lean ====
/- The update of one weight's shard by the optimiser, whole: the result arrays after the run, and the claims. -/
module

public import proofs.«01_k».proof.Proof.Adam9

@[expose] public section

noncomputable section

namespace Cert.Adam9

open Cert.Kernel9Ideal Cert.Kernel9Ideal.Gen
open Idealize.ShloMosaic Idealize.ShloMosaic.TcCoe Idealize.SL.Sem Idealize.ShloMosaic.ValueIdx
open Cert.Reference9Ideal.Read

variable (m : (ℓ : Loc nD τ sig) → Buf (Elt Ideal) ℓ)

/-! ## The result arrays -/

/-- The gradient, as the reference computes it of the call's arguments. -/
def G5 (c : Dev nD) : Buf (Elt Ideal) ((c : Thread nD τ).loc main_v0_0) := val_main_v6 (F := Ideal) (m ((c : Thread nD τ).loc main_arg0)) (m ((c : Thread nD τ).loc main_arg1)) (m ((c : Thread nD τ).loc main_arg2))

theorem place_5 (hO : Ok m) (c : Dev nD) (t : Fin grid0.N) (y : S128x640.Idx) (i : S1024x640.Idx)
    (h0 : (i 0).val = t.val * 128 + (y 0).val) (h1 : (i 1).val = (y 1).val) :
    k0_pay1 (F := Ideal) (grid0.coords t) (word c (tbl m 0)) (iblk m hO c 0 t) (iblk m hO c 1 t) y = G5 m c i := by
  unfold G5
  exact grad m hO c t y i h0 h1

theorem tr5 : ∀ t : Fin grid0.N, cc0_transform_5 (grid0.coords t) 0 = t.val := by decide +kernel

theorem left_5 (hO : Ok m) (c : Dev nD) (t : Fin (cfgM m hO).N) : (outsAt0 m hO c t).1 = k0_pay1 (F := Ideal) (grid0.coords t) (word c (tbl m 0)) (iblk m hO c 0 t) (iblk m hO c 1 t) := by
  have e := out_5 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  unfold outsAt0
  dsimp only
  refine Eq.trans ?_ e
  rfl

theorem flushed_5 (hO : Ok m) (c : Dev nD) (t : Fin (cfgM m hO).N) :
    (dats m hO 0 c).flushed 5 t = (((cfgM m hO).win 5).blk t).view.read (Elt Ideal) (G5 m c) := by
  refine funext fun (y : S128x640.Idx) => ?_
  refine (congrFun ((after0_5 m hO c t).trans (left_5 m hO c t)) y).trans
    (place_5 m hO c t y ((((cfgM m hO).win 5).blk t).view.emb y) ?_ ?_)
  · show cc0_transform_5 (grid0.coords t) 0 * 128 + 1 * (y 0).val = t.val * 128 + (y 0).val
    rw [tr5]
    omega
  · show 0 * 640 + 1 * (y 1).val = (y 1).val
    omega

theorem mem_5 (hO : Ok m) (t : Fin (cfgM m hO).N) (i : S1024x640.Idx) (h : (i 0).val / 128 = t.val) :
    i ∈ (((cfgM m hO).win 5).blk t).view.set := by
  show i ∈ ((View.whole main_v0_0).slice (Rect.block (s := S1024x640) S128x640.size (cc0_transform_5 (grid0.coords t)) (Facts₀.hinb0_5 _))).set
  rw [View.set_slice_whole, Rect.mem_set_unit]
  intro a
  match a with
  | ⟨0, _⟩ =>
    show cc0_transform_5 (grid0.coords t) 0 * 128 ≤ (i 0).val ∧ (i 0).val < cc0_transform_5 (grid0.coords t) 0 * 128 + 128
    rw [tr5]
    omega
  | ⟨1, _⟩ =>
    have hi : (i 1).val < 640 := (i 1).isLt
    show 0 * 640 ≤ (i 1).val ∧ (i 1).val < 0 * 640 + 640
    omega

/-- The gradient after the run: the blocks tile the array. -/
theorem final_5 (hO : Ok m) (c : Dev nD) : (dats m hO 0 c).arrAt 5 (cfgM m hO).N = G5 m c :=
  (dats m hO 0 c).arrAt_eq_of_cover 5 _ (fun t _ => flushed_5 m hO c t) (fun (i : S1024x640.Idx) => by
    have hi : (i 0).val < 1024 := (i 0).isLt
    have ht : (i 0).val / 128 < (cfgM m hO).N := lt_of_lt_of_eq (by omega) N_0.symm
    exact ⟨⟨(i 0).val / 128, ht⟩, flush0_5 (adm m hO) _, mem_5 m hO _ i rfl⟩)

/-- The step, as the reference computes it of the call's arguments. -/
def G6 (c : Dev nD) : Buf (Elt Ideal) ((c : Thread nD τ).loc main_v0_1) := val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem place_6 (hO : Ok m) (c : Dev nD) (t : Fin grid0.N) (y : S128x640.Idx) (i : S1024x640.Idx)
    (h0 : (i 0).val = t.val * 128 + (y 0).val) (h1 : (i 1).val = (y 1).val) :
    k0_pay4 (F := Ideal) (grid0.coords t) (word c (tbl m 0)) (iblk m hO c 0 t) (iblk m hO c 1 t) (iblk m hO c 2 t) (iblk m hO c 3 t) (iblk m hO c 4 t) y = G6 m c i := by
  unfold G6
  exact (pay4 _ _ _ _ _ _ _ y).trans ((upd_congr (grad m hO c t y i h0 h1) (iblk2 m hO c t y i h0 h1) (iblk3 m hO c t y i h0 h1) (iblk4 m hO c t y i h0 h1)).trans (ref_upd _ _ _ _ _ _ i).symm)

theorem tr6 : ∀ t : Fin grid0.N, cc0_transform_6 (grid0.coords t) 0 = t.val := by decide +kernel

theorem left_6 (hO : Ok m) (c : Dev nD) (t : Fin (cfgM m hO).N) : (outsAt0 m hO c t).2.1 = k0_pay4 (F := Ideal) (grid0.coords t) (word c (tbl m 0)) (iblk m hO c 0 t) (iblk m hO c 1 t) (iblk m hO c 2 t) (iblk m hO c 3 t) (iblk m hO c 4 t) := by
  have e := out_6 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  unfold outsAt0
  dsimp only
  refine Eq.trans ?_ e
  rfl

theorem flushed_6 (hO : Ok m) (c : Dev nD) (t : Fin (cfgM m hO).N) :
    (dats m hO 0 c).flushed 6 t = (((cfgM m hO).win 6).blk t).view.read (Elt Ideal) (G6 m c) := by
  refine funext fun (y : S128x640.Idx) => ?_
  refine (congrFun ((after0_6 m hO c t).trans (left_6 m hO c t)) y).trans
    (place_6 m hO c t y ((((cfgM m hO).win 6).blk t).view.emb y) ?_ ?_)
  · show cc0_transform_6 (grid0.coords t) 0 * 128 + 1 * (y 0).val = t.val * 128 + (y 0).val
    rw [tr6]
    omega
  · show 0 * 640 + 1 * (y 1).val = (y 1).val
    omega

theorem mem_6 (hO : Ok m) (t : Fin (cfgM m hO).N) (i : S1024x640.Idx) (h : (i 0).val / 128 = t.val) :
    i ∈ (((cfgM m hO).win 6).blk t).view.set := by
  show i ∈ ((View.whole main_v0_1).slice (Rect.block (s := S1024x640) S128x640.size (cc0_transform_6 (grid0.coords t)) (Facts₀.hinb0_6 _))).set
  rw [View.set_slice_whole, Rect.mem_set_unit]
  intro a
  match a with
  | ⟨0, _⟩ =>
    show cc0_transform_6 (grid0.coords t) 0 * 128 ≤ (i 0).val ∧ (i 0).val < cc0_transform_6 (grid0.coords t) 0 * 128 + 128
    rw [tr6]
    omega
  | ⟨1, _⟩ =>
    have hi : (i 1).val < 640 := (i 1).isLt
    show 0 * 640 ≤ (i 1).val ∧ (i 1).val < 0 * 640 + 640
    omega

/-- The step after the run: the blocks tile the array. -/
theorem final_6 (hO : Ok m) (c : Dev nD) : (dats m hO 0 c).arrAt 6 (cfgM m hO).N = G6 m c :=
  (dats m hO 0 c).arrAt_eq_of_cover 6 _ (fun t _ => flushed_6 m hO c t) (fun (i : S1024x640.Idx) => by
    have hi : (i 0).val < 1024 := (i 0).isLt
    have ht : (i 0).val / 128 < (cfgM m hO).N := lt_of_lt_of_eq (by omega) N_0.symm
    exact ⟨⟨(i 0).val / 128, ht⟩, flush0_6 (adm m hO) _, mem_6 m hO _ i rfl⟩)

/-- The new first moment, as the reference computes it of the call's arguments. -/
def G7 (c : Dev nD) : Buf (Elt Ideal) ((c : Thread nD τ).loc main_v0_2) := val_main_v11 (F := Ideal) (m ((c : Thread nD τ).loc main_arg0)) (m ((c : Thread nD τ).loc main_arg1)) (m ((c : Thread nD τ).loc main_arg2)) (m ((c : Thread nD τ).loc main_arg4))

theorem place_7 (hO : Ok m) (c : Dev nD) (t : Fin grid0.N) (y : S128x640.Idx) (i : S1024x640.Idx)
    (h0 : (i 0).val = t.val * 128 + (y 0).val) (h1 : (i 1).val = (y 1).val) :
    k0_pay2 (F := Ideal) (grid0.coords t) (word c (tbl m 0)) (iblk m hO c 0 t) (iblk m hO c 1 t) (iblk m hO c 3 t) y = G7 m c i := by
  unfold G7
  exact (pay2 _ _ _ _ _ y).trans ((congrArg₂ mom (grad m hO c t y i h0 h1) (iblk3 m hO c t y i h0 h1)).trans (ref_mom _ _ _ _ i).symm)

theorem tr7 : ∀ t : Fin grid0.N, cc0_transform_7 (grid0.coords t) 0 = t.val := by decide +kernel

theorem left_7 (hO : Ok m) (c : Dev nD) (t : Fin (cfgM m hO).N) : (outsAt0 m hO c t).2.2.1 = k0_pay2 (F := Ideal) (grid0.coords t) (word c (tbl m 0)) (iblk m hO c 0 t) (iblk m hO c 1 t) (iblk m hO c 3 t) := by
  have e := out_7 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  unfold outsAt0
  dsimp only
  refine Eq.trans ?_ e
  rfl

theorem flushed_7 (hO : Ok m) (c : Dev nD) (t : Fin (cfgM m hO).N) :
    (dats m hO 0 c).flushed 7 t = (((cfgM m hO).win 7).blk t).view.read (Elt Ideal) (G7 m c) := by
  refine funext fun (y : S128x640.Idx) => ?_
  refine (congrFun ((after0_7 m hO c t).trans (left_7 m hO c t)) y).trans
    (place_7 m hO c t y ((((cfgM m hO).win 7).blk t).view.emb y) ?_ ?_)
  · show cc0_transform_7 (grid0.coords t) 0 * 128 + 1 * (y 0).val = t.val * 128 + (y 0).val
    rw [tr7]
    omega
  · show 0 * 640 + 1 * (y 1).val = (y 1).val
    omega

theorem mem_7 (hO : Ok m) (t : Fin (cfgM m hO).N) (i : S1024x640.Idx) (h : (i 0).val / 128 = t.val) :
    i ∈ (((cfgM m hO).win 7).blk t).view.set := by
  show i ∈ ((View.whole main_v0_2).slice (Rect.block (s := S1024x640) S128x640.size (cc0_transform_7 (grid0.coords t)) (Facts₀.hinb0_7 _))).set
  rw [View.set_slice_whole, Rect.mem_set_unit]
  intro a
  match a with
  | ⟨0, _⟩ =>
    show cc0_transform_7 (grid0.coords t) 0 * 128 ≤ (i 0).val ∧ (i 0).val < cc0_transform_7 (grid0.coords t) 0 * 128 + 128
    rw [tr7]
    omega
  | ⟨1, _⟩ =>
    have hi : (i 1).val < 640 := (i 1).isLt
    show 0 * 640 ≤ (i 1).val ∧ (i 1).val < 0 * 640 + 640
    omega

/-- The new first moment after the run: the blocks tile the array. -/
theorem final_7 (hO : Ok m) (c : Dev nD) : (dats m hO 0 c).arrAt 7 (cfgM m hO).N = G7 m c :=
  (dats m hO 0 c).arrAt_eq_of_cover 7 _ (fun t _ => flushed_7 m hO c t) (fun (i : S1024x640.Idx) => by
    have hi : (i 0).val < 1024 := (i 0).isLt
    have ht : (i 0).val / 128 < (cfgM m hO).N := lt_of_lt_of_eq (by omega) N_0.symm
    exact ⟨⟨(i 0).val / 128, ht⟩, flush0_7 (adm m hO) _, mem_7 m hO _ i rfl⟩)

/-- The new second moment, as the reference computes it of the call's arguments. -/
def G8 (c : Dev nD) : Buf (Elt Ideal) ((c : Thread nD τ).loc main_v0_3) := val_main_v17 (F := Ideal) (m ((c : Thread nD τ).loc main_arg0)) (m ((c : Thread nD τ).loc main_arg1)) (m ((c : Thread nD τ).loc main_arg2)) (m ((c : Thread nD τ).loc main_arg5))

theorem place_8 (hO : Ok m) (c : Dev nD) (t : Fin grid0.N) (y : S128x640.Idx) (i : S1024x640.Idx)
    (h0 : (i 0).val = t.val * 128 + (y 0).val) (h1 : (i 1).val = (y 1).val) :
    k0_pay3 (F := Ideal) (grid0.coords t) (word c (tbl m 0)) (iblk m hO c 0 t) (iblk m hO c 1 t) (iblk m hO c 4 t) y = G8 m c i := by
  unfold G8
  exact (pay3 _ _ _ _ _ y).trans ((congrArg₂ vel (grad m hO c t y i h0 h1) (iblk4 m hO c t y i h0 h1)).trans (ref_vel _ _ _ _ i).symm)

theorem tr8 : ∀ t : Fin grid0.N, cc0_transform_8 (grid0.coords t) 0 = t.val := by decide +kernel

theorem left_8 (hO : Ok m) (c : Dev nD) (t : Fin (cfgM m hO).N) : (outsAt0 m hO c t).2.2.2 = k0_pay3 (F := Ideal) (grid0.coords t) (word c (tbl m 0)) (iblk m hO c 0 t) (iblk m hO c 1 t) (iblk m hO c 4 t) := by
  have e := out_8 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  unfold outsAt0
  dsimp only
  refine Eq.trans ?_ e
  rfl

theorem flushed_8 (hO : Ok m) (c : Dev nD) (t : Fin (cfgM m hO).N) :
    (dats m hO 0 c).flushed 8 t = (((cfgM m hO).win 8).blk t).view.read (Elt Ideal) (G8 m c) := by
  refine funext fun (y : S128x640.Idx) => ?_
  refine (congrFun ((after0_8 m hO c t).trans (left_8 m hO c t)) y).trans
    (place_8 m hO c t y ((((cfgM m hO).win 8).blk t).view.emb y) ?_ ?_)
  · show cc0_transform_8 (grid0.coords t) 0 * 128 + 1 * (y 0).val = t.val * 128 + (y 0).val
    rw [tr8]
    omega
  · show 0 * 640 + 1 * (y 1).val = (y 1).val
    omega

theorem mem_8 (hO : Ok m) (t : Fin (cfgM m hO).N) (i : S1024x640.Idx) (h : (i 0).val / 128 = t.val) :
    i ∈ (((cfgM m hO).win 8).blk t).view.set := by
  show i ∈ ((View.whole main_v0_3).slice (Rect.block (s := S1024x640) S128x640.size (cc0_transform_8 (grid0.coords t)) (Facts₀.hinb0_8 _))).set
  rw [View.set_slice_whole, Rect.mem_set_unit]
  intro a
  match a with
  | ⟨0, _⟩ =>
    show cc0_transform_8 (grid0.coords t) 0 * 128 ≤ (i 0).val ∧ (i 0).val < cc0_transform_8 (grid0.coords t) 0 * 128 + 128
    rw [tr8]
    omega
  | ⟨1, _⟩ =>
    have hi : (i 1).val < 640 := (i 1).isLt
    show 0 * 640 ≤ (i 1).val ∧ (i 1).val < 0 * 640 + 640
    omega

/-- The new second moment after the run: the blocks tile the array. -/
theorem final_8 (hO : Ok m) (c : Dev nD) : (dats m hO 0 c).arrAt 8 (cfgM m hO).N = G8 m c :=
  (dats m hO 0 c).arrAt_eq_of_cover 8 _ (fun t _ => flushed_8 m hO c t) (fun (i : S1024x640.Idx) => by
    have hi : (i 0).val < 1024 := (i 0).isLt
    have ht : (i 0).val / 128 < (cfgM m hO).N := lt_of_lt_of_eq (by omega) N_0.symm
    exact ⟨⟨(i 0).val / 128, ht⟩, flush0_8 (adm m hO) _, mem_8 m hO _ i rfl⟩)

/-- The run: each result array is the reference's, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final_5 m (ok m) c), ((h c).1 6).trans (final_6 m (ok m) c),
      ((h c).1 7).trans (final_7 m (ok m) c), ((h c).1 8).trans (final_8 m (ok m) c),
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).1 1).trans (((dats m (ok m) 0 c).arrAt_in 1 rfl _).trans ((A_eq m (ok m) c 1).trans (V_main_arg2 m c))),
      ((h c).1 2).trans (((dats m (ok m) 0 c).arrAt_in 2 rfl _).trans ((A_eq m (ok m) c 2).trans (V_main_arg3 m c))),
      ((h c).1 3).trans (((dats m (ok m) 0 c).arrAt_in 3 rfl _).trans ((A_eq m (ok m) c 3).trans (V_main_arg4 m c))),
      ((h c).1 4).trans (((dats m (ok m) 0 c).arrAt_in 4 rfl _).trans ((A_eq m (ok m) c 4).trans (V_main_arg5 m c)))⟩)
    (run_main m ρ (ok m))

theorem algebraic : Cert.algebraic_Kernel9Ideal_Reference9Ideal
    (hKernel9Ideal := Cert.Kernel9Ideal.Gen.facts) (hReference9Ideal := Cert.Reference9Ideal.Gen.facts) := by
  intro m g m' g' _ hargs
  refine ⟨G5 m, G6 m, G7 m, G8 m, run m g, ?_⟩
  refine (θ_run _ _ _).mono (fun r h c => ?_) (Cert.Reference9Ideal.Value.run (F := Ideal) m' g')
  obtain ⟨e0, e1, e2, e3, e4, e5⟩ := hargs c
  refine ⟨(h c).1.trans ((val_main_v6_eq _ _ _).trans ?_), (h c).2.1.trans ((val_main_v30_eq _ _ _ _ _ _).trans ?_),
    (h c).2.2.1.trans ((val_main_v11_eq _ _ _ _).trans ?_), (h c).2.2.2.1.trans ((val_main_v17_eq _ _ _ _).trans ?_), (h c).2.2.2.2⟩
  · rw [e0, e1, e2]; rfl
  · rw [e0, e1, e2, e3, e4, e5]; rfl
  · rw [e0, e1, e2, e4]; rfl
  · rw [e0, e1, e2, e5]; rfl

/-- The reference's run leaves its arguments and its semaphores. -/
theorem ref_frame : Cert.quiescent_Reference9Ideal (hReference9Ideal := Cert.Reference9Ideal.Gen.facts) :=
  fun m ρ _ => (θ_run _ _ _).mono (fun r h => ⟨fun c => (h c).2.2.2.2, Idealize.ShloMosaic.sem_eq_zero_of_no_sems (by decide) r.2⟩)
      (Cert.Reference9Ideal.Value.run (F := Ideal) m ρ)

end Cert.Adam9

end
-- ==== Proof.Grad8.lean ====
/- One weight gradient: what the grid leaves in the result array is the product `xᵀ · ct`, summed over all the rows, and
   so is the reference's derivative of `w ↦ x · w`. -/
module

public import proofs.«01_k».proof.Defs
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit.Acc
public import Idealize.ShloMosaic.Lib.KernelVsHost
public import Idealize.ShloMosaic.Lib.Tactic

@[expose] public section

noncomputable section

namespace Cert.Grad8

open Cert.Kernel8Ideal Cert.Kernel8Ideal.Gen
open Idealize.ShloMosaic Idealize.ShloMosaic.TcCoe Idealize.SL.Sem Idealize.ShloMosaic.ValueIdx

theorem hz : (![0, 0] : Fin 2 → Nat) = fun _ => 0 := funext fun a => by fin_cases a <;> rfl

section Body

variable {F : FTy → Type} [FloatOps F]
variable (c : Dev nD) (i : grid0.Coords) (a3 : Memref sig .tc .vmem S4096x1024 .bf16) (h3 : a3.IsWhole)
  (a4 : Memref sig .tc .vmem S4096x256 .bf16) (h4 : a4.IsWhole) (a5 : Memref sig .tc .vmem S1024x256 .bf16) (h5 : a5.IsWhole)
  (a6 : Memref sig .tc .vmem S1024x256 .f32) (h6 : a6.IsWhole)
  (x0 : Vec F S4096x1024 .bf16) (x1 : Vec F S4096x256 .bf16) (xs : Vec F S1024x256 .f32)

theorem sout_A (hc0 : cond0_0 i) (hc1 : ¬cond0_1 i) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x256) hz, View.readCov_unit_zero (S := S1024x256) _ hz]
  simp only [View.readAt_eq_ld, h3.read_unread, h4.read_unread, View.ld_unit_zero (S := S4096x1024) hz, View.ld_unit_zero (S := S4096x256) hz]

theorem sout_B (hc0 : ¬cond0_0 i) (hc1 : cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S4096x1024) hz, View.ld_unit_zero (S := S4096x256) hz, View.ld_unit_zero (S := S1024x256) hz]

theorem out_B (hc0 : ¬cond0_0 i) (hc1 : cond0_1 i) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero (S := S1024x256) _ hz]
  simp only [View.readAt_eq_ld, h3.read_unread, h4.read_unread, h6.read_unread, View.ld_unit_zero (S := S4096x1024) hz, View.ld_unit_zero (S := S4096x256) hz, View.ld_unit_zero (S := S1024x256) hz]

end Body

/-! ## At the extended reals -/

theorem lhs0 (i : S1024x256.Idx) (q : dot_S4096x1024_S4096x256_S1024x256_0_0_1_1_n_n.contr.Idx) :
    (dot_S4096x1024_S4096x256_S1024x256_0_0_1_1_n_n.lhsIdx i q 0).val = (q ⟨0, by decide⟩).val :=
  dot_S4096x1024_S4096x256_S1024x256_0_0_1_1_n_n.lhsIdx_val_of_single rfl i q

theorem lhs1 (i : S1024x256.Idx) (q : dot_S4096x1024_S4096x256_S1024x256_0_0_1_1_n_n.contr.Idx) :
    (dot_S4096x1024_S4096x256_S1024x256_0_0_1_1_n_n.lhsIdx i q 1).val = (i 0).val := by
  unfold DotDims.lhsIdx
  rw [dif_neg (show ¬(1 : Fin S4096x1024.rank) ∈ dot_S4096x1024_S4096x256_S1024x256_0_0_1_1_n_n.lhsBatch by decide), dif_pos (show (1 : Fin S4096x1024.rank) ∈ dot_S4096x1024_S4096x256_S1024x256_0_0_1_1_n_n.lhsNonContracting by decide)]
  rfl

theorem rhs0 (i : S1024x256.Idx) (q : dot_S4096x1024_S4096x256_S1024x256_0_0_1_1_n_n.contr.Idx) :
    (dot_S4096x1024_S4096x256_S1024x256_0_0_1_1_n_n.rhsIdx i q 0).val = (q ⟨0, by decide⟩).val :=
  dot_S4096x1024_S4096x256_S1024x256_0_0_1_1_n_n.rhsIdx_val_of_single rfl i q

theorem rhs1 (i : S1024x256.Idx) (q : dot_S4096x1024_S4096x256_S1024x256_0_0_1_1_n_n.contr.Idx) :
    (dot_S4096x1024_S4096x256_S1024x256_0_0_1_1_n_n.rhsIdx i q 1).val = (i 1).val := by
  unfold DotDims.rhsIdx
  rw [dif_neg (show ¬(1 : Fin S4096x256.rank) ∈ dot_S4096x1024_S4096x256_S1024x256_0_0_1_1_n_n.rhsBatch by decide), dif_pos (show (1 : Fin S4096x256.rank) ∈ dot_S4096x1024_S4096x256_S1024x256_0_0_1_1_n_n.rhsNonContracting by decide)]
  rfl

/-- One block of rows' part of the product. -/
def part (x0 : Vec Ideal S4096x1024 .bf16) (x1 : Vec Ideal S4096x256 .bf16) (j : S1024x256.Idx) : EReal :=
  ∑ k : Fin 4096, x0 (ix2 k (j 0)) * x1 (ix2 k (j 1))

theorem pay2 (acc : Vec Ideal S1024x256 .f32) (x0 : Vec Ideal S4096x1024 .bf16) (x1 : Vec Ideal S4096x256 .bf16) (j : S1024x256.Idx) :
    k0_pay2 (F := Ideal) acc x0 x1 j = acc j + part x0 x1 j := by
  unfold k0_pay2
  rw [shapeCast_self, matmul_zero_eq_dotGeneral]
  show acc j + Host.dotGeneral (F := Ideal) (φ₁ := .bf16) (φ₂ := .bf16) dot_S4096x1024_S4096x256_S1024x256_0_0_1_1_n_n none x0 x1 j = _
  simp only [Host.dotGeneral]
  rw [Ideal.dotGeneral_apply, ← Equiv.sum_comp (ValueIdx.contrEquiv1 dot_S4096x1024_S4096x256_S1024x256_0_0_1_1_n_n 4096 rfl rfl).symm]
  unfold part
  refine congrArg (acc j + ·) (Finset.sum_congr rfl fun k _ => ?_)
  have hk := ValueIdx.contrEquiv1_symm_val dot_S4096x1024_S4096x256_S1024x256_0_0_1_1_n_n 4096 rfl rfl k
  have el : dot_S4096x1024_S4096x256_S1024x256_0_0_1_1_n_n.lhsIdx j ((ValueIdx.contrEquiv1 dot_S4096x1024_S4096x256_S1024x256_0_0_1_1_n_n 4096 rfl rfl).symm k) = ix2 k (j 0) := funext fun a => Fin.ext (by
    match a with
    | ⟨0, _⟩ => exact (lhs0 _ _).trans hk
    | ⟨1, _⟩ => exact lhs1 _ _)
  have er : dot_S4096x1024_S4096x256_S1024x256_0_0_1_1_n_n.rhsIdx j ((ValueIdx.contrEquiv1 dot_S4096x1024_S4096x256_S1024x256_0_0_1_1_n_n 4096 rfl rfl).symm k) = ix2 k (j 1) := funext fun a => Fin.ext (by
    match a with
    | ⟨0, _⟩ => exact (rhs0 _ _).trans hk
    | ⟨1, _⟩ => exact rhs1 _ _)
  rw [el, er]
  rfl

theorem pay1 (j : S1024x256.Idx) : k0_pay1 (F := Ideal) j = (0 : EReal) := by
  unfold k0_pay1
  rw [shapeCast_self]
  exact Ideal.ofBits_zero_f32

theorem pay3 (v : Vec Ideal S1024x256 .f32) (j : S1024x256.Idx) : k0_pay3 (F := Ideal) v j = v j := rfl

variable (m : (ℓ : Loc nD τ sig) → Buf (Elt Ideal) ℓ)

/-- What the carried scratch holds at the end of a run of points: the run's parts, added up. -/
theorem acc_eq (c : Dev nD) (t : Fin cfg0.N) (ht : t.val % 2 = 1) (j : S1024x256.Idx) :
    (outsAt0 m c t.val t.isLt).2 j = ∑ s : Fin 2, part (iblk m c 0 ⟨2 * (t.val / 2) + s.val, Pipeline.run_point_lt_of_flush t ht s⟩)
      (iblk m c 1 ⟨2 * (t.val / 2) + s.val, Pipeline.run_point_lt_of_flush t ht s⟩) j := by
  have e := Pipeline.eq_sum_fin_of_reset_step_apply_of_flush (M := EReal) (fun n h => (outsAt0 m c n h).2) 2 (fun _ => (0 : EReal))
    (fun t j => part (iblk m c 0 t) (iblk m c 1 t) j)
    (fun t h j => by
      rw [outsAt0_A m c t h (by omega)]
      dsimp only
      rw [sout_A, pay2, pay1])
    (fun t h j => by
      rw [outsAt0_B m c t h (by omega)]
      dsimp only
      rw [sout_B, pay2])
    t ht j
  rw [zero_add] at e
  exact e

/-- What is written back there: the same, in the result's type. -/
theorem out_eq (c : Dev nD) (t : Fin cfg0.N) (ht : t.val % 2 = 1) (j : S1024x256.Idx) :
    (outsAt0 m c t.val t.isLt).1 j = (outsAt0 m c t.val t.isLt).2 j := by
  rw [outsAt0_B m c t (by omega) ht]
  dsimp only
  rw [out_B, sout_B]
  rfl

theorem idx : ∀ t : Fin cfg0.N, win0_0.index t (0 : Fin 2) = t.val % 2 ∧ win0_0.index t (1 : Fin 2) = t.val / 2
    ∧ win0_1.index t (0 : Fin 2) = t.val % 2 ∧ win0_1.index t (1 : Fin 2) = t.val / 2 % 1 :=
  (by decide +kernel : ∀ t : Fin grid0.N, _)

/-- The product that the result is. -/
def prod (x : S8192x1024.Idx → EReal) (ct : S8192x256.Idx → EReal) (i : S1024x256.Idx) : EReal :=
  ∑ l : Fin 8192, x (ix2 l (i 0)) * ct (ix2 l (i 1))

theorem x_at (c : Dev nD) (t : Fin cfg0.N) (k : Fin 4096) (p : Fin 1024) (l : Fin 8192) (r : Fin 1024)
    (hl : l.val = t.val % 2 * 4096 + k.val) (hr : r.val = t.val / 2 * 1024 + p.val) :
    iblk m c 0 t (ix2 k p) = m ((c : Thread nD τ).loc main_arg1) (ix2 l r) := by
  obtain ⟨e0, e1, e2, e3⟩ := idx t
  unfold iblk
  rw [View.read_apply]
  show V m c main_arg1 _ = m (c.tc.loc main_arg1) _
  unfold V
  congr 1
  funext a
  apply Fin.ext
  match a with
  | ⟨0, _⟩ => show win0_0.index t 0 * 4096 + 1 * k.val = l.val; rw [e0]; omega
  | ⟨1, _⟩ => show win0_0.index t 1 * 1024 + 1 * p.val = r.val; rw [e1]; omega

theorem ct_at (c : Dev nD) (t : Fin cfg0.N) (k : Fin 4096) (q : Fin 256) (l : Fin 8192) (r : Fin 256)
    (hl : l.val = t.val % 2 * 4096 + k.val) (hr : r.val = t.val / 2 % 1 * 256 + q.val) :
    iblk m c 1 t (ix2 k q) = m ((c : Thread nD τ).loc main_arg0) (ix2 l r) := by
  obtain ⟨e0, e1, e2, e3⟩ := idx t
  unfold iblk
  rw [View.read_apply]
  show V m c main_arg0 _ = m (c.tc.loc main_arg0) _
  unfold V
  congr 1
  funext a
  apply Fin.ext
  match a with
  | ⟨0, _⟩ => show win0_1.index t 0 * 4096 + 1 * k.val = l.val; rw [e2]; omega
  | ⟨1, _⟩ => show win0_1.index t 1 * 256 + 1 * q.val = r.val; rw [e3]; omega

theorem final (c : Dev nD) (i : S1024x256.Idx) :
    Value.G2 m c i = prod (m ((c : Thread nD τ).loc main_arg1)) (m ((c : Thread nD τ).loc main_arg0)) i := by
  have hi0 : (i 0).val < 1024 := (i 0).isLt
  have hi1 : (i 1).val < 256 := (i 1).isLt
  have hN : cfg0.N = 2 := N_0
  have hp : Value.pt2Of i < cfg0.N := by rw [hN]; show 2 * (1 * ((i 0).val / 1024 - 0) + 1 * ((i 1).val / 256 - 0)) + 1 < 2; omega
  have ht : Value.pt2Of i % 2 = 1 := by show (2 * Value.run2Of i + 1) % 2 = 1; omega
  have hd : Value.pt2Of i / 2 = 1 * ((i 0).val / 1024) + (i 1).val / 256 := by
    show (2 * (1 * ((i 0).val / 1024 - 0) + 1 * ((i 1).val / 256 - 0)) + 1) / 2 = _; omega
  unfold Value.G2
  rw [dif_pos hp, ← Value.outsAt0_sweep m c (Value.pt2Of i) hp, out_eq m c ⟨_, hp⟩ ht, acc_eq m c ⟨_, hp⟩ ht]
  unfold prod part
  refine Fin.sum_mul_add_congr fun s k hl => ?_
  have hs := s.isLt
  refine congrArg₂ (· * ·) (x_at m c _ k _ ⟨s.val * 4096 + k.val, hl⟩ (i 0) ?_ ?_) (ct_at m c _ k _ ⟨s.val * 4096 + k.val, hl⟩ (i 1) ?_ ?_)
  · show s.val * 4096 + k.val = (2 * (Value.pt2Of i / 2) + s.val) % 2 * 4096 + k.val
    omega
  · show (i 0).val = (2 * (Value.pt2Of i / 2) + s.val) / 2 * 1024 + (i 0).val % 1024
    rw [hd]; omega
  · show s.val * 4096 + k.val = (2 * (Value.pt2Of i / 2) + s.val) % 2 * 4096 + k.val
    omega
  · show (i 1).val = (2 * (Value.pt2Of i / 2) + s.val) / 2 % 1 * 256 + (i 1).val % 256
    rw [hd]; omega

theorem ref (x0 : (⟨S8192x256, .bf16⟩ : BufTy).Contents (Elt Ideal)) (x1 : (⟨S8192x1024, .bf16⟩ : BufTy).Contents (Elt Ideal)) (i : S1024x256.Idx) :
    Cert.Reference8Ideal.Read.val_main_v7 (F := Ideal) x0 x1 i = prod x1 x0 i := by
  rw [Cert.Reference8Ideal.Read.val_main_v7_apply]
  show Cert.Reference8Ideal.Read.val_main_v5 (F := Ideal) x0 x1 _ = _
  rw [Cert.Reference8Ideal.Read.val_main_v5_apply, Cert.Reference8Ideal.Read.val_main_v4_apply]
  unfold prod
  refine Finset.sum_congr rfl fun k _ => ?_
  refine congrArg₂ (· * ·) ?_ ?_
  · show x1 _ = x1 _
    refine congrArg x1 (funext fun a => Fin.ext ?_)
    match a with
    | ⟨0, _⟩ => rfl
    | ⟨1, _⟩ => rfl
  · show x0 _ = x0 _
    refine congrArg x0 (funext fun a => Fin.ext ?_)
    match a with
    | ⟨0, _⟩ => rfl
    | ⟨1, _⟩ => rfl

theorem algebraic : Cert.algebraic_Kernel8Ideal_Reference8Ideal
    (hKernel8Ideal := Cert.Kernel8Ideal.Gen.facts) (hReference8Ideal := Cert.Reference8Ideal.Gen.facts) := by
  intro m g m' g' _ hargs
  refine ⟨fun c => fun i => prod (m ((c : Thread nD τ).loc main_arg1)) (m ((c : Thread nD τ).loc main_arg0)) i, ?_, ?_⟩
  · exact (θ_run _ _ _).mono (fun r h c => ⟨(h c).1.trans (funext fun i => final m c i), (h c).2⟩) (Value.run (F := Ideal) m g)
  · refine (θ_run _ _ _).mono (fun r h c => ⟨(h c).1.trans ((Cert.Reference8Ideal.Read.val_main_v7_eq _ _).trans (funext fun i => ?_)), (h c).2⟩)
      (Cert.Reference8Ideal.Value.run (F := Ideal) m' g')
    obtain ⟨e0, e1⟩ := hargs c
    refine (ref _ _ i).trans ?_
    exact congrArg₂ (fun x y => prod y x i) e0 e1

/-- The reference's run leaves its arguments and its semaphores. -/
theorem ref_frame : Cert.quiescent_Reference8Ideal (hReference8Ideal := Cert.Reference8Ideal.Gen.facts) :=
  fun m ρ _ => (θ_run _ _ _).mono (fun r h => ⟨fun c => (h c).2, Idealize.ShloMosaic.sem_eq_zero_of_no_sems (by decide) r.2⟩)
      (Cert.Reference8Ideal.Value.run (F := Ideal) m ρ)

end Cert.Grad8

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame.RunB
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.RunB
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Algebraic
public import proofs.«01_k».proof.Proof.FfnAlgebraic
public import proofs.«01_k».proof.Proof.FfnFrameBits
public import proofs.«01_k».proof.Proof.Grad3
public import proofs.«01_k».proof.Proof.Grad4
public import proofs.«01_k».proof.Proof.Grad5
public import proofs.«01_k».proof.Proof.Grad6
public import proofs.«01_k».proof.Proof.Grad7
public import proofs.«01_k».proof.Proof.Adam9Run
public import proofs.«01_k».proof.Proof.Grad8
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    fun m ρ _ => (θ_run _ _ _).mono (fun r h => ⟨fun c => (h c).2.2.2.2.2.2.2, Idealize.ShloMosaic.sem_eq_zero_of_no_sems (by decide) r.2⟩)
      (Cert.ReferenceIdeal.Value.run (F := Ideal) m ρ),
    fun m ρ _ => (θ_run _ _ _).mono (fun r h => ⟨fun c => (h c).2.2.2.2.2.2.2, Idealize.ShloMosaic.sem_eq_zero_of_no_sems (by decide) r.2⟩)
      (Cert.ReferenceIdeal.Value.run (F := Ideal) m ρ),
    fun m ρ _ => Cert.FfnFrameBits.frame m ρ, fun m ρ _ => Cert.Kernel2Ideal.Gen.frame m ρ, fun m ρ _ => Cert.Kernel2Ideal.Gen.frame m ρ,
    fun m ρ _ => (θ_run _ _ _).mono (fun r h => ⟨fun c => (h c).2.2.2.2.2.2.2.2.2.2.2.2.2, Idealize.ShloMosaic.sem_eq_zero_of_no_sems (by decide) r.2⟩)
      (Cert.Reference2Ideal.Value.run (F := Ideal) m ρ),
    fun m ρ _ => (θ_run _ _ _).mono (fun r h => ⟨fun c => (h c).2.2.2.2.2.2.2.2.2.2.2.2.2, Idealize.ShloMosaic.sem_eq_zero_of_no_sems (by decide) r.2⟩)
      (Cert.Reference2Ideal.Value.run (F := Ideal) m ρ),
    fun m ρ _ => Cert.Kernel3.Gen.frame m ρ, fun m ρ _ => Cert.Kernel3Ideal.Gen.frame m ρ, Cert.Grad3.ref_frame,
    fun m ρ _ => Cert.Kernel4.Gen.frame m ρ, fun m ρ _ => Cert.Kernel4Ideal.Gen.frame m ρ, Cert.Grad4.ref_frame,
    fun m ρ _ => Cert.Kernel5.Gen.frame m ρ, fun m ρ _ => Cert.Kernel5Ideal.Gen.frame m ρ, Cert.Grad5.ref_frame,
    fun m ρ _ => Cert.Kernel6.Gen.frame m ρ, fun m ρ _ => Cert.Kernel6Ideal.Gen.frame m ρ, Cert.Grad6.ref_frame,
    fun m ρ _ => Cert.Kernel7.Gen.frame m ρ, fun m ρ _ => Cert.Kernel7Ideal.Gen.frame m ρ, Cert.Grad7.ref_frame,
    fun m ρ _ => Cert.Kernel8.Gen.frame m ρ, fun m ρ _ => Cert.Kernel8Ideal.Gen.frame m ρ, Cert.Grad8.ref_frame,
    fun m ρ _ => Cert.Kernel9.Gen.frame m ρ (Cert.Adam9Bits.ok m), fun m ρ _ => Cert.Kernel9Ideal.Gen.frame m ρ (Cert.Adam9.ok m), Cert.Adam9.ref_frame,
    ⟨IdealRules.named_const.statement Cert.KernelIdeal.κ "cubic" .f32 0x3D372713#32 ((8943 / 200000 : ℝ) : EReal) rfl,
      IdealRules.named_const.statement Cert.KernelIdeal.κ "cubic3" .f32 0x3E095D4F#32 ((26829 / 200000 : ℝ) : EReal) rfl⟩,
    Cert.Algebraic.algebraic, trivial, Cert.FfnAlgebraic.algebraic,
    trivial, Cert.Grad3.algebraic, trivial, Cert.Grad4.algebraic, trivial, Cert.Grad5.algebraic, trivial, Cert.Grad6.algebraic, trivial, Cert.Grad7.algebraic, trivial, Cert.Grad8.algebraic,
    trivial, Cert.Adam9.algebraic⟩

end Cert.Proof

end
